-- ==== Defs.lean ====
def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguReferenceIdeal (m : (ℓ : Loc Cert.SguReferenceIdeal.nD Cert.SguReferenceIdeal.τ Cert.SguReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_Mlstm (m : (ℓ : Loc Cert.Mlstm.nD Cert.Mlstm.τ Cert.Mlstm.sig) → Buf (Elt Bits) ℓ) : Prop :=
  True

def Pre_MlstmIdeal (m : (ℓ : Loc Cert.MlstmIdeal.nD Cert.MlstmIdeal.τ Cert.MlstmIdeal.sig) → Buf (Elt Ideal) ℓ) : Prop :=
  True

def Pre_MlstmIdeal_finite_mlstm [hPre_finite_mlstm : Cert.Pre_finite_mlstm.Facts] (m : (ℓ : Loc Cert.MlstmIdeal.nD Cert.MlstmIdeal.τ Cert.MlstmIdeal.sig) → Buf (Elt Ideal) ℓ) : Prop :=
  ∀ c : Dev Cert.MlstmIdeal.nD,
    (Cert.Pre_finite_mlstm.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3)) (m ((c.tc : Thread Cert.MlstmIdeal.nD Cert.MlstmIdeal.τ).loc Cert.MlstmIdeal.main_arg4)) (m ((c.tc : Thread Cert.MlstmIdeal.nD Cert.MlstmIdeal.τ).loc Cert.MlstmIdeal.main_arg5))).1 = (fun _ => 1#1)
    ∧ (Cert.Pre_finite_mlstm.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3)) (m ((c.tc : Thread Cert.MlstmIdeal.nD Cert.MlstmIdeal.τ).loc Cert.MlstmIdeal.main_arg4)) (m ((c.tc : Thread Cert.MlstmIdeal.nD Cert.MlstmIdeal.τ).loc Cert.MlstmIdeal.main_arg5))).2.1 = (fun _ => 1#1)
    ∧ (Cert.Pre_finite_mlstm.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3)) (m ((c.tc : Thread Cert.MlstmIdeal.nD Cert.MlstmIdeal.τ).loc Cert.MlstmIdeal.main_arg4)) (m ((c.tc : Thread Cert.MlstmIdeal.nD Cert.MlstmIdeal.τ).loc Cert.MlstmIdeal.main_arg5))).2.2.1 = (fun _ => 1#1)
    ∧ (Cert.Pre_finite_mlstm.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3)) (m ((c.tc : Thread Cert.MlstmIdeal.nD Cert.MlstmIdeal.τ).loc Cert.MlstmIdeal.main_arg4)) (m ((c.tc : Thread Cert.MlstmIdeal.nD Cert.MlstmIdeal.τ).loc Cert.MlstmIdeal.main_arg5))).2.2.2.1 = (fun _ => 1#1)
    ∧ (Cert.Pre_finite_mlstm.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3)) (m ((c.tc : Thread Cert.MlstmIdeal.nD Cert.MlstmIdeal.τ).loc Cert.MlstmIdeal.main_arg4)) (m ((c.tc : Thread Cert.MlstmIdeal.nD Cert.MlstmIdeal.τ).loc Cert.MlstmIdeal.main_arg5))).2.2.2.2 = (fun _ => 1#1)

def Pre_MlstmReferenceIdeal (m : (ℓ : Loc Cert.MlstmReferenceIdeal.nD Cert.MlstmReferenceIdeal.τ Cert.MlstmReferenceIdeal.sig) → Buf (Elt Ideal) ℓ) : Prop :=
  True

def Pre_MlstmReferenceIdeal_finite_mlstm [hPre_finite_mlstm : Cert.Pre_finite_mlstm.Facts] (m : (ℓ : Loc Cert.MlstmReferenceIdeal.nD Cert.MlstmReferenceIdeal.τ Cert.MlstmReferenceIdeal.sig) → Buf (Elt Ideal) ℓ) : Prop :=
  ∀ c : Dev Cert.MlstmReferenceIdeal.nD,
    (Cert.Pre_finite_mlstm.fn (F := Ideal) (m ((c.tc : Thread Cert.MlstmReferenceIdeal.nD Cert.MlstmReferenceIdeal.τ).loc Cert.MlstmReferenceIdeal.main_arg0)) (m ((c.tc : Thread Cert.MlstmReferenceIdeal.nD Cert.MlstmReferenceIdeal.τ).loc Cert.MlstmReferenceIdeal.main_arg1)) (m ((c.tc : Thread Cert.MlstmReferenceIdeal.nD Cert.MlstmReferenceIdeal.τ).loc Cert.MlstmReferenceIdeal.main_arg2)) (m ((c.tc : Thread Cert.MlstmReferenceIdeal.nD Cert.MlstmReferenceIdeal.τ).loc Cert.MlstmReferenceIdeal.main_arg3)) (m ((c.tc : Thread Cert.MlstmReferenceIdeal.nD Cert.MlstmReferenceIdeal.τ).loc Cert.MlstmReferenceIdeal.main_arg4)) (m ((c.tc : Thread Cert.MlstmReferenceIdeal.nD Cert.MlstmReferenceIdeal.τ).loc Cert.MlstmReferenceIdeal.main_arg5))).1 = (fun _ => 1#1)
    ∧ (Cert.Pre_finite_mlstm.fn (F := Ideal) (m ((c.tc : Thread Cert.MlstmReferenceIdeal.nD Cert.MlstmReferenceIdeal.τ).loc Cert.MlstmReferenceIdeal.main_arg0)) (m ((c.tc : Thread Cert.MlstmReferenceIdeal.nD Cert.MlstmReferenceIdeal.τ).loc Cert.MlstmReferenceIdeal.main_arg1)) (m ((c.tc : Thread Cert.MlstmReferenceIdeal.nD Cert.MlstmReferenceIdeal.τ).loc Cert.MlstmReferenceIdeal.main_arg2)) (m ((c.tc : Thread Cert.MlstmReferenceIdeal.nD Cert.MlstmReferenceIdeal.τ).loc Cert.MlstmReferenceIdeal.main_arg3)) (m ((c.tc : Thread Cert.MlstmReferenceIdeal.nD Cert.MlstmReferenceIdeal.τ).loc Cert.MlstmReferenceIdeal.main_arg4)) (m ((c.tc : Thread Cert.MlstmReferenceIdeal.nD Cert.MlstmReferenceIdeal.τ).loc Cert.MlstmReferenceIdeal.main_arg5))).2.1 = (fun _ => 1#1)
    ∧ (Cert.Pre_finite_mlstm.fn (F := Ideal) (m ((c.tc : Thread Cert.MlstmReferenceIdeal.nD Cert.MlstmReferenceIdeal.τ).loc Cert.MlstmReferenceIdeal.main_arg0)) (m ((c.tc : Thread Cert.MlstmReferenceIdeal.nD Cert.MlstmReferenceIdeal.τ).loc Cert.MlstmReferenceIdeal.main_arg1)) (m ((c.tc : Thread Cert.MlstmReferenceIdeal.nD Cert.MlstmReferenceIdeal.τ).loc Cert.MlstmReferenceIdeal.main_arg2)) (m ((c.tc : Thread Cert.MlstmReferenceIdeal.nD Cert.MlstmReferenceIdeal.τ).loc Cert.MlstmReferenceIdeal.main_arg3)) (m ((c.tc : Thread Cert.MlstmReferenceIdeal.nD Cert.MlstmReferenceIdeal.τ).loc Cert.MlstmReferenceIdeal.main_arg4)) (m ((c.tc : Thread Cert.MlstmReferenceIdeal.nD Cert.MlstmReferenceIdeal.τ).loc Cert.MlstmReferenceIdeal.main_arg5))).2.2.1 = (fun _ => 1#1)
    ∧ (Cert.Pre_finite_mlstm.fn (F := Ideal) (m ((c.tc : Thread Cert.MlstmReferenceIdeal.nD Cert.MlstmReferenceIdeal.τ).loc Cert.MlstmReferenceIdeal.main_arg0)) (m ((c.tc : Thread Cert.MlstmReferenceIdeal.nD Cert.MlstmReferenceIdeal.τ).loc Cert.MlstmReferenceIdeal.main_arg1)) (m ((c.tc : Thread Cert.MlstmReferenceIdeal.nD Cert.MlstmReferenceIdeal.τ).loc Cert.MlstmReferenceIdeal.main_arg2)) (m ((c.tc : Thread Cert.MlstmReferenceIdeal.nD Cert.MlstmReferenceIdeal.τ).loc Cert.MlstmReferenceIdeal.main_arg3)) (m ((c.tc : Thread Cert.MlstmReferenceIdeal.nD Cert.MlstmReferenceIdeal.τ).loc Cert.MlstmReferenceIdeal.main_arg4)) (m ((c.tc : Thread Cert.MlstmReferenceIdeal.nD Cert.MlstmReferenceIdeal.τ).loc Cert.MlstmReferenceIdeal.main_arg5))).2.2.2.1 = (fun _ => 1#1)
    ∧ (Cert.Pre_finite_mlstm.fn (F := Ideal) (m ((c.tc : Thread Cert.MlstmReferenceIdeal.nD Cert.MlstmReferenceIdeal.τ).loc Cert.MlstmReferenceIdeal.main_arg0)) (m ((c.tc : Thread Cert.MlstmReferenceIdeal.nD Cert.MlstmReferenceIdeal.τ).loc Cert.MlstmReferenceIdeal.main_arg1)) (m ((c.tc : Thread Cert.MlstmReferenceIdeal.nD Cert.MlstmReferenceIdeal.τ).loc Cert.MlstmReferenceIdeal.main_arg2)) (m ((c.tc : Thread Cert.MlstmReferenceIdeal.nD Cert.MlstmReferenceIdeal.τ).loc Cert.MlstmReferenceIdeal.main_arg3)) (m ((c.tc : Thread Cert.MlstmReferenceIdeal.nD Cert.MlstmReferenceIdeal.τ).loc Cert.MlstmReferenceIdeal.main_arg4)) (m ((c.tc : Thread Cert.MlstmReferenceIdeal.nD Cert.MlstmReferenceIdeal.τ).loc Cert.MlstmReferenceIdeal.main_arg5))).2.2.2.2 = (fun _ => 1#1)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ r.2.sem = fun _ => 0)

def quiescent_SguReferenceIdeal [hSguReferenceIdeal : Cert.SguReferenceIdeal.Facts] : Prop :=
  ∀ (m : (ℓ : Loc Cert.SguReferenceIdeal.nD Cert.SguReferenceIdeal.τ Cert.SguReferenceIdeal.sig) → Buf (Elt Ideal) ℓ) (g : Dev Cert.SguReferenceIdeal.nD → PrngReg), Pre_SguReferenceIdeal m →
    θ_run (Cert.SguReferenceIdeal.defs (F := Ideal)) (onTc (τ := Cert.SguReferenceIdeal.τ) (Cert.SguReferenceIdeal.main (F := Ideal))) ⟨m, fun _ => 0, g⟩ (fun r => (∀ c : Dev Cert.SguReferenceIdeal.nD,
      r.2.mem ((c.tc : Thread Cert.SguReferenceIdeal.nD Cert.SguReferenceIdeal.τ).loc Cert.SguReferenceIdeal.main_arg0) = m ((c.tc : Thread Cert.SguReferenceIdeal.nD Cert.SguReferenceIdeal.τ).loc Cert.SguReferenceIdeal.main_arg0)
      ∧ r.2.mem ((c.tc : Thread Cert.SguReferenceIdeal.nD Cert.SguReferenceIdeal.τ).loc Cert.SguReferenceIdeal.main_arg1) = m ((c.tc : Thread Cert.SguReferenceIdeal.nD Cert.SguReferenceIdeal.τ).loc Cert.SguReferenceIdeal.main_arg1)
      ∧ r.2.mem ((c.tc : Thread Cert.SguReferenceIdeal.nD Cert.SguReferenceIdeal.τ).loc Cert.SguReferenceIdeal.main_arg2) = m ((c.tc : Thread Cert.SguReferenceIdeal.nD Cert.SguReferenceIdeal.τ).loc Cert.SguReferenceIdeal.main_arg2)
      ∧ r.2.mem ((c.tc : Thread Cert.SguReferenceIdeal.nD Cert.SguReferenceIdeal.τ).loc Cert.SguReferenceIdeal.main_arg3) = m ((c.tc : Thread Cert.SguReferenceIdeal.nD Cert.SguReferenceIdeal.τ).loc Cert.SguReferenceIdeal.main_arg3)
      ∧ r.2.mem ((c.tc : Thread Cert.SguReferenceIdeal.nD Cert.SguReferenceIdeal.τ).loc Cert.SguReferenceIdeal.main_arg4) = m ((c.tc : Thread Cert.SguReferenceIdeal.nD Cert.SguReferenceIdeal.τ).loc Cert.SguReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2))
      ∧ r.2.sem = fun _ => 0)

def quiescent_Mlstm [hMlstm : Cert.Mlstm.Facts] : Prop :=
  ∀ (m : (ℓ : Loc Cert.Mlstm.nD Cert.Mlstm.τ Cert.Mlstm.sig) → Buf (Elt Bits) ℓ) (g : Dev Cert.Mlstm.nD → PrngReg), Pre_Mlstm m →
    θ_run (Cert.Mlstm.defs (F := Bits)) (onTc (τ := Cert.Mlstm.τ) (Cert.Mlstm.main (F := Bits))) ⟨m, fun _ => 0, g⟩ (fun r => (∀ c : Dev Cert.Mlstm.nD,
      r.2.mem ((c.tc : Thread Cert.Mlstm.nD Cert.Mlstm.τ).loc Cert.Mlstm.main_arg0) = m ((c.tc : Thread Cert.Mlstm.nD Cert.Mlstm.τ).loc Cert.Mlstm.main_arg0)
      ∧ r.2.mem ((c.tc : Thread Cert.Mlstm.nD Cert.Mlstm.τ).loc Cert.Mlstm.main_arg1) = m ((c.tc : Thread Cert.Mlstm.nD Cert.Mlstm.τ).loc Cert.Mlstm.main_arg1)
      ∧ r.2.mem ((c.tc : Thread Cert.Mlstm.nD Cert.Mlstm.τ).loc Cert.Mlstm.main_arg2) = m ((c.tc : Thread Cert.Mlstm.nD Cert.Mlstm.τ).loc Cert.Mlstm.main_arg2)
      ∧ r.2.mem ((c.tc : Thread Cert.Mlstm.nD Cert.Mlstm.τ).loc Cert.Mlstm.main_arg3) = m ((c.tc : Thread Cert.Mlstm.nD Cert.Mlstm.τ).loc Cert.Mlstm.main_arg3)
      ∧ r.2.mem ((c.tc : Thread Cert.Mlstm.nD Cert.Mlstm.τ).loc Cert.Mlstm.main_arg4) = m ((c.tc : Thread Cert.Mlstm.nD Cert.Mlstm.τ).loc Cert.Mlstm.main_arg4)
      ∧ r.2.mem ((c.tc : Thread Cert.Mlstm.nD Cert.Mlstm.τ).loc Cert.Mlstm.main_arg5) = m ((c.tc : Thread Cert.Mlstm.nD Cert.Mlstm.τ).loc Cert.Mlstm.main_arg5))
      ∧ r.2.sem = fun _ => 0)

def quiescent_MlstmIdeal [hMlstmIdeal : Cert.MlstmIdeal.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
      ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
      ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5))
      ∧ r.2.sem = fun _ => 0)

def quiescent_MlstmIdeal_pre_finite_mlstm [hMlstmIdeal : Cert.MlstmIdeal.Facts] [hPre_finite_mlstm : Cert.Pre_finite_mlstm.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal_finite_mlstm m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
      ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
      ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5))
      ∧ r.2.sem = fun _ => 0)

def quiescent_MlstmReferenceIdeal [hMlstmReferenceIdeal : Cert.MlstmReferenceIdeal.Facts] : Prop :=
  ∀ (m : (ℓ : Loc Cert.MlstmReferenceIdeal.nD Cert.MlstmReferenceIdeal.τ Cert.MlstmReferenceIdeal.sig) → Buf (Elt Ideal) ℓ) (g : Dev Cert.MlstmReferenceIdeal.nD → PrngReg), Pre_MlstmReferenceIdeal m →
    θ_run (Cert.MlstmReferenceIdeal.defs (F := Ideal)) (onTc (τ := Cert.MlstmReferenceIdeal.τ) (Cert.MlstmReferenceIdeal.main (F := Ideal))) ⟨m, fun _ => 0, g⟩ (fun r => (∀ c : Dev Cert.MlstmReferenceIdeal.nD,
      r.2.mem ((c.tc : Thread Cert.MlstmReferenceIdeal.nD Cert.MlstmReferenceIdeal.τ).loc Cert.MlstmReferenceIdeal.main_arg0) = m ((c.tc : Thread Cert.MlstmReferenceIdeal.nD Cert.MlstmReferenceIdeal.τ).loc Cert.MlstmReferenceIdeal.main_arg0)
      ∧ r.2.mem ((c.tc : Thread Cert.MlstmReferenceIdeal.nD Cert.MlstmReferenceIdeal.τ).loc Cert.MlstmReferenceIdeal.main_arg1) = m ((c.tc : Thread Cert.MlstmReferenceIdeal.nD Cert.MlstmReferenceIdeal.τ).loc Cert.MlstmReferenceIdeal.main_arg1)
      ∧ r.2.mem ((c.tc : Thread Cert.MlstmReferenceIdeal.nD Cert.MlstmReferenceIdeal.τ).loc Cert.MlstmReferenceIdeal.main_arg2) = m ((c.tc : Thread Cert.MlstmReferenceIdeal.nD Cert.MlstmReferenceIdeal.τ).loc Cert.MlstmReferenceIdeal.main_arg2)
      ∧ r.2.mem ((c.tc : Thread Cert.MlstmReferenceIdeal.nD Cert.MlstmReferenceIdeal.τ).loc Cert.MlstmReferenceIdeal.main_arg3) = m ((c.tc : Thread Cert.MlstmReferenceIdeal.nD Cert.MlstmReferenceIdeal.τ).loc Cert.MlstmReferenceIdeal.main_arg3)
      ∧ r.2.mem ((c.tc : Thread Cert.MlstmReferenceIdeal.nD Cert.MlstmReferenceIdeal.τ).loc Cert.MlstmReferenceIdeal.main_arg4) = m ((c.tc : Thread Cert.MlstmReferenceIdeal.nD Cert.MlstmReferenceIdeal.τ).loc Cert.MlstmReferenceIdeal.main_arg4)
      ∧ r.2.mem ((c.tc : Thread Cert.MlstmReferenceIdeal.nD Cert.MlstmReferenceIdeal.τ).loc Cert.MlstmReferenceIdeal.main_arg5) = m ((c.tc : Thread Cert.MlstmReferenceIdeal.nD Cert.MlstmReferenceIdeal.τ).loc Cert.MlstmReferenceIdeal.main_arg5))
      ∧ r.2.sem = fun _ => 0)

def quiescent_MlstmReferenceIdeal_pre_finite_mlstm [hMlstmReferenceIdeal : Cert.MlstmReferenceIdeal.Facts] [hPre_finite_mlstm : Cert.Pre_finite_mlstm.Facts] : Prop :=
  ∀ (m : (ℓ : Loc Cert.MlstmReferenceIdeal.nD Cert.MlstmReferenceIdeal.τ Cert.MlstmReferenceIdeal.sig) → Buf (Elt Ideal) ℓ) (g : Dev Cert.MlstmReferenceIdeal.nD → PrngReg), Pre_MlstmReferenceIdeal_finite_mlstm m →
    θ_run (Cert.MlstmReferenceIdeal.defs (F := Ideal)) (onTc (τ := Cert.MlstmReferenceIdeal.τ) (Cert.MlstmReferenceIdeal.main (F := Ideal))) ⟨m, fun _ => 0, g⟩ (fun r => (∀ c : Dev Cert.MlstmReferenceIdeal.nD,
      r.2.mem ((c.tc : Thread Cert.MlstmReferenceIdeal.nD Cert.MlstmReferenceIdeal.τ).loc Cert.MlstmReferenceIdeal.main_arg0) = m ((c.tc : Thread Cert.MlstmReferenceIdeal.nD Cert.MlstmReferenceIdeal.τ).loc Cert.MlstmReferenceIdeal.main_arg0)
      ∧ r.2.mem ((c.tc : Thread Cert.MlstmReferenceIdeal.nD Cert.MlstmReferenceIdeal.τ).loc Cert.MlstmReferenceIdeal.main_arg1) = m ((c.tc : Thread Cert.MlstmReferenceIdeal.nD Cert.MlstmReferenceIdeal.τ).loc Cert.MlstmReferenceIdeal.main_arg1)
      ∧ r.2.mem ((c.tc : Thread Cert.MlstmReferenceIdeal.nD Cert.MlstmReferenceIdeal.τ).loc Cert.MlstmReferenceIdeal.main_arg2) = m ((c.tc : Thread Cert.MlstmReferenceIdeal.nD Cert.MlstmReferenceIdeal.τ).loc Cert.MlstmReferenceIdeal.main_arg2)
      ∧ r.2.mem ((c.tc : Thread Cert.MlstmReferenceIdeal.nD Cert.MlstmReferenceIdeal.τ).loc Cert.MlstmReferenceIdeal.main_arg3) = m ((c.tc : Thread Cert.MlstmReferenceIdeal.nD Cert.MlstmReferenceIdeal.τ).loc Cert.MlstmReferenceIdeal.main_arg3)
      ∧ r.2.mem ((c.tc : Thread Cert.MlstmReferenceIdeal.nD Cert.MlstmReferenceIdeal.τ).loc Cert.MlstmReferenceIdeal.main_arg4) = m ((c.tc : Thread Cert.MlstmReferenceIdeal.nD Cert.MlstmReferenceIdeal.τ).loc Cert.MlstmReferenceIdeal.main_arg4)
      ∧ r.2.mem ((c.tc : Thread Cert.MlstmReferenceIdeal.nD Cert.MlstmReferenceIdeal.τ).loc Cert.MlstmReferenceIdeal.main_arg5) = m ((c.tc : Thread Cert.MlstmReferenceIdeal.nD Cert.MlstmReferenceIdeal.τ).loc Cert.MlstmReferenceIdeal.main_arg5))
      ∧ r.2.sem = fun _ => 0)

def preserves_Sgu_SguIdeal : Prop :=
  True

def algebraic_SguIdeal_SguReferenceIdeal [hSguIdeal : Cert.SguIdeal.Facts] [hSguReferenceIdeal : Cert.SguReferenceIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguReferenceIdeal.nD Cert.SguReferenceIdeal.τ Cert.SguReferenceIdeal.sig) → Buf (Elt Ideal) ℓ) (g' : Dev Cert.SguReferenceIdeal.nD → PrngReg), Pre_SguIdeal m →
    (∀ c : Dev Cert.SguIdeal.nD,
      m' ((c.tc : Thread Cert.SguReferenceIdeal.nD Cert.SguReferenceIdeal.τ).loc Cert.SguReferenceIdeal.main_arg0) = m ((c.tc : Thread Cert.SguIdeal.nD Cert.SguIdeal.τ).loc Cert.SguIdeal.main_arg0)
      ∧ m' ((c.tc : Thread Cert.SguReferenceIdeal.nD Cert.SguReferenceIdeal.τ).loc Cert.SguReferenceIdeal.main_arg1) = m ((c.tc : Thread Cert.SguIdeal.nD Cert.SguIdeal.τ).loc Cert.SguIdeal.main_arg1)
      ∧ m' ((c.tc : Thread Cert.SguReferenceIdeal.nD Cert.SguReferenceIdeal.τ).loc Cert.SguReferenceIdeal.main_arg2) = m ((c.tc : Thread Cert.SguIdeal.nD Cert.SguIdeal.τ).loc Cert.SguIdeal.main_arg2)
      ∧ m' ((c.tc : Thread Cert.SguReferenceIdeal.nD Cert.SguReferenceIdeal.τ).loc Cert.SguReferenceIdeal.main_arg3) = m ((c.tc : Thread Cert.SguIdeal.nD Cert.SguIdeal.τ).loc Cert.SguIdeal.main_arg3)
      ∧ m' ((c.tc : Thread Cert.SguReferenceIdeal.nD Cert.SguReferenceIdeal.τ).loc Cert.SguReferenceIdeal.main_arg4) = m ((c.tc : Thread Cert.SguIdeal.nD Cert.SguIdeal.τ).loc Cert.SguIdeal.main_arg4)) →
    ∃ (v0 : (c : Dev Cert.SguIdeal.nD) → Buf (Elt Ideal) ((c.tc : Thread Cert.SguIdeal.nD Cert.SguIdeal.τ).loc Cert.SguIdeal.main_v5)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v5) = v0 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ θ_run (Cert.SguReferenceIdeal.defs (F := Ideal)) (onTc (τ := Cert.SguReferenceIdeal.τ) (Cert.SguReferenceIdeal.main (F := Ideal))) ⟨m', fun _ => 0, g'⟩ (fun r => ∀ c : Dev Cert.SguReferenceIdeal.nD,
          r.2.mem ((c.tc : Thread Cert.SguReferenceIdeal.nD Cert.SguReferenceIdeal.τ).loc Cert.SguReferenceIdeal.main_v65) = v0 c
          ∧ r.2.mem ((c.tc : Thread Cert.SguReferenceIdeal.nD Cert.SguReferenceIdeal.τ).loc Cert.SguReferenceIdeal.main_arg0) = m' ((c.tc : Thread Cert.SguReferenceIdeal.nD Cert.SguReferenceIdeal.τ).loc Cert.SguReferenceIdeal.main_arg0)
          ∧ r.2.mem ((c.tc : Thread Cert.SguReferenceIdeal.nD Cert.SguReferenceIdeal.τ).loc Cert.SguReferenceIdeal.main_arg1) = m' ((c.tc : Thread Cert.SguReferenceIdeal.nD Cert.SguReferenceIdeal.τ).loc Cert.SguReferenceIdeal.main_arg1)
          ∧ r.2.mem ((c.tc : Thread Cert.SguReferenceIdeal.nD Cert.SguReferenceIdeal.τ).loc Cert.SguReferenceIdeal.main_arg2) = m' ((c.tc : Thread Cert.SguReferenceIdeal.nD Cert.SguReferenceIdeal.τ).loc Cert.SguReferenceIdeal.main_arg2)
          ∧ r.2.mem ((c.tc : Thread Cert.SguReferenceIdeal.nD Cert.SguReferenceIdeal.τ).loc Cert.SguReferenceIdeal.main_arg3) = m' ((c.tc : Thread Cert.SguReferenceIdeal.nD Cert.SguReferenceIdeal.τ).loc Cert.SguReferenceIdeal.main_arg3)
          ∧ r.2.mem ((c.tc : Thread Cert.SguReferenceIdeal.nD Cert.SguReferenceIdeal.τ).loc Cert.SguReferenceIdeal.main_arg4) = m' ((c.tc : Thread Cert.SguReferenceIdeal.nD Cert.SguReferenceIdeal.τ).loc Cert.SguReferenceIdeal.main_arg4))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v40) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v6) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)
      ∧ m' ((c.tc : Thread Cert.InReferenceIdeal.nD Cert.InReferenceIdeal.τ).loc Cert.InReferenceIdeal.main_arg2) = m ((c.tc : Thread Cert.InIdeal.nD Cert.InIdeal.τ).loc Cert.InIdeal.main_arg2)) →
    ∃ (v0 : (c : Dev Cert.InIdeal.nD) → Buf (Elt Ideal) ((c.tc : Thread Cert.InIdeal.nD Cert.InIdeal.τ).loc Cert.InIdeal.main_v1_0)) (v1 : (c : Dev Cert.InIdeal.nD) → Buf (Elt Ideal) ((c.tc : Thread Cert.InIdeal.nD Cert.InIdeal.τ).loc Cert.InIdeal.main_v1_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v1_0) = v0 c
          ∧ r.2.mem ((c.tc : Thread Cert.InIdeal.nD Cert.InIdeal.τ).loc Cert.InIdeal.main_v1_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v17) = v0 c
          ∧ r.2.mem ((c.tc : Thread Cert.InReferenceIdeal.nD Cert.InReferenceIdeal.τ).loc Cert.InReferenceIdeal.main_v18) = v1 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2))

def preserves_Mlstm_MlstmIdeal : Prop :=
  IdealRules.named_const.Statement Cert.MlstmIdeal.κ "log2e" .f32 0x3FB8AA3B#32 (((Real.log 2)⁻¹ : ℝ) : EReal)
  ∧ IdealRules.named_const.Statement Cert.MlstmIdeal.κ "ln2" .f32 0x3F317218#32 ((Real.log 2 : ℝ) : EReal)

def algebraic_MlstmIdeal_MlstmReferenceIdeal_pre_finite_mlstm [hMlstmIdeal : Cert.MlstmIdeal.Facts] [hMlstmReferenceIdeal : Cert.MlstmReferenceIdeal.Facts] [hPre_finite_mlstm : Cert.Pre_finite_mlstm.Facts] : Prop :=
  ∀ (m : (ℓ : Loc Cert.MlstmIdeal.nD Cert.MlstmIdeal.τ Cert.MlstmIdeal.sig) → Buf (Elt Ideal) ℓ) (g : Dev Cert.MlstmIdeal.nD → PrngReg)
    (m' : (ℓ : Loc Cert.MlstmReferenceIdeal.nD Cert.MlstmReferenceIdeal.τ Cert.MlstmReferenceIdeal.sig) → Buf (Elt Ideal) ℓ) (g' : Dev Cert.MlstmReferenceIdeal.nD → PrngReg), Pre_MlstmIdeal_finite_mlstm m →
    (∀ c : Dev Cert.MlstmIdeal.nD,
      m' ((c.tc : Thread Cert.MlstmReferenceIdeal.nD Cert.MlstmReferenceIdeal.τ).loc Cert.MlstmReferenceIdeal.main_arg0) = m ((c.tc : Thread Cert.MlstmIdeal.nD Cert.MlstmIdeal.τ).loc Cert.MlstmIdeal.main_arg0)
      ∧ m' ((c.tc : Thread Cert.MlstmReferenceIdeal.nD Cert.MlstmReferenceIdeal.τ).loc Cert.MlstmReferenceIdeal.main_arg1) = m ((c.tc : Thread Cert.MlstmIdeal.nD Cert.MlstmIdeal.τ).loc Cert.MlstmIdeal.main_arg1)
      ∧ m' ((c.tc : Thread Cert.MlstmReferenceIdeal.nD Cert.MlstmReferenceIdeal.τ).loc Cert.MlstmReferenceIdeal.main_arg2) = m ((c.tc : Thread Cert.MlstmIdeal.nD Cert.MlstmIdeal.τ).loc Cert.MlstmIdeal.main_arg2)
      ∧ m' ((c.tc : Thread Cert.MlstmReferenceIdeal.nD Cert.MlstmReferenceIdeal.τ).loc Cert.MlstmReferenceIdeal.main_arg3) = m ((c.tc : Thread Cert.MlstmIdeal.nD Cert.MlstmIdeal.τ).loc Cert.MlstmIdeal.main_arg3)
      ∧ m' ((c.tc : Thread Cert.MlstmReferenceIdeal.nD Cert.MlstmReferenceIdeal.τ).loc Cert.MlstmReferenceIdeal.main_arg4) = m ((c.tc : Thread Cert.MlstmIdeal.nD Cert.MlstmIdeal.τ).loc Cert.MlstmIdeal.main_arg4)
      ∧ m' ((c.tc : Thread Cert.MlstmReferenceIdeal.nD Cert.MlstmReferenceIdeal.τ).loc Cert.MlstmReferenceIdeal.main_arg5) = m ((c.tc : Thread Cert.MlstmIdeal.nD Cert.MlstmIdeal.τ).loc Cert.MlstmIdeal.main_arg5)) →
    ∃ (v0 : (c : Dev Cert.MlstmIdeal.nD) → Buf (Elt Ideal) ((c.tc : Thread Cert.MlstmIdeal.nD Cert.MlstmIdeal.τ).loc Cert.MlstmIdeal.main_v13)),
      θ_run (Cert.MlstmIdeal.defs (F := Ideal)) (onTc (τ := Cert.MlstmIdeal.τ) (Cert.MlstmIdeal.main (F := Ideal))) ⟨m, fun _ => 0, g⟩ (fun r => ∀ c : Dev Cert.MlstmIdeal.nD,
          r.2.mem ((c.tc : Thread Cert.MlstmIdeal.nD Cert.MlstmIdeal.τ).loc Cert.MlstmIdeal.main_v13) = v0 c
          ∧ r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
          ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
          ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
          ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
          ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
          ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5))
      ∧ θ_run (Cert.MlstmReferenceIdeal.defs (F := Ideal)) (onTc (τ := Cert.MlstmReferenceIdeal.τ) (Cert.MlstmReferenceIdeal.main (F := Ideal))) ⟨m', fun _ => 0, g'⟩ (fun r => ∀ c : Dev Cert.MlstmReferenceIdeal.nD,
          r.2.mem ((c.tc : Thread Cert.MlstmReferenceIdeal.nD Cert.MlstmReferenceIdeal.τ).loc Cert.MlstmReferenceIdeal.main_v123) = v0 c
          ∧ r.2.mem ((c.tc : Thread Cert.MlstmReferenceIdeal.nD Cert.MlstmReferenceIdeal.τ).loc Cert.MlstmReferenceIdeal.main_arg0) = m' ((c.tc : Thread Cert.MlstmReferenceIdeal.nD Cert.MlstmReferenceIdeal.τ).loc Cert.MlstmReferenceIdeal.main_arg0)
          ∧ r.2.mem ((c.tc : Thread Cert.MlstmReferenceIdeal.nD Cert.MlstmReferenceIdeal.τ).loc Cert.MlstmReferenceIdeal.main_arg1) = m' ((c.tc : Thread Cert.MlstmReferenceIdeal.nD Cert.MlstmReferenceIdeal.τ).loc Cert.MlstmReferenceIdeal.main_arg1)
          ∧ r.2.mem ((c.tc : Thread Cert.MlstmReferenceIdeal.nD Cert.MlstmReferenceIdeal.τ).loc Cert.MlstmReferenceIdeal.main_arg2) = m' ((c.tc : Thread Cert.MlstmReferenceIdeal.nD Cert.MlstmReferenceIdeal.τ).loc Cert.MlstmReferenceIdeal.main_arg2)
          ∧ r.2.mem ((c.tc : Thread Cert.MlstmReferenceIdeal.nD Cert.MlstmReferenceIdeal.τ).loc Cert.MlstmReferenceIdeal.main_arg3) = m' ((c.tc : Thread Cert.MlstmReferenceIdeal.nD Cert.MlstmReferenceIdeal.τ).loc Cert.MlstmReferenceIdeal.main_arg3)
          ∧ r.2.mem ((c.tc : Thread Cert.MlstmReferenceIdeal.nD Cert.MlstmReferenceIdeal.τ).loc Cert.MlstmReferenceIdeal.main_arg4) = m' ((c.tc : Thread Cert.MlstmReferenceIdeal.nD Cert.MlstmReferenceIdeal.τ).loc Cert.MlstmReferenceIdeal.main_arg4)
          ∧ r.2.mem ((c.tc : Thread Cert.MlstmReferenceIdeal.nD Cert.MlstmReferenceIdeal.τ).loc Cert.MlstmReferenceIdeal.main_arg5) = m' ((c.tc : Thread Cert.MlstmReferenceIdeal.nD Cert.MlstmReferenceIdeal.τ).loc Cert.MlstmReferenceIdeal.main_arg5))

def Claim : Prop :=
  ∃ (hSgu : Cert.Sgu.Facts) (hSguIdeal : Cert.SguIdeal.Facts) (hSguReferenceIdeal : Cert.SguReferenceIdeal.Facts) (hFfn : Cert.Ffn.Facts) (hFfnIdeal : Cert.FfnIdeal.Facts) (hFfnReferenceIdeal : Cert.FfnReferenceIdeal.Facts) (hOut : Cert.Out.Facts) (hOutIdeal : Cert.OutIdeal.Facts) (hOutReferenceIdeal : Cert.OutReferenceIdeal.Facts) (hIn : Cert.In.Facts) (hInIdeal : Cert.InIdeal.Facts) (hInReferenceIdeal : Cert.InReferenceIdeal.Facts) (hMlstm : Cert.Mlstm.Facts) (hMlstmIdeal : Cert.MlstmIdeal.Facts) (hMlstmReferenceIdeal : Cert.MlstmReferenceIdeal.Facts) (hPre_finite_mlstm : Cert.Pre_finite_mlstm.Facts),
    quiescent_Sgu (hSgu := hSgu)
    ∧ quiescent_SguIdeal (hSguIdeal := hSguIdeal)
    ∧ quiescent_SguReferenceIdeal (hSguReferenceIdeal := hSguReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Out (hOut := hOut)
    ∧ quiescent_OutIdeal (hOutIdeal := hOutIdeal)
    ∧ quiescent_OutReferenceIdeal (hOutReferenceIdeal := hOutReferenceIdeal)
    ∧ quiescent_In (hIn := hIn)
    ∧ quiescent_InIdeal (hInIdeal := hInIdeal)
    ∧ quiescent_InReferenceIdeal (hInReferenceIdeal := hInReferenceIdeal)
    ∧ quiescent_Mlstm (hMlstm := hMlstm)
    ∧ quiescent_MlstmIdeal (hMlstmIdeal := hMlstmIdeal)
    ∧ quiescent_MlstmIdeal_pre_finite_mlstm (hMlstmIdeal := hMlstmIdeal) (hPre_finite_mlstm := hPre_finite_mlstm)
    ∧ quiescent_MlstmReferenceIdeal (hMlstmReferenceIdeal := hMlstmReferenceIdeal)
    ∧ quiescent_MlstmReferenceIdeal_pre_finite_mlstm (hMlstmReferenceIdeal := hMlstmReferenceIdeal) (hPre_finite_mlstm := hPre_finite_mlstm)
    ∧ preserves_Sgu_SguIdeal
    ∧ algebraic_SguIdeal_SguReferenceIdeal (hSguIdeal := hSguIdeal) (hSguReferenceIdeal := hSguReferenceIdeal)
    ∧ preserves_Ffn_FfnIdeal
    ∧ algebraic_FfnIdeal_FfnReferenceIdeal (hFfnIdeal := hFfnIdeal) (hFfnReferenceIdeal := hFfnReferenceIdeal)
    ∧ preserves_Out_OutIdeal
    ∧ algebraic_OutIdeal_OutReferenceIdeal (hOutIdeal := hOutIdeal) (hOutReferenceIdeal := hOutReferenceIdeal)
    ∧ preserves_In_InIdeal
    ∧ algebraic_InIdeal_InReferenceIdeal (hInIdeal := hInIdeal) (hInReferenceIdeal := hInReferenceIdeal)
    ∧ preserves_Mlstm_MlstmIdeal
    ∧ algebraic_MlstmIdeal_MlstmReferenceIdeal_pre_finite_mlstm (hMlstmIdeal := hMlstmIdeal) (hMlstmReferenceIdeal := hMlstmReferenceIdeal) (hPre_finite_mlstm := hPre_finite_mlstm)
-- ==== Pre_finite_mlstm.lean ====
abbrev S16384x6144 : Shape := ⟨2, ![16384, 6144]⟩
abbrev S16384x256 : Shape := ⟨2, ![16384, 256]⟩
abbrev S4x768 : Shape := ⟨2, ![4, 768]⟩
abbrev S4 : Shape := ⟨1, ![4]⟩
abbrev S768 : Shape := ⟨1, ![768]⟩
abbrev S_ : Shape := ⟨0, ![]⟩

class Facts : Prop where
  bitsLt_bf16_f32 : FTy.bits .bf16 < FTy.bits .f32
  bcast_S_S16384x6144 : S_.BroadcastsInDim S16384x6144 (![] : Fin 0 → Fin S16384x6144.rank)
  bcast_S_S16384x256 : S_.BroadcastsInDim S16384x256 (![] : Fin 0 → Fin S16384x256.rank)
  bcast_S_S4x768 : S_.BroadcastsInDim S4x768 (![] : Fin 0 → Fin S4x768.rank)
  bcast_S_S4 : S_.BroadcastsInDim S4 (![] : Fin 0 → Fin S4.rank)

variable [Facts]

def fn {F : FTy → Type} [FloatOps F] (main_arg0 : FVec F S16384x6144 .bf16) (main_arg1 : FVec F S16384x256 .f32) (main_arg2 : FVec F S4x768 .f32) (main_arg3 : FVec F S4 .f32) (main_arg4 : FVec F S4 .f32) (main_arg5 : FVec F S768 .f32) : IVec S16384x6144 1 × IVec S16384x256 1 × IVec S4x768 1 × IVec S4 1 × IVec S4 1 :=
  let main_v0 : FVec F S16384x6144 .f32 := (extf .f32 · bitsLt_bf16_f32) main_arg0
  let main_v1 : FVec F S16384x6144 .f32 := Host.absf main_v0
  let main_cst : FVec F S_ .f32 := constant S_ .f32 0x7F800000#32
  let main_v2 : FVec F S16384x6144 .f32 := broadcastInDim S16384x6144 ![] bcast_S_S16384x6144 main_cst
  let main_v3 : IVec S16384x6144 1 := cmpf .olt main_v1 main_v2
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_v7 : FVec F S4x768 .f32 := Host.absf main_arg2
  let main_cst_1 : FVec F S_ .f32 := constant S_ .f32 0x7F800000#32
  let main_v8 : FVec F S4x768 .f32 := broadcastInDim S4x768 ![] bcast_S_S4x768 main_cst_1
  let main_v9 : IVec S4x768 1 := cmpf .olt main_v7 main_v8
  let main_v10 : FVec F S4 .f32 := Host.absf main_arg3
  let main_cst_2 : FVec F S_ .f32 := constant S_ .f32 0x7F800000#32
  let main_v11 : FVec F S4 .f32 := broadcastInDim S4 ![] bcast_S_S4 main_cst_2
  let main_v12 : IVec S4 1 := cmpf .olt main_v10 main_v11
  let main_v13 : FVec F S4 .f32 := Host.absf main_arg4
  let main_cst_3 : FVec F S_ .f32 := constant S_ .f32 0x7F800000#32
  let main_v14 : FVec F S4 .f32 := broadcastInDim S4 ![] bcast_S_S4 main_cst_3
  let main_v15 : IVec S4 1 := cmpf .olt main_v13 main_v14
  (main_v3, main_v6, main_v9, main_v12, main_v15)
-- ==== Sgu.lean ====
abbrev S16384x6144 : Shape := ⟨2, ![16384, 6144]⟩
abbrev S512 : Shape := ⟨1, ![512]⟩
abbrev S4x128x128 : Shape := ⟨3, ![4, 128, 128]⟩
abbrev S4x128 : Shape := ⟨2, ![4, 128]⟩
abbrev S128x128 : Shape := ⟨2, ![128, 128]⟩
abbrev S128x4 : Shape := ⟨2, ![128, 4]⟩
abbrev S128x4x128 : Shape := ⟨3, ![128, 4, 128]⟩
abbrev S128x512 : Shape := ⟨2, ![128, 512]⟩
abbrev S1x512 : Shape := ⟨2, ![1, 512]⟩
abbrev S16384x512 : Shape := ⟨2, ![16384, 512]⟩
abbrev S512x512 : Shape := ⟨2, ![512, 512]⟩
abbrev S1x128x128 : Shape := ⟨3, ![1, 128, 128]⟩
abbrev S128 : Shape := ⟨1, ![128]⟩
abbrev S128x1 : Shape := ⟨2, ![128, 1]⟩

abbrev nBuf : Space → Nat
  | .hbm => 12
  | .vmem => 11
  | .smem => 0
  | _ => 0

abbrev bufTy : (tb : Table) → Fin (tcTables nBuf tb) → BufTy
  | .hbm, ⟨0, _⟩ => ⟨S16384x6144, .bf16⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S128x128, .i32⟩
  | .hbm, ⟨6, _⟩ => ⟨S128x4, .f32⟩
  | .hbm, ⟨7, _⟩ => ⟨S128x4x128, .f32⟩
  | .hbm, ⟨8, _⟩ => ⟨S128x512, .f32⟩
  | .hbm, ⟨9, _⟩ => ⟨S1x512, .f32⟩
  | .hbm, ⟨10, _⟩ => ⟨S1x512, .f32⟩
  | .hbm, ⟨11, _⟩ => ⟨S16384x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S128x512, .f32⟩
  | .local _ .vmem, ⟨8, _⟩ => ⟨S128x128, .i32⟩
  | .local _ .vmem, ⟨9, _⟩ => ⟨S512x512, .bf16⟩
  | .local _ .vmem, ⟨10, _⟩ => ⟨S512x512, .bf16⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SguReferenceIdeal.lean ====
abbrev S16384x6144 : Shape := ⟨2, ![16384, 6144]⟩
abbrev S512 : Shape := ⟨1, ![512]⟩
abbrev S4x128x128 : Shape := ⟨3, ![4, 128, 128]⟩
abbrev S4x128 : Shape := ⟨2, ![4, 128]⟩
abbrev S8x2048x6144 : Shape := ⟨3, ![8, 2048, 6144]⟩
abbrev S8x2048x512 : Shape := ⟨3, ![8, 2048, 512]⟩
abbrev S_ : Shape := ⟨0, ![]⟩
abbrev S8x2048 : Shape := ⟨2, ![8, 2048]⟩
abbrev S8x2048x1 : Shape := ⟨3, ![8, 2048, 1]⟩
abbrev S1x1x512 : Shape := ⟨3, ![1, 1, 512]⟩
abbrev S8x16x128x4x128 : Shape := ⟨5, ![8, 16, 128, 4, 128]⟩
abbrev S128x128 : Shape := ⟨2, ![128, 128]⟩
abbrev S4x8x16x128x128 : Shape := ⟨5, ![4, 8, 16, 128, 128]⟩
abbrev S128x4 : Shape := ⟨2, ![128, 4]⟩
abbrev S1x1x128x4x1 : Shape := ⟨5, ![1, 1, 128, 4, 1]⟩
abbrev S16384x512 : Shape := ⟨2, ![16384, 512]⟩

abbrev nBuf : Space → Nat
  | .hbm => 93
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S16384x6144, .f32⟩
  | .hbm, ⟨6, _⟩ => ⟨S8x2048x6144, .f32⟩
  | .hbm, ⟨7, _⟩ => ⟨S8x2048x512, .f32⟩
  | .hbm, ⟨8, _⟩ => ⟨S8x2048x512, .f32⟩
  | .hbm, ⟨9, _⟩ => ⟨S8x2048x512, .f32⟩
  | .hbm, ⟨10, _⟩ => ⟨S_, .f32⟩
  | .hbm, ⟨11, _⟩ => ⟨S8x2048x512, .f32⟩
  | .hbm, ⟨12, _⟩ => ⟨S8x2048x512, .f32⟩
  | .hbm, ⟨13, _⟩ => ⟨S8x2048x512, .f32⟩
  | .hbm, ⟨14, _⟩ => ⟨S_, .f32⟩
  | .hbm, ⟨15, _⟩ => ⟨S8x2048x512, .f32⟩
  | .hbm, ⟨16, _⟩ => ⟨S8x2048x512, .f32⟩
  | .hbm, ⟨17, _⟩ => ⟨S8x2048x512, .f32⟩
  | .hbm, ⟨18, _⟩ => ⟨S_, .f32⟩
  | .hbm, ⟨19, _⟩ => ⟨S8x2048x512, .f32⟩
  | .hbm, ⟨20, _⟩ => ⟨S8x2048x512, .f32⟩
  | .hbm, ⟨21, _⟩ => ⟨S_, .f32⟩
  | .hbm, ⟨22, _⟩ => ⟨S8x2048x512, .f32⟩
  | .hbm, ⟨23, _⟩ => ⟨S8x2048x512, .f32⟩
  | .hbm, ⟨24, _⟩ => ⟨S8x2048x512, .f32⟩
  | .hbm, ⟨25, _⟩ => ⟨S8x2048x512, .f32⟩
  | .hbm, ⟨26, _⟩ => ⟨S8x2048x512, .f32⟩
  | .hbm, ⟨27, _⟩ => ⟨S8x2048x512, .f32⟩
  | .hbm, ⟨28, _⟩ => ⟨S_, .f32⟩
  | .hbm, ⟨29, _⟩ => ⟨S8x2048x512, .f32⟩
  | .hbm, ⟨30, _⟩ => ⟨S8x2048x512, .f32⟩
  | .hbm, ⟨31, _⟩ => ⟨S8x2048x512, .f32⟩
  | .hbm, ⟨32, _⟩ => ⟨S_, .f32⟩
  | .hbm, ⟨33, _⟩ => ⟨S8x2048x512, .f32⟩
  | .hbm, ⟨34, _⟩ => ⟨S8x2048x512, .f32⟩
  | .hbm, ⟨35, _⟩ => ⟨S8x2048x512, .f32⟩
  | .hbm, ⟨36, _⟩ => ⟨S_, .f32⟩
  | .hbm, ⟨37, _⟩ => ⟨S8x2048x512, .f32⟩
  | .hbm, ⟨38, _⟩ => ⟨S8x2048x512, .f32⟩
  | .hbm, ⟨39, _⟩ => ⟨S_, .f32⟩
  | .hbm, ⟨40, _⟩ => ⟨S8x2048x512, .f32⟩
  | .hbm, ⟨41, _⟩ => ⟨S8x2048x512, .f32⟩
  | .hbm, ⟨42, _⟩ => ⟨S8x2048x512, .f32⟩
  | .hbm, ⟨43, _⟩ => ⟨S_, .f32⟩
  | .hbm, ⟨44, _⟩ => ⟨S8x2048, .f32⟩
  | .hbm, ⟨45, _⟩ => ⟨S8x2048x1, .f32⟩
  | .hbm, ⟨46, _⟩ => ⟨S_, .f32⟩
  | .hbm, ⟨47, _⟩ => ⟨S8x2048x1, .f32⟩
  | .hbm, ⟨48, _⟩ => ⟨S8x2048x1, .f32⟩
  | .hbm, ⟨49, _⟩ => ⟨S8x2048x512, .f32⟩
  | .hbm, ⟨50, _⟩ => ⟨S8x2048x512, .f32⟩
  | .hbm, ⟨51, _⟩ => ⟨S8x2048x512, .f32⟩
  | .hbm, ⟨52, _⟩ => ⟨S_, .f32⟩
  | .hbm, ⟨53, _⟩ => ⟨S8x2048, .f32⟩
  | .hbm, ⟨54, _⟩ => ⟨S8x2048x1, .f32⟩
  | .hbm, ⟨55, _⟩ => ⟨S_, .f32⟩
  | .hbm, ⟨56, _⟩ => ⟨S8x2048x1, .f32⟩
  | .hbm, ⟨57, _⟩ => ⟨S8x2048x1, .f32⟩
  | .hbm, ⟨58, _⟩ => ⟨S8x2048x512, .f32⟩
  | .hbm, ⟨59, _⟩ => ⟨S8x2048x512, .f32⟩
  | .hbm, ⟨60, _⟩ => ⟨S_, .f32⟩
  | .hbm, ⟨61, _⟩ => ⟨S8x2048x1, .f32⟩
  | .hbm, ⟨62, _⟩ => ⟨S8x2048x1, .f32⟩
  | .hbm, ⟨63, _⟩ => ⟨S8x2048x1, .f32⟩
  | .hbm, ⟨64, _⟩ => ⟨S8x2048x512, .f32⟩
  | .hbm, ⟨65, _⟩ => ⟨S8x2048x512, .f32⟩
  | .hbm, ⟨66, _⟩ => ⟨S1x1x512, .f32⟩
  | .hbm, ⟨67, _⟩ => ⟨S8x2048x512, .f32⟩
  | .hbm, ⟨68, _⟩ => ⟨S8x2048x512, .f32⟩
  | .hbm, ⟨69, _⟩ => ⟨S1x1x512, .f32⟩
  | .hbm, ⟨70, _⟩ => ⟨S8x2048x512, .f32⟩
  | .hbm, ⟨71, _⟩ => ⟨S8x2048x512, .f32⟩
  | .hbm, ⟨72, _⟩ => ⟨S8x16x128x4x128, .f32⟩
  | .hbm, ⟨73, _⟩ => ⟨S128x128, .i32⟩
  | .hbm, ⟨74, _⟩ => ⟨S_, .i32⟩
  | .hbm, ⟨75, _⟩ => ⟨S128x128, .i32⟩
  | .hbm, ⟨76, _⟩ => ⟨S128x128, .i32⟩
  | .hbm, ⟨77, _⟩ => ⟨S128x128, .i32⟩
  | .hbm, ⟨78, _⟩ => ⟨S128x128, .i1⟩
  | .hbm, ⟨79, _⟩ => ⟨S4x128x128, .i1⟩
  | .hbm, ⟨80, _⟩ => ⟨S_, .f32⟩
  | .hbm, ⟨81, _⟩ => ⟨S4x128x128, .f32⟩
  | .hbm, ⟨82, _⟩ => ⟨S4x128x128, .f32⟩
  | .hbm, ⟨83, _⟩ => ⟨S4x8x16x128x128, .f32⟩
  | .hbm, ⟨84, _⟩ => ⟨S8x16x128x4x128, .f32⟩
  | .hbm, ⟨85, _⟩ => ⟨S128x4, .f32⟩
  | .hbm, ⟨86, _⟩ => ⟨S1x1x128x4x1, .f32⟩
  | .hbm, ⟨87, _⟩ => ⟨S8x16x128x4x128, .f32⟩
  | .hbm, ⟨88, _⟩ => ⟨S8x16x128x4x128, .f32⟩
  | .hbm, ⟨89, _⟩ => ⟨S8x2048x512, .f32⟩
  | .hbm, ⟨90, _⟩ => ⟨S8x2048x512, .f32⟩
  | .hbm, ⟨91, _⟩ => ⟨S16384x512, .f32⟩
  | .hbm, ⟨92, _⟩ => ⟨S16384x512, .bf16⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_call0_v0 : Ref sig .tc := ⟨.hbm, 73, rfl⟩
abbrev main_call0_c : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_v5 : Ref sig .tc := ⟨.hbm, 79, rfl⟩
abbrev main_call0_cst : Ref sig .tc := ⟨.hbm, 80, rfl⟩
abbrev main_call0_v6 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩

abbrev nD : Nat := 1
abbrev τ : Topo := Topo.v7x

variable {F : FTy → Type} [FloatOps F]
-- ==== Ffn.lean ====
abbrev S16384x2048 : Shape := ⟨2, ![16384, 2048]⟩
abbrev S2048 : Shape := ⟨1, ![2048]⟩
abbrev S2048x11264 : Shape := ⟨2, ![2048, 11264]⟩
abbrev S5632x2048 : Shape := ⟨2, ![5632, 2048]⟩
abbrev S1x2048 : Shape := ⟨2, ![1, 2048]⟩
abbrev S1024x2048 : Shape := ⟨2, ![1024, 2048]⟩
abbrev S2048x1024 : Shape := ⟨2, ![2048, 1024]⟩
abbrev S512x2048 : Shape := ⟨2, ![512, 2048]⟩
abbrev S1024 : Shape := ⟨1, ![1024]⟩
abbrev S1024x1 : Shape := ⟨2, ![1024, 1]⟩
abbrev S1024x1024 : Shape := ⟨2, ![1024, 1024]⟩
abbrev S1024x512 : Shape := ⟨2, ![1024, 512]⟩

abbrev nBuf : Space → Nat
  | .hbm => 8
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x11264, .bf16⟩
  | .hbm, ⟨3, _⟩ => ⟨S5632x2048, .bf16⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnReferenceIdeal.lean ====
abbrev S16384x2048 : Shape := ⟨2, ![16384, 2048]⟩
abbrev S2048 : Shape := ⟨1, ![2048]⟩
abbrev S2048x11264 : Shape := ⟨2, ![2048, 11264]⟩
abbrev S5632x2048 : Shape := ⟨2, ![5632, 2048]⟩
abbrev S2048x11x2x512 : Shape := ⟨4, ![2048, 11, 2, 512]⟩
abbrev S2048x11x1x512 : Shape := ⟨4, ![2048, 11, 1, 512]⟩
abbrev S2048x11x512 : Shape := ⟨3, ![2048, 11, 512]⟩
abbrev S2048x5632 : Shape := ⟨2, ![2048, 5632]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5632 : Shape := ⟨2, ![16384, 5632]⟩

abbrev nBuf : Space → Nat
  | .hbm => 60
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x11264, .bf16⟩
  | .hbm, ⟨3, _⟩ => ⟨S5632x2048, .bf16⟩
  | .hbm, ⟨4, _⟩ => ⟨S2048, .f32⟩
  | .hbm, ⟨5, _⟩ => ⟨S2048x11264, .f32⟩
  | .hbm, ⟨6, _⟩ => ⟨S2048x11x2x512, .f32⟩
  | .hbm, ⟨7, _⟩ => ⟨S2048x11x1x512, .f32⟩
  | .hbm, ⟨8, _⟩ => ⟨S2048x11x512, .f32⟩
  | .hbm, ⟨9, _⟩ => ⟨S2048x5632, .f32⟩
  | .hbm, ⟨10, _⟩ => ⟨S2048x11x1x512, .f32⟩
  | .hbm, ⟨11, _⟩ => ⟨S2048x11x512, .f32⟩
  | .hbm, ⟨12, _⟩ => ⟨S2048x5632, .f32⟩
  | .hbm, ⟨13, _⟩ => ⟨S16384x2048, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x2048, .f32⟩
  | .hbm, ⟨25, _⟩ => ⟨S16384x2048, .f32⟩
  | .hbm, ⟨26, _⟩ => ⟨S1x2048, .f32⟩
  | .hbm, ⟨27, _⟩ => ⟨S16384x2048, .f32⟩
  | .hbm, ⟨28, _⟩ => ⟨S16384x2048, .f32⟩
  | .hbm, ⟨29, _⟩ => ⟨S16384x5632, .f32⟩
  | .hbm, ⟨30, _⟩ => ⟨S16384x5632, .f32⟩
  | .hbm, ⟨31, _⟩ => ⟨S16384x5632, .f32⟩
  | .hbm, ⟨32, _⟩ => ⟨S_, .f32⟩
  | .hbm, ⟨33, _⟩ => ⟨S16384x5632, .f32⟩
  | .hbm, ⟨34, _⟩ => ⟨S16384x5632, .f32⟩
  | .hbm, ⟨35, _⟩ => ⟨S_, .f32⟩
  | .hbm, ⟨36, _⟩ => ⟨S16384x5632, .f32⟩
  | .hbm, ⟨37, _⟩ => ⟨S16384x5632, .f32⟩
  | .hbm, ⟨38, _⟩ => ⟨S16384x5632, .f32⟩
  | .hbm, ⟨39, _⟩ => ⟨S16384x5632, .f32⟩
  | .hbm, ⟨40, _⟩ => ⟨S16384x5632, .f32⟩
  | .hbm, ⟨41, _⟩ => ⟨S5632x2048, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S_, .f32⟩
  | .hbm, ⟨46, _⟩ => ⟨S16384, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S16384x1, .f32⟩
  | .hbm, ⟨55, _⟩ => ⟨S16384x2048, .f32⟩
  | .hbm, ⟨56, _⟩ => ⟨S16384x2048, .f32⟩
  | .hbm, ⟨57, _⟩ => ⟨S1x2048, .f32⟩
  | .hbm, ⟨58, _⟩ => ⟨S16384x2048, .f32⟩
  | .hbm, ⟨59, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_2 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]
-- ==== Out.lean ====
abbrev S16384x2048 : Shape := ⟨2, ![16384, 2048]⟩
abbrev S16384x768 : Shape := ⟨2, ![16384, 768]⟩
abbrev S16384x512 : Shape := ⟨2, ![16384, 512]⟩
abbrev S2048x2048 : Shape := ⟨2, ![2048, 2048]⟩
abbrev S1024x2048 : Shape := ⟨2, ![1024, 2048]⟩
abbrev S1024x768 : Shape := ⟨2, ![1024, 768]⟩
abbrev S1024x512 : Shape := ⟨2, ![1024, 512]⟩

abbrev nBuf : Space → Nat
  | .hbm => 6
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S16384x768, .bf16⟩
  | .hbm, ⟨2, _⟩ => ⟨S16384x768, .bf16⟩
  | .hbm, ⟨3, _⟩ => ⟨S16384x512, .bf16⟩
  | .hbm, ⟨4, _⟩ => ⟨S2048x2048, .bf16⟩
  | .hbm, ⟨5, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x512, .bf16⟩
  | .local _ .vmem, ⟨7, _⟩ => ⟨S1024x512, .bf16⟩
  | .local _ .vmem, ⟨8, _⟩ => ⟨S2048x2048, .bf16⟩
  | .local _ .vmem, ⟨9, _⟩ => ⟨S1024x2048, .f32⟩
  | .local _ .vmem, ⟨10, _⟩ => ⟨S1024x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutReferenceIdeal.lean ====
abbrev S16384x2048 : Shape := ⟨2, ![16384, 2048]⟩
abbrev S16384x768 : Shape := ⟨2, ![16384, 768]⟩
abbrev S16384x512 : Shape := ⟨2, ![16384, 512]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x768, .bf16⟩
  | .hbm, ⟨2, _⟩ => ⟨S16384x768, .bf16⟩
  | .hbm, ⟨3, _⟩ => ⟨S16384x512, .bf16⟩
  | .hbm, ⟨4, _⟩ => ⟨S2048x2048, .bf16⟩
  | .hbm, ⟨5, _⟩ => ⟨S16384x768, .f32⟩
  | .hbm, ⟨6, _⟩ => ⟨S16384x768, .f32⟩
  | .hbm, ⟨7, _⟩ => ⟨S16384x512, .f32⟩
  | .hbm, ⟨8, _⟩ => ⟨S16384x2048, .f32⟩
  | .hbm, ⟨9, _⟩ => ⟨S2048x2048, .f32⟩
  | .hbm, ⟨10, _⟩ => ⟨S16384x2048, .f32⟩
  | .hbm, ⟨11, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== In.lean ====
abbrev S16384x2048 : Shape := ⟨2, ![16384, 2048]⟩
abbrev S2048 : Shape := ⟨1, ![2048]⟩
abbrev S6400x2048 : Shape := ⟨2, ![6400, 2048]⟩
abbrev S1x2048 : Shape := ⟨2, ![1, 2048]⟩
abbrev S16384x6144 : Shape := ⟨2, ![16384, 6144]⟩
abbrev S16384x256 : Shape := ⟨2, ![16384, 256]⟩
abbrev S1024x2048 : Shape := ⟨2, ![1024, 2048]⟩
abbrev S1536x2048 : Shape := ⟨2, ![1536, 2048]⟩
abbrev S256x2048 : Shape := ⟨2, ![256, 2048]⟩
abbrev S1024x1536 : Shape := ⟨2, ![1024, 1536]⟩
abbrev S1024x256 : Shape := ⟨2, ![1024, 256]⟩
abbrev S1024 : Shape := ⟨1, ![1024]⟩
abbrev S1024x1 : Shape := ⟨2, ![1024, 1]⟩

abbrev nBuf : Space → Nat
  | .hbm => 6
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S6400x2048, .bf16⟩
  | .hbm, ⟨3, _⟩ => ⟨S1x2048, .f32⟩
  | .hbm, ⟨4, _⟩ => ⟨S16384x6144, .bf16⟩
  | .hbm, ⟨5, _⟩ => ⟨S16384x256, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1536x2048, .bf16⟩
  | .local _ .vmem, ⟨4, _⟩ => ⟨S1536x2048, .bf16⟩
  | .local _ .vmem, ⟨5, _⟩ => ⟨S256x2048, .bf16⟩
  | .local _ .vmem, ⟨6, _⟩ => ⟨S1024x1536, .bf16⟩
  | .local _ .vmem, ⟨7, _⟩ => ⟨S1024x1536, .bf16⟩
  | .local _ .vmem, ⟨8, _⟩ => ⟨S1024x256, .f32⟩
  | .local _ .vmem, ⟨9, _⟩ => ⟨S1024x256, .f32⟩
  | .local _ .vmem, ⟨10, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let c0_i32 : BitVec 32 := 0#32
  let c0_i32_0 : BitVec 32 := 0#32
  ![c24_i32.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1536x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InReferenceIdeal.lean ====
abbrev S16384x2048 : Shape := ⟨2, ![16384, 2048]⟩
abbrev S2048 : Shape := ⟨1, ![2048]⟩
abbrev S6400x2048 : Shape := ⟨2, ![6400, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048x6400 : Shape := ⟨2, ![2048, 6400]⟩
abbrev S16384x6400 : Shape := ⟨2, ![16384, 6400]⟩
abbrev S16384x6144 : Shape := ⟨2, ![16384, 6144]⟩
abbrev S16384x256 : Shape := ⟨2, ![16384, 256]⟩

abbrev nBuf : Space → Nat
  | .hbm => 25
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S6400x2048, .bf16⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S6400x2048, .f32⟩
  | .hbm, ⟨20, _⟩ => ⟨S2048x6400, .f32⟩
  | .hbm, ⟨21, _⟩ => ⟨S16384x6400, .f32⟩
  | .hbm, ⟨22, _⟩ => ⟨S16384x6144, .f32⟩
  | .hbm, ⟨23, _⟩ => ⟨S16384x6144, .bf16⟩
  | .hbm, ⟨24, _⟩ => ⟨S16384x256, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Mlstm.lean ====
abbrev S16384x6144 : Shape := ⟨2, ![16384, 6144]⟩
abbrev S16384x256 : Shape := ⟨2, ![16384, 256]⟩
abbrev S4x768 : Shape := ⟨2, ![4, 768]⟩
abbrev S4 : Shape := ⟨1, ![4]⟩
abbrev S768 : Shape := ⟨1, ![768]⟩
abbrev S128x128 : Shape := ⟨2, ![128, 128]⟩
abbrev S4x384 : Shape := ⟨2, ![4, 384]⟩
abbrev S4x4x96 : Shape := ⟨3, ![4, 4, 96]⟩
abbrev S_ : Shape := ⟨0, ![]⟩
abbrev S4x4x128 : Shape := ⟨3, ![4, 4, 128]⟩
abbrev S4x512 : Shape := ⟨2, ![4, 512]⟩
abbrev S4x1024 : Shape := ⟨2, ![4, 1024]⟩
abbrev S8 : Shape := ⟨1, ![8]⟩
abbrev S128 : Shape := ⟨1, ![128]⟩
abbrev S1x128 : Shape := ⟨2, ![1, 128]⟩
abbrev S1x768 : Shape := ⟨2, ![1, 768]⟩
abbrev S16384x768 : Shape := ⟨2, ![16384, 768]⟩
abbrev S2048x1024 : Shape := ⟨2, ![2048, 1024]⟩
abbrev S2048x1536 : Shape := ⟨2, ![2048, 1536]⟩
abbrev S2048x128 : Shape := ⟨2, ![2048, 128]⟩
abbrev S2048x768 : Shape := ⟨2, ![2048, 768]⟩
abbrev S2x256x512 : Shape := ⟨3, ![2, 256, 512]⟩
abbrev S8x128 : Shape := ⟨2, ![8, 128]⟩
abbrev S136x1024 : Shape := ⟨2, ![136, 1024]⟩
abbrev S8x1024 : Shape := ⟨2, ![8, 1024]⟩
abbrev S128x1024 : Shape := ⟨2, ![128, 1024]⟩
abbrev S1x1024 : Shape := ⟨2, ![1, 1024]⟩
abbrev S128x512 : Shape := ⟨2, ![128, 512]⟩
abbrev S512x128 : Shape := ⟨2, ![512, 128]⟩
abbrev S128x384 : Shape := ⟨2, ![128, 384]⟩
abbrev S256x128 : Shape := ⟨2, ![256, 128]⟩
abbrev S128x1 : Shape := ⟨2, ![128, 1]⟩
abbrev S1x1 : Shape := ⟨2, ![1, 1]⟩
abbrev S1 : Shape := ⟨1, ![1]⟩
abbrev S1x256x512 : Shape := ⟨3, ![1, 256, 512]⟩
abbrev S256x512 : Shape := ⟨2, ![256, 512]⟩
abbrev S256x384 : Shape := ⟨2, ![256, 384]⟩
abbrev S512x512 : Shape := ⟨2, ![512, 512]⟩
abbrev S1x512 : Shape := ⟨2, ![1, 512]⟩
abbrev S1x384 : Shape := ⟨2, ![1, 384]⟩

abbrev nBuf : Space → Nat
  | .hbm => 28
  | .vmem => 16
  | .smem => 0
  | _ => 0

abbrev bufTy : (tb : Table) → Fin (tcTables nBuf tb) → BufTy
  | .hbm, ⟨0, _⟩ => ⟨S16384x6144, .bf16⟩
  | .hbm, ⟨1, _⟩ => ⟨S16384x256, .f32⟩
  | .hbm, ⟨2, _⟩ => ⟨S4x768, .f32⟩
  | .hbm, ⟨3, _⟩ => ⟨S4, .f32⟩
  | .hbm, ⟨4, _⟩ => ⟨S4, .f32⟩
  | .hbm, ⟨5, _⟩ => ⟨S768, .f32⟩
  | .hbm, ⟨6, _⟩ => ⟨S128x128, .i32⟩
  | .hbm, ⟨7, _⟩ => ⟨S128x128, .bf16⟩
  | .hbm, ⟨8, _⟩ => ⟨S4x384, .f32⟩
  | .hbm, ⟨9, _⟩ => ⟨S4x4x96, .f32⟩
  | .hbm, ⟨10, _⟩ => ⟨S_, .i32⟩
  | .hbm, ⟨11, _⟩ => ⟨S_, .f32⟩
  | .hbm, ⟨12, _⟩ => ⟨S4x4x128, .f32⟩
  | .hbm, ⟨13, _⟩ => ⟨S4x512, .f32⟩
  | .hbm, ⟨14, _⟩ => ⟨S4x384, .f32⟩
  | .hbm, ⟨15, _⟩ => ⟨S4x4x96, .f32⟩
  | .hbm, ⟨16, _⟩ => ⟨S_, .i32⟩
  | .hbm, ⟨17, _⟩ => ⟨S_, .f32⟩
  | .hbm, ⟨18, _⟩ => ⟨S4x4x128, .f32⟩
  | .hbm, ⟨19, _⟩ => ⟨S4x512, .f32⟩
  | .hbm, ⟨20, _⟩ => ⟨S4x1024, .f32⟩
  | .hbm, ⟨21, _⟩ => ⟨S8, .f32⟩
  | .hbm, ⟨22, _⟩ => ⟨S_, .i32⟩
  | .hbm, ⟨23, _⟩ => ⟨S_, .f32⟩
  | .hbm, ⟨24, _⟩ => ⟨S128, .f32⟩
  | .hbm, ⟨25, _⟩ => ⟨S1x128, .f32⟩
  | .hbm, ⟨26, _⟩ => ⟨S1x768, .f32⟩
  | .hbm, ⟨27, _⟩ => ⟨S16384x768, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S2048x128, .f32⟩
  | .local _ .vmem, ⟨5, _⟩ => ⟨S2048x128, .f32⟩
  | .local _ .vmem, ⟨6, _⟩ => ⟨S4x1024, .f32⟩
  | .local _ .vmem, ⟨7, _⟩ => ⟨S1x128, .f32⟩
  | .local _ .vmem, ⟨8, _⟩ => ⟨S1x768, .f32⟩
  | .local _ .vmem, ⟨9, _⟩ => ⟨S128x128, .bf16⟩
  | .local _ .vmem, ⟨10, _⟩ => ⟨S128x128, .i32⟩
  | .local _ .vmem, ⟨11, _⟩ => ⟨S2048x768, .bf16⟩
  | .local _ .vmem, ⟨12, _⟩ => ⟨S2048x768, .bf16⟩
  | .local _ .vmem, ⟨13, _⟩ => ⟨S2x256x512, .f32⟩
  | .local _ .vmem, ⟨14, _⟩ => ⟨S8x128, .f32⟩
  | .local _ .vmem, ⟨15, _⟩ => ⟨S136x1024, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_call1_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_call2_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v12 : BitVec 32 := Scalar.addi c0_i32 c16_i32
  let c1_i32 : BitVec 32 := 1#32
  ⟨c0_i32, v12, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c128_i32 : BitVec 32 := 128#32
  let v13 : BitVec 32 := Scalar.muli arg13 c128_i32
  v13
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c128_i32 : BitVec 32 := 128#32
  let v13 : BitVec 32 := Scalar.muli arg13 c128_i32
  let v14 : BitVec 32 := v13
  let v15 : Index := Scalar.indexCast v14
  let c0_9 : Index := 0#32
  ![v15.toNat, 0]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c128_i32 : BitVec 32 := 128#32
  let v13 : BitVec 32 := Scalar.muli arg13 c128_i32
  let v14 : BitVec 32 := v13
  let v59 : Index := Scalar.indexCast v14
  let c0_26 : Index := 0#32
  ![v59.toNat, 0]
def k0_off3 (k0_t1 : Fin k0_t1_loop.trips) : Fin 2 → Nat :=
  let c0_i32 : BitVec 32 := 0#32
  let c1_i32 : BitVec 32 := 1#32
  let arg13 : BitVec 32 := Scf.iv c0_i32 c1_i32 k0_t1
  let c128_i32 : BitVec 32 := 128#32
  let v13 : BitVec 32 := Scalar.muli arg13 c128_i32
  let v14 : BitVec 32 := v13
  let v143 : Index := Scalar.indexCast v14
  let c0_56 : Index := 0#32
  ![v143.toNat, 0]
def k0_off4 (k0_t1 : Fin k0_t1_loop.trips) : Fin 2 → Nat :=
  let c0_i32 : BitVec 32 := 0#32
  let c1_i32 : BitVec 32 := 1#32
  let arg13 : BitVec 32 := Scf.iv c0_i32 c1_i32 k0_t1
  let c128_i32 : BitVec 32 := 128#32
  let v13 : BitVec 32 := Scalar.muli arg13 c128_i32
  let v14 : BitVec 32 := v13
  let v311 : Index := Scalar.indexCast v14
  let c768 : Index := 768#32
  ![v311.toNat, 768]
def k0_off5 (k0_t1 : Fin k0_t1_loop.trips) : Fin 2 → Nat :=
  let c0_i32 : BitVec 32 := 0#32
  let c1_i32 : BitVec 32 := 1#32
  let arg13 : BitVec 32 := Scf.iv c0_i32 c1_i32 k0_t1
  let c128_i32 : BitVec 32 := 128#32
  let v13 : BitVec 32 := Scalar.muli arg13 c128_i32
  let v14 : BitVec 32 := v13
  let v358 : Index := Scalar.indexCast v14
  let c0_98 : Index := 0#32
  ![v358.toNat, 0]
def k0_off6 (k0_t1 : Fin k0_t1_loop.trips) : Fin 2 → Nat :=
  let c0_i32 : BitVec 32 := 0#32
  let c1_i32 : BitVec 32 := 1#32
  let arg13 : BitVec 32 := Scf.iv c0_i32 c1_i32 k0_t1
  let c128_i32 : BitVec 32 := 128#32
  let v13 : BitVec 32 := Scalar.muli arg13 c128_i32
  let v14 : BitVec 32 := v13
  let v360 : Index := Scalar.indexCast v14
  let c384 : Index := 384#32
  ![v360.toNat, 384]
def k0_off7 (k0_t1 : Fin k0_t1_loop.trips) : Fin 2 → Nat :=
  let c0_i32 : BitVec 32 := 0#32
  let c1_i32 : BitVec 32 := 1#32
  let arg13 : BitVec 32 := Scf.iv c0_i32 c1_i32 k0_t1
  let c128_i32 : BitVec 32 := 128#32
  let v13 : BitVec 32 := Scalar.muli arg13 c128_i32
  let v14 : BitVec 32 := v13
  let v528 : Index := Scalar.indexCast v14
  let c1152 : Index := 1152#32
  ![v528.toNat, 1152]
def k0_off8 (k0_t1 : Fin k0_t1_loop.trips) : Fin 2 → Nat :=
  let c0_i32 : BitVec 32 := 0#32
  let c1_i32 : BitVec 32 := 1#32
  let arg13 : BitVec 32 := Scf.iv c0_i32 c1_i32 k0_t1
  let c128_i32 : BitVec 32 := 128#32
  let v13 : BitVec 32 := Scalar.muli arg13 c128_i32
  let v14 : BitVec 32 := v13
  let v575 : Index := Scalar.indexCast v14
  let c384_141 : Index := 384#32
  ![v575.toNat, 384]
def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MlstmIdeal.lean ====
variable {F : FTy → Type} [FloatOps F] [Named F]
def κ : String → Option EReal := fun
  | "ln2" => some ((Real.log 2 : ℝ) : EReal)
  | "log2e" => some (((Real.log 2)⁻¹ : ℝ) : EReal)
  | _ => none
-- ==== MlstmReferenceIdeal.lean ====
abbrev S16384x6144 : Shape := ⟨2, ![16384, 6144]⟩
abbrev S16384x256 : Shape := ⟨2, ![16384, 256]⟩
abbrev S4x768 : Shape := ⟨2, ![4, 768]⟩
abbrev S4 : Shape := ⟨1, ![4]⟩
abbrev S768 : Shape := ⟨1, ![768]⟩
abbrev S8x2048x6144 : Shape := ⟨3, ![8, 2048, 6144]⟩
abbrev S8x2048x256 : Shape := ⟨3, ![8, 2048, 256]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x2048x512 : Shape := ⟨3, ![8, 2048, 512]⟩
abbrev S8x2048x4x128 : Shape := ⟨4, ![8, 2048, 4, 128]⟩
abbrev S8x2048x4x96 : Shape := ⟨4, ![8, 2048, 4, 96]⟩
abbrev S8x2048x384 : Shape := ⟨3, ![8, 2048, 384]⟩
abbrev S8x2048x768 : Shape := ⟨3, ![8, 2048, 768]⟩
abbrev S8x2048x4 : Shape := ⟨3, ![8, 2048, 4]⟩
abbrev S_ : Shape := ⟨0, ![]⟩
abbrev S8x2051x768 : Shape := ⟨3, ![8, 2051, 768]⟩
abbrev S1x768 : Shape := ⟨2, ![1, 768]⟩
abbrev S1x1x768 : Shape := ⟨3, ![1, 1, 768]⟩
abbrev S8x2048x4x192 : Shape := ⟨4, ![8, 2048, 4, 192]⟩
abbrev S1x1x4 : Shape := ⟨3, ![1, 1, 4]⟩
abbrev S8x4x2048 : Shape := ⟨3, ![8, 4, 2048]⟩
abbrev S8x4x1x2048 : Shape := ⟨4, ![8, 4, 1, 2048]⟩
abbrev S8x4x2048x2048 : Shape := ⟨4, ![8, 4, 2048, 2048]⟩
abbrev S8x4x2048x1 : Shape := ⟨4, ![8, 4, 2048, 1]⟩
abbrev S8x4x192x2048 : Shape := ⟨4, ![8, 4, 192, 2048]⟩
abbrev S8x2048x4x1 : Shape := ⟨4, ![8, 2048, 4, 1]⟩
abbrev S4x192 : Shape := ⟨2, ![4, 192]⟩
abbrev S1x1x4x192 : Shape := ⟨4, ![1, 1, 4, 192]⟩
abbrev S16384x768 : Shape := ⟨2, ![16384, 768]⟩

abbrev nBuf : Space → Nat
  | .hbm => 174
  | .vmem => 0
  | .smem => 0
  | _ => 0

abbrev hbmTy0_0 (i : Nat) : BufTy := match i % 128 with
  | 0 => ⟨S16384x6144, .bf16⟩
  | 1 => ⟨S16384x256, .f32⟩
  | 2 => ⟨S4x768, .f32⟩
  | 3 => ⟨S4, .f32⟩
  | 4 => ⟨S4, .f32⟩
  | 5 => ⟨S768, .f32⟩
  | 6 => ⟨S16384x6144, .f32⟩
  | 7 => ⟨S8x2048x6144, .f32⟩
  | 8 => ⟨S8x2048x256, .f32⟩
  | 9 => ⟨S2048, .i32⟩
  | 10 => ⟨S2048x1, .i32⟩
  | 11 => ⟨S1x2048, .i32⟩
  | 12 => ⟨S2048x2048, .i32⟩
  | 13 => ⟨S2048x2048, .i32⟩
  | 14 => ⟨S2048x2048, .i1⟩
  | 15 => ⟨S8x2048x512, .f32⟩
  | 16 => ⟨S8x2048x4x128, .f32⟩
  | 17 => ⟨S8x2048x4x96, .f32⟩
  | 18 => ⟨S8x2048x384, .f32⟩
  | 19 => ⟨S8x2048x512, .f32⟩
  | 20 => ⟨S8x2048x4x128, .f32⟩
  | 21 => ⟨S8x2048x4x96, .f32⟩
  | 22 => ⟨S8x2048x384, .f32⟩
  | 23 => ⟨S8x2048x768, .f32⟩
  | 24 => ⟨S8x2048x768, .f32⟩
  | 25 => ⟨S8x2048x4, .f32⟩
  | 26 => ⟨S8x2048x4, .f32⟩
  | 27 => ⟨S8x2048x768, .f32⟩
  | 28 => ⟨S_, .i32⟩
  | 29 => ⟨S_, .f32⟩
  | 30 => ⟨S8x2051x768, .f32⟩
  | 31 => ⟨S8x2048x768, .f32⟩
  | 32 => ⟨S1x768, .f32⟩
  | 33 => ⟨S768, .f32⟩
  | 34 => ⟨S1x1x768, .f32⟩
  | 35 => ⟨S8x2048x768, .f32⟩
  | 36 => ⟨S8x2048x768, .f32⟩
  | 37 => ⟨S_, .f32⟩
  | 38 => ⟨S8x2048x768, .f32⟩
  | 39 => ⟨S8x2048x768, .f32⟩
  | 40 => ⟨S8x2048x768, .f32⟩
  | 41 => ⟨S1x768, .f32⟩
  | 42 => ⟨S768, .f32⟩
  | 43 => ⟨S1x1x768, .f32⟩
  | 44 => ⟨S8x2048x768, .f32⟩
  | 45 => ⟨S8x2048x768, .f32⟩
  | 46 => ⟨S8x2048x768, .f32⟩
  | 47 => ⟨S8x2048x768, .f32⟩
  | 48 => ⟨S1x768, .f32⟩
  | 49 => ⟨S768, .f32⟩
  | 50 => ⟨S1x1x768, .f32⟩
  | 51 => ⟨S8x2048x768, .f32⟩
  | 52 => ⟨S8x2048x768, .f32⟩
  | 53 => ⟨S8x2048x768, .f32⟩
  | 54 => ⟨S8x2048x768, .f32⟩
  | 55 => ⟨S1x768, .f32⟩
  | 56 => ⟨S768, .f32⟩
  | 57 => ⟨S1x1x768, .f32⟩
  | 58 => ⟨S8x2048x768, .f32⟩
  | 59 => ⟨S8x2048x768, .f32⟩
  | 60 => ⟨S8x2048x768, .f32⟩
  | 61 => ⟨S8x2048x768, .f32⟩
  | 62 => ⟨S8x2048x768, .f32⟩
  | 63 => ⟨S_, .f32⟩
  | 64 => ⟨S8x2048x768, .f32⟩
  | 65 => ⟨S8x2048x768, .f32⟩
  | 66 => ⟨S_, .f32⟩
  | 67 => ⟨S8x2048x768, .f32⟩
  | 68 => ⟨S8x2048x768, .f32⟩
  | 69 => ⟨S8x2048x768, .f32⟩
  | 70 => ⟨S8x2048x384, .f32⟩
  | 71 => ⟨S8x2048x4x96, .f32⟩
  | 72 => ⟨S8x2048x384, .f32⟩
  | 73 => ⟨S8x2048x4x96, .f32⟩
  | 74 => ⟨S_, .f32⟩
  | 75 => ⟨S8x2048x4x96, .f32⟩
  | 76 => ⟨S8x2048x4x96, .f32⟩
  | 77 => ⟨S8x2048x4x192, .f32⟩
  | 78 => ⟨S1x1x4, .f32⟩
  | 79 => ⟨S8x2048x4, .f32⟩
  | 80 => ⟨S8x2048x4, .f32⟩
  | 81 => ⟨S8x4x2048, .f32⟩
  | 82 => ⟨S1x1x4, .f32⟩
  | 83 => ⟨S8x2048x4, .f32⟩
  | 84 => ⟨S8x2048x4, .f32⟩
  | 85 => ⟨S8x2048x4, .f32⟩
  | 86 => ⟨S_, .f32⟩
  | 87 => ⟨S8x2048x4, .f32⟩
  | 88 => ⟨S8x2048x4, .f32⟩
  | 89 => ⟨S8x2048x4, .f32⟩
  | 90 => ⟨S8x2048x4, .f32⟩
  | 91 => ⟨S8x2048x4, .i1⟩
  | 92 => ⟨S8x2048x4, .f32⟩
  | 93 => ⟨S8x2048x4, .f32⟩
  | 94 => ⟨S8x2048x4, .f32⟩
  | 95 => ⟨S8x2048x4, .f32⟩
  | 96 => ⟨S8x2048x4, .f32⟩
  | 97 => ⟨S8x2048x4, .f32⟩
  | 98 => ⟨S8x2048x4, .f32⟩
  | 99 => ⟨S8x2048x4, .f32⟩
  | 100 => ⟨S8x2048x4, .f32⟩
  | 101 => ⟨S8x4x2048, .f32⟩
  | 102 => ⟨S8x4x1x2048, .f32⟩
  | 103 => ⟨S_, .f32⟩
  | 104 => ⟨S_, .f32⟩
  | 105 => ⟨S8x4x2048x2048, .i1⟩
  | 106 => ⟨S8x4x2048x2048, .f32⟩
  | 107 => ⟨S8x4x2048x2048, .f32⟩
  | 108 => ⟨S8x4x2048x2048, .f32⟩
  | 109 => ⟨S_, .f32⟩
  | 110 => ⟨S8x4x2048, .f32⟩
  | 111 => ⟨S8x4x2048x1, .f32⟩
  | 112 => ⟨S8x4x1x2048, .f32⟩
  | 113 => ⟨S8x4x2048x2048, .f32⟩
  | 114 => ⟨S8x4x2048x2048, .f32⟩
  | 115 => ⟨S8x4x2048x2048, .f32⟩
  | 116 => ⟨S8x4x1x2048, .f32⟩
  | 117 => ⟨S8x4x2048x2048, .f32⟩
  | 118 => ⟨S8x4x2048x2048, .f32⟩
  | 119 => ⟨S_, .f32⟩
  | 120 => ⟨S_, .f32⟩
  | 121 => ⟨S8x4x2048x2048, .i1⟩
  | 122 => ⟨S8x4x2048x2048, .f32⟩
  | 123 => ⟨S8x4x2048x2048, .f32⟩
  | 124 => ⟨S_, .f32⟩
  | 125 => ⟨S8x4x2048, .f32⟩
  | 126 => ⟨S8x4x2048, .f32⟩
  | 127 => ⟨S8x4x2048x2048, .f32⟩
  | _ => ⟨S16384x6144, .bf16⟩

abbrev hbmTy0_1 (i : Nat) : BufTy := match i % 128 with
  | 0 => ⟨S8x4x2048x1, .f32⟩
  | 1 => ⟨S8x4x2048x2048, .f32⟩
  | 2 => ⟨S8x4x2048x2048, .f32⟩
  | 3 => ⟨S8x4x2048x2048, .f32⟩
  | 4 => ⟨S8x4x2048x2048, .f32⟩
  | 5 => ⟨S8x4x192x2048, .f32⟩
  | 6 => ⟨S8x2048x4x192, .f32⟩
  | 7 => ⟨S_, .f32⟩
  | 8 => ⟨S8x4x2048, .f32⟩
  | 9 => ⟨S8x4x2048, .f32⟩
  | 10 => ⟨S8x4x2048, .f32⟩
  | 11 => ⟨S8x4x2048, .f32⟩
  | 12 => ⟨S8x4x2048, .f32⟩
  | 13 => ⟨S8x2048x4, .f32⟩
  | 14 => ⟨S8x2048x4x1, .f32⟩
  | 15 => ⟨S8x2048x4x192, .f32⟩
  | 16 => ⟨S8x2048x4x192, .f32⟩
  | 17 => ⟨S4x192, .f32⟩
  | 18 => ⟨S8x2048x4x192, .f32⟩
  | 19 => ⟨S_, .f32⟩
  | 20 => ⟨S8x2048x4, .f32⟩
  | 21 => ⟨S8x2048x4x1, .f32⟩
  | 22 => ⟨S_, .f32⟩
  | 23 => ⟨S8x2048x4x1, .f32⟩
  | 24 => ⟨S8x2048x4x1, .f32⟩
  | 25 => ⟨S_, .f32⟩
  | 26 => ⟨S8x2048x4x1, .f32⟩
  | 27 => ⟨S8x2048x4x1, .f32⟩
  | 28 => ⟨S8x2048x4x1, .f32⟩
  | 29 => ⟨S8x2048x4x192, .f32⟩
  | 30 => ⟨S8x2048x4x192, .f32⟩
  | 31 => ⟨S1x1x4x192, .f32⟩
  | 32 => ⟨S8x2048x4x192, .f32⟩
  | 33 => ⟨S8x2048x4x192, .f32⟩
  | 34 => ⟨S8x2048x768, .f32⟩
  | 35 => ⟨S8x2048x768, .f32⟩
  | 36 => ⟨S8x2048x768, .f32⟩
  | 37 => ⟨S_, .f32⟩
  | 38 => ⟨S8x2048x768, .f32⟩
  | 39 => ⟨S8x2048x768, .f32⟩
  | 40 => ⟨S_, .f32⟩
  | 41 => ⟨S8x2048x768, .f32⟩
  | 42 => ⟨S8x2048x768, .f32⟩
  | 43 => ⟨S8x2048x768, .f32⟩
  | 44 => ⟨S16384x768, .f32⟩
  | 45 => ⟨S16384x768, .bf16⟩
  | _ => ⟨S16384x6144, .bf16⟩

abbrev hbmTy (i : Nat) : BufTy := match i / 128 with
  | 0 => hbmTy0_0 i
  | 1 => hbmTy0_1 i
  | _ => ⟨S16384x6144, .bf16⟩

abbrev bufTy : (tb : Table) → Fin (tcTables nBuf tb) → BufTy
  | .hbm, ⟨i, _⟩ => hbmTy i
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_call0_v0 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_0 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_call2_v0 : Ref sig .tc := ⟨.hbm, 85, rfl⟩
abbrev main_call2_call0_cst : Ref sig .tc := ⟨.hbm, 86, rfl⟩
abbrev main_call2_call0_v0 : Ref sig .tc := ⟨.hbm, 87, rfl⟩
abbrev main_call2_call0_v1 : Ref sig .tc := ⟨.hbm, 88, rfl⟩
abbrev main_call2_call0_v2 : Ref sig .tc := ⟨.hbm, 89, rfl⟩
abbrev main_call2_call0_v3 : Ref sig .tc := ⟨.hbm, 90, rfl⟩
abbrev main_call2_call0_v4 : Ref sig .tc := ⟨.hbm, 91, rfl⟩
abbrev main_call2_call0_v5 : Ref sig .tc := ⟨.hbm, 92, rfl⟩
abbrev main_call2_call0_v6 : Ref sig .tc := ⟨.hbm, 93, rfl⟩
abbrev main_call2_call0_v7 : Ref sig .tc := ⟨.hbm, 94, rfl⟩
abbrev main_call2_call0_v8 : Ref sig .tc := ⟨.hbm, 95, rfl⟩
abbrev main_call2_call0_v9 : Ref sig .tc := ⟨.hbm, 96, rfl⟩
abbrev main_call2_call0_v10 : Ref sig .tc := ⟨.hbm, 97, rfl⟩
abbrev main_call2_call0_v11 : Ref sig .tc := ⟨.hbm, 98, rfl⟩
abbrev main_call2_v1 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_1 : Ref sig .tc := ⟨.hbm, 103, rfl⟩
abbrev main_call3_v0 : Ref sig .tc := ⟨.hbm, 104, rfl⟩
abbrev main_call3_v1 : Ref sig .tc := ⟨.hbm, 105, rfl⟩
abbrev main_call3_v2 : Ref sig .tc := ⟨.hbm, 106, rfl⟩
abbrev main_call3_v3 : Ref sig .tc := ⟨.hbm, 107, rfl⟩
abbrev main_v70 : Ref sig .tc := ⟨.hbm, 108, rfl⟩
abbrev main_cst_2 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_3 : Ref sig .tc := ⟨.hbm, 119, rfl⟩
abbrev main_call4_v0 : Ref sig .tc := ⟨.hbm, 120, rfl⟩
abbrev main_call4_v1 : Ref sig .tc := ⟨.hbm, 121, rfl⟩
abbrev main_call4_v2 : Ref sig .tc := ⟨.hbm, 122, rfl⟩
abbrev main_v80 : Ref sig .tc := ⟨.hbm, 123, rfl⟩
abbrev main_cst_4 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_cst_5 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_6 : Ref sig .tc := ⟨.hbm, 147, rfl⟩
abbrev main_v102 : Ref sig .tc := ⟨.hbm, 148, rfl⟩
abbrev main_v103 : Ref sig .tc := ⟨.hbm, 149, rfl⟩
abbrev main_cst_7 : Ref sig .tc := ⟨.hbm, 150, rfl⟩
abbrev main_v104 : Ref sig .tc := ⟨.hbm, 151, rfl⟩
abbrev main_v105 : Ref sig .tc := ⟨.hbm, 152, rfl⟩
abbrev main_cst_8 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_cst_9 : Ref sig .tc := ⟨.hbm, 165, rfl⟩
abbrev main_v117 : Ref sig .tc := ⟨.hbm, 166, rfl⟩
abbrev main_v118 : Ref sig .tc := ⟨.hbm, 167, rfl⟩
abbrev main_cst_10 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩

abbrev nD : Nat := 1
abbrev τ : Topo := Topo.v7x

variable {F : FTy → Type} [FloatOps F]
-- ==== Proof.SguBlock.lean ====
/- The spatial gating call, one block of 512 token rows: the mathematics of a block as one function of the staged
   blocks, and the sixteen stores of the body read as that function. -/
module

public import proofs.«01_k».proof.Proof.Gen.SguIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.SguIdeal.Whole

open Cert.SguIdeal Cert.SguIdeal.Gen

/-- The gated linear unit's smooth gate in its tanh form, on one number. -/
def gelu (x : EReal) : EReal :=
  x * (Ideal.ofBits .f32 0x3F000000#32 * (1 + Ideal.tanh (Ideal.ofBits .f32 0x3F4C422A#32 *
    (x + Ideal.ofBits .f32 0x3D372713#32 * (x * (x * x))))))

/-- The mean of a row of 512 numbers. -/
def mean (f : Fin 512 → EReal) : EReal := Ideal.div (∑ k, f k) (Ideal.ofBits .f32 0x44000000#32)

/-- The layer norm of a row at one place, with that place's gain and offset. -/
def norm (f : Fin 512 → EReal) (k : Fin 512) (g b : EReal) : EReal :=
  (f k - mean f) * Ideal.rsqrt (mean (fun l => (f l - mean f) * (f l - mean f)) + Ideal.ofBits .f32 0x358637BD#32) * g + b

/-! ## The gate of a strip of 128 rows -/

/-- First strip: the body's gate is `gelu` of the loaded entry. -/
theorem gate_first (x : Vec Ideal S128x512 .bf16) (r : Fin 128) (c : Fin 512) :
    k0_pay8 (k0_pay6 x) (k0_pay7 x) (ix2 r c) = gelu (x (ix2 r c)) := by
  pointwise [k0_pay6, k0_pay7, k0_pay8]; rfl

/-- Second strip: the body's gate is `gelu` of the loaded entry. -/
theorem gate_second (x : Vec Ideal S128x512 .bf16) (r : Fin 128) (c : Fin 512) :
    k0_pay15 x (ix2 r c) = gelu (x (ix2 r c)) := by
  pointwise [k0_pay15]; rfl

/-- Third strip: the body's gate is `gelu` of the loaded entry. -/
theorem gate_third (x : Vec Ideal S128x512 .bf16) (r : Fin 128) (c : Fin 512) :
    k0_pay25 x (ix2 r c) = gelu (x (ix2 r c)) := by
  pointwise [k0_pay25]; rfl

/-- Fourth strip: the body's gate is `gelu` of the loaded entry. -/
theorem gate_fourth (x : Vec Ideal S128x512 .bf16) (r : Fin 128) (c : Fin 512) :
    k0_pay34 x (ix2 r c) = gelu (x (ix2 r c)) := by
  pointwise [k0_pay34]; rfl

/-! ## The layer norm of a strip -/

/-- First strip: the normalised value is `norm` of the row of gated entries. -/
theorem norm_first (x : Vec Ideal S128x512 .bf16) (g b : Vec Ideal S1x512 .f32) (r : Fin 128) (c : Fin 512) :
    k0_pay9 x g b (ix2 r c) = norm (fun k => gelu (x (ix2 r k))) c (g (ix2 0 c)) (b (ix2 0 c)) := by
  pointwise [k0_pay9]; rfl

/-- Second strip: the normalised value is `norm` of the row of gated entries. -/
theorem norm_second (x : Vec Ideal S128x512 .bf16) (g b : Vec Ideal S1x512 .f32) (r : Fin 128) (c : Fin 512) :
    k0_pay20 (k0_pay18 x) (k0_pay19 x) g b (ix2 r c)
      = norm (fun k => gelu (x (ix2 r k))) c (g (ix2 0 c)) (b (ix2 0 c)) := by
  pointwise [k0_pay16, k0_pay17, k0_pay18, k0_pay19, k0_pay20]; rfl

/-- Third strip: the normalised value is `norm` of the row of gated entries. -/
theorem norm_third (x : Vec Ideal S128x512 .bf16) (g b : Vec Ideal S1x512 .f32) (r : Fin 128) (c : Fin 512) :
    k0_pay28 (k0_pay26 x) (k0_pay27 x) g b (ix2 r c)
      = norm (fun k => gelu (x (ix2 r k))) c (g (ix2 0 c)) (b (ix2 0 c)) := by
  pointwise [k0_pay26, k0_pay27, k0_pay28]; rfl

/-- Fourth strip: the normalised value is `norm` of the row of gated entries. -/
theorem norm_fourth (x : Vec Ideal S128x512 .bf16) (g b : Vec Ideal S1x512 .f32) (r : Fin 128) (c : Fin 512) :
    k0_pay35 x g b (ix2 r c) = norm (fun k => gelu (x (ix2 r k))) c (g (ix2 0 c)) (b (ix2 0 c)) := by
  pointwise [k0_pay35]; rfl

/-! ## The block -/

/-- A row's place in the block from the strip of row `r` and a place `s` within a strip. -/
def strip (r : Fin 512) (s : Fin 128) : Fin 512 := ⟨r.val / 128 * 128 + s.val, by omega⟩

/-- The spatial weight of group `g` from place `s` to place `t`, kept where the level table is at least -1. -/
def weight (w : Vec Ideal S4x128x128 .f32) (lv : Vec Ideal S128x128 .i32) (g : Fin 4) (t s : Fin 128) : EReal :=
  Scalar.select (IntOp.cmpi .sge (lv (ix2 t s)) 4294967295#32) (w (ix3 g t s)) 0

/-- What the call writes at row `r`, column `c` of a block: the gate times the spatial mix (within the row's strip
    and the column's group) of the normalised rows, with the bias. -/
def block (x0 x1 : Vec Ideal S512x512 .bf16) (x2 x3 : Vec Ideal S1x512 .f32) (x4 : Vec Ideal S4x128x128 .f32)
    (x5 : Vec Ideal S128x512 .f32) (x6 : Vec Ideal S128x128 .i32) (r c : Fin 512) : EReal :=
  gelu (x0 (ix2 r c)) *
    ((∑ s : Fin 128, weight x4 x6 ⟨c.val / 128, by omega⟩ ⟨r.val % 128, by omega⟩ s
        * norm (fun k => gelu (x1 (ix2 (strip r s) k))) c (x2 (ix2 0 c)) (x3 (ix2 0 c)))
      + x5 (ix2 ⟨r.val % 128, by omega⟩ c))

set_option maxHeartbeats 1600000 in
/-- The sixteen stores of the body, put together, are `block`. -/
theorem stores_eq (x0 x1 : Vec Ideal S512x512 .bf16) (x2 x3 : Vec Ideal S1x512 .f32) (x4 : Vec Ideal S4x128x128 .f32)
    (x5 : Vec Ideal S128x512 .f32) (x6 : Vec Ideal S128x128 .i32) (r c : Fin 512) :
    out0_7 x0 x1 x2 x3 x4 x5 x6 (ix2 r c) = block x0 x1 x2 x3 x4 x5 x6 r c := by
  canon_tiles x h
  all_goals
    idx_vars x
    pointwise [k0_pay1, k0_pay2, k0_pay3, k0_pay4, k0_pay5, k0_pay10, k0_pay11, k0_pay12, k0_pay13, k0_pay14,
      k0_pay21, k0_pay22, k0_pay23, k0_pay24, k0_pay29, k0_pay30, k0_pay31, k0_pay32, k0_pay33, k0_pay36, k0_pay37,
      k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, gate_first, gate_second, gate_third,
      gate_fourth, norm_first, norm_second, norm_third, norm_fourth, block, weight, strip] at h0 h1 ⊢
    blk_point []

end Cert.SguIdeal.Whole

end
-- ==== Proof.SguMask.lean ====
/- The causal table of the spatial gating call: at row `t`, column `s` the stored level is at least -1 exactly when
   `s` is not after `t`. -/
module

public import proofs.«01_k».proof.SguIdeal

@[expose] public section

set_option maxRecDepth 16384

noncomputable section

open Idealize.ShloMosaic

namespace Cert.SguIdeal.Whole

open Cert.SguIdeal

/-- The stored table's comparison with -1 is the comparison of the column with the row, at every place (decided). -/
theorem table_word : ∀ t s : Fin 128,
    IntOp.cmpi CmpIPredicate.sge (lit0 ⟨t.val * 128 + s.val, by omega⟩) 4294967295#32
      = if s.val ≤ t.val then 1#1 else 0#1 := by
  decide +kernel

/-- The reference's comparison of the row number with the column number, as words, at every place (decided). -/
theorem count_word : ∀ t s : Fin 128,
    IntOp.cmpi CmpIPredicate.sge (IntOp.addi (BitVec.ofNat 32 t.val) 0#32) (BitVec.ofNat 32 s.val)
      = if s.val ≤ t.val then 1#1 else 0#1 := by
  decide +kernel

end Cert.SguIdeal.Whole

end
-- ==== Proof.SguRef.lean ====
/- The spatial gating reference read at one row and one column: the same gate, layer norm and causal spatial mix, over
   the whole array. -/
module

public import proofs.«01_k».proof.Proof.SguBlock
public import proofs.«01_k».proof.Proof.SguMask
public import proofs.«01_k».proof.Proof.Gen.SguReferenceIdeal.Read

@[expose] public section

set_option maxRecDepth 16384

noncomputable section

open Idealize.ShloMosaic Idealize.ShloMosaic.TcCoe Idealize.SL.Sem
open scoped BigOperators

namespace Cert.SguIdeal.RefValue

open Cert.SguReferenceIdeal Cert.SguReferenceIdeal.Gen Cert.SguReferenceIdeal.Read
open Cert.SguIdeal.Whole (gelu mean)

/-- The reference's gate of the first 512 of its two column ranges. -/
theorem gate_at (x : FVec Ideal S16384x6144 .bf16) (b : Fin 8) (s : Fin 2048) (c : Fin 512) :
    val_main_v15 (F := Ideal) x (ix3 b s c)
      = gelu (x (ix2 ⟨b.val * 2048 + s.val, by omega⟩ ⟨2048 + c.val, by omega⟩)) := by
  pointwise! [val_main_v0, val_main_v1, val_main_v2, val_main_v3, val_main_v4, val_main_v5, val_main_v6, val_main_v7,
    val_main_v8, val_main_v9, val_main_v10, val_main_v11, val_main_v12, val_main_v13, val_main_v14, val_main_v15,
    val_main_cst, val_main_cst_0, val_main_cst_1, val_main_cst_2, gelu]

/-- The reference's gate of the second 512 columns. -/
theorem gate2_at (x : FVec Ideal S16384x6144 .bf16) (b : Fin 8) (s : Fin 2048) (c : Fin 512) :
    val_main_v29 (F := Ideal) x (ix3 b s c)
      = gelu (x (ix2 ⟨b.val * 2048 + s.val, by omega⟩ ⟨2560 + c.val, by omega⟩)) := by
  pointwise! [val_main_v0, val_main_v1, val_main_v16, val_main_v17, val_main_v18, val_main_v19, val_main_v20,
    val_main_v21, val_main_v22, val_main_v23, val_main_v24, val_main_v25, val_main_v26, val_main_v27, val_main_v28,
    val_main_v29, val_main_cst_3, val_main_cst_4, val_main_cst_5, val_main_cst_6, gelu]

/-- The reference's layer norm of the second gate's row. -/
theorem norm_at (x : FVec Ideal S16384x6144 .bf16) (g o : FVec Ideal S512 .f32) (b : Fin 8) (s : Fin 2048) (c : Fin 512) :
    val_main_v53 (F := Ideal) x g o (ix3 b s c)
      = Cert.SguIdeal.Whole.norm (fun k => gelu (x (ix2 ⟨b.val * 2048 + s.val, by omega⟩ ⟨2560 + k.val, by omega⟩))) c (g (ix1 c)) (o (ix1 c)) := by
  pointwise [val_main_v30, val_main_v31, val_main_v32, val_main_v33, val_main_v34, val_main_v35, val_main_v36,
    val_main_v37, val_main_v38, val_main_v39, val_main_v40, val_main_v41, val_main_v42, val_main_v43, val_main_v44,
    val_main_v45, val_main_v46, val_main_v47, val_main_v48, val_main_v49, val_main_v50, val_main_v51, val_main_v52,
    val_main_v53, val_main_cst_7, val_main_cst_8, val_main_cst_9, val_main_cst_10, val_main_cst_11, gate2_at, Cert.SguIdeal.Whole.norm, mean]

/-- The reference's masked spatial weight: kept where the column is not after the row. -/
theorem weight_at (w : FVec Ideal S4x128x128 .f32) (g : Fin 4) (t s : Fin 128) :
    val_main_v55 (F := Ideal) w (ix3 g t s) = if s.val ≤ t.val then w (ix3 g t s) else 0 := by
  pointwise [val_main_v55, val_main_call0_v0, val_main_call0_v1, val_main_call0_v2, val_main_call0_v3, val_main_call0_v4,
    val_main_call0_v5, val_main_call0_v6, val_main_call0_c, val_main_call0_cst]
  rw [Cert.SguIdeal.Whole.count_word t s]
  split_ifs <;> rfl

/-- The reference's result at row `r`, column `c`. -/
theorem ref_at (x : FVec Ideal S16384x6144 .bf16) (g o : FVec Ideal S512 .f32) (w : FVec Ideal S4x128x128 .f32)
    (b : FVec Ideal S4x128 .f32) (r : Fin 16384) (c : Fin 512) :
    val_main_v65 (F := Ideal) x g o w b (ix2 r c)
      = gelu (x (ix2 r ⟨2048 + c.val, by omega⟩)) *
        ((∑ s : Fin 128, (if s.val ≤ r.val % 128 then w (ix3 ⟨c.val / 128, by omega⟩ ⟨r.val % 128, by omega⟩ s) else 0)
            * Cert.SguIdeal.Whole.norm (fun k => gelu (x (ix2 ⟨r.val / 128 * 128 + s.val, by omega⟩ ⟨2560 + k.val, by omega⟩))) c
                (g (ix1 c)) (o (ix1 c)))
          + b (ix2 ⟨c.val / 128, by omega⟩ ⟨r.val % 128, by omega⟩)) := by
  have hr : r.val / 2048 * 2048 + r.val % 2048 = r.val := by omega
  have hm : r.val % 2048 % 128 = r.val % 128 := by omega
  have hs : ∀ s : ℕ, r.val / 2048 * 2048 + (r.val % 2048 / 128 * 128 + s) = r.val / 128 * 128 + s := fun s => by omega
  pointwise [val_main_v65, val_main_v64, val_main_v63, val_main_v62, val_main_v61, val_main_v60, val_main_v59,
    val_main_v58, val_main_v57, val_main_v56, val_main_v54, gate_at, norm_at, weight_at, hr, hm, hs]
  exact congrArg (_ * ·) (congrArg (· + _) (Finset.sum_congr rfl fun s _ => mul_comm _ _))

end Cert.SguIdeal.RefValue

end
-- ==== Proof.SguValue.lean ====
/- The spatial gating call: its result array is the reference's value, index by index. -/
module

public import proofs.«01_k».proof.Proof.SguRef

@[expose] public section

set_option maxRecDepth 16384

noncomputable section

open Idealize.ShloMosaic Idealize.ShloMosaic.TcCoe Idealize.SL.Sem
open Idealize.ShloMosaic.Pipeline (Dat)
open scoped BigOperators

namespace Cert.SguIdeal.Whole

open Cert.SguIdeal Cert.SguIdeal.Gen

variable (m : (ℓ : Loc nD τ sig) → Buf (Elt Ideal) ℓ)

/-- The reference's result as a function of the five arguments. -/
def refSgu (a0 : FVec Ideal S16384x6144 .bf16) (a1 a2 : FVec Ideal S512 .f32) (a3 : FVec Ideal S4x128x128 .f32)
    (a4 : FVec Ideal S4x128 .f32) : FVec Ideal S16384x512 .bf16 :=
  Cert.SguReferenceIdeal.Read.val_main_v65 (F := Ideal) a0 a1 a2 a3 a4

/-- Where each window's block lies at a grid point: the row blocks of both column ranges and of the result advance
    with the point, everything else stays. -/
theorem places : ∀ t : Fin cfg0.N, win0_0.index t = ![t.val, 4]
    ∧ win0_1.index t = ![t.val, 5]
    ∧ win0_2.index t = ![0, 0]
    ∧ win0_3.index t = ![0, 0]
    ∧ win0_4.index t = ![0, 0, 0]
    ∧ win0_5.index t = ![0, 0]
    ∧ win0_6.index t = ![0, 0]
    ∧ win0_7.index t = ![t.val, 0] :=
  (by decide +kernel : ∀ t : Fin grid0.N, _)

/-- The staged table at row `a`, column `s` is the stored word of that place. -/
theorem table_at (c : Dev nD) (t : Fin cfg0.N) (a s : Fin 128) :
    (show IVec S128x128 32 from iblk m c 6 t) (ix2 a s) = lit0 ⟨a.val * 128 + s.val, by omega⟩ := by
  have h : (show IVec S128x128 32 from iblk m c 6 t) (ix2 a s)
      = (show IVec S128x128 32 from V m c main_c) (ix2 a s) := by
    blk_ext [iblk, places t]
  rw [h]
  entry_read
  refine congrArg lit0 (Fin.ext ?_)
  exact Shape.rowMajor_val_two _

/-- The weight of the block: the argument's where the column is not after the row, else zero. -/
theorem weight_block (c : Dev nD) (t : Fin cfg0.N) (g : Fin 4) (a s : Fin 128) :
    weight (iblk m c 4 t) (iblk m c 6 t) g a s
      = if s.val ≤ a.val then (show FVec Ideal S4x128x128 .f32 from m ((c : Thread nD τ).loc main_arg3)) (ix3 g a s) else 0 := by
  unfold weight
  have h : (show Vec Ideal S4x128x128 .f32 from iblk m c 4 t) (ix3 g a s)
      = (show FVec Ideal S4x128x128 .f32 from m ((c : Thread nD τ).loc main_arg3)) (ix3 g a s) := by
    blk_ext [iblk, V, places t]
  rw [show (iblk m c 6 t : Vec Ideal S128x128 .i32) (ix2 a s) = _ from table_at m c t a s, table_word a s]
  rw [show (iblk m c 4 t : Vec Ideal S4x128x128 .f32) (ix3 g a s) = _ from h]
  split_ifs <;> rfl

/-- The grid has thirty-two points. -/
theorem point_lt (t : Fin cfg0.N) : t.val < 32 := lt_of_lt_of_eq t.isLt (show cfg0.N = 32 from N_0)

/-- The staged left half of the gate branch, read at its place in the projection. -/
theorem left_at (c : Dev nD) (t : Fin cfg0.N) (r k : Fin 512) :
    (show Vec Ideal S512x512 .bf16 from iblk m c 0 t) (ix2 r k)
      = (show FVec Ideal S16384x6144 .bf16 from m ((c : Thread nD τ).loc main_arg0))
          (ix2 ⟨t.val * 512 + r.val, by have := point_lt t; omega⟩ ⟨2048 + k.val, by omega⟩) := by
  have := point_lt t
  blk_ext [iblk, V, places t]

/-- The staged right half of the gate branch, read at its place in the projection. -/
theorem right_at (c : Dev nD) (t : Fin cfg0.N) (r k : Fin 512) :
    (show Vec Ideal S512x512 .bf16 from iblk m c 1 t) (ix2 r k)
      = (show FVec Ideal S16384x6144 .bf16 from m ((c : Thread nD τ).loc main_arg0))
          (ix2 ⟨t.val * 512 + r.val, by have := point_lt t; omega⟩ ⟨2560 + k.val, by omega⟩) := by
  have := point_lt t
  blk_ext [iblk, V, places t]

/-- The staged scale of the normalisation. -/
theorem scale_at (c : Dev nD) (t : Fin cfg0.N) (k : Fin 512) :
    (show Vec Ideal S1x512 .f32 from iblk m c 2 t) (ix2 0 k)
      = (show FVec Ideal S512 .f32 from m ((c : Thread nD τ).loc main_arg1)) (ix1 k) := by
  blk_point [iblk, V, places t]

/-- The staged offset of the normalisation. -/
theorem offset_at (c : Dev nD) (t : Fin cfg0.N) (k : Fin 512) :
    (show Vec Ideal S1x512 .f32 from iblk m c 3 t) (ix2 0 k)
      = (show FVec Ideal S512 .f32 from m ((c : Thread nD τ).loc main_arg2)) (ix1 k) := by
  blk_point [iblk, V, places t]

/-- The staged bias: each channel takes its group's. -/
theorem bias_at (c : Dev nD) (t : Fin cfg0.N) (a : Fin 128) (k : Fin 512) :
    (show Vec Ideal S128x512 .f32 from iblk m c 5 t) (ix2 a k)
      = (show FVec Ideal S4x128 .f32 from m ((c : Thread nD τ).loc main_arg4)) (ix2 ⟨k.val / 128, by omega⟩ a) := by
  blk_point [iblk, V, places t]

/-- What a grid point's block holds at row `r`, column `k` is the reference's value at the array place. -/
theorem point (c : Dev nD) (t : Fin cfg0.N) (r k : Fin 512) :
    block (iblk m c 0 t) (iblk m c 1 t) (iblk m c 2 t) (iblk m c 3 t) (iblk m c 4 t) (iblk m c 5 t) (iblk m c 6 t) r k
      = refSgu (m ((c : Thread nD τ).loc main_arg0)) (m ((c : Thread nD τ).loc main_arg1))
          (m ((c : Thread nD τ).loc main_arg2)) (m ((c : Thread nD τ).loc main_arg3))
          (m ((c : Thread nD τ).loc main_arg4)) (ix2 ⟨t.val * 512 + r.val, by have := point_lt t; omega⟩ k) := by
  have ht := point_lt t
  have e1 : (t.val * 512 + r.val) % 128 = r.val % 128 := by omega
  have e2 : (t.val * 512 + r.val) / 128 * 128 = t.val * 512 + r.val / 128 * 128 := by omega
  unfold block refSgu
  simp only [weight_block]
  refine Eq.trans ?_ (RefValue.ref_at _ _ _ _ _ _ _).symm
  rw [show (iblk m c 0 t : Vec Ideal S512x512 .bf16) (ix2 r k) = _ from left_at m c t r k,
    show (iblk m c 5 t : Vec Ideal S128x512 .f32) (ix2 ⟨r.val % 128, by omega⟩ k) = _ from bias_at m c t _ k,
    show (iblk m c 2 t : Vec Ideal S1x512 .f32) (ix2 0 k) = _ from scale_at m c t k,
    show (iblk m c 3 t : Vec Ideal S1x512 .f32) (ix2 0 k) = _ from offset_at m c t k]
  simp only [e1, e2]
  refine congrArg₂ HMul.hMul rfl (congrArg₂ HAdd.hAdd (Finset.sum_congr rfl fun s _ => congrArg₂ HMul.hMul rfl ?_) rfl)
  refine congrArg (fun f => Cert.SguIdeal.Whole.norm f k _ _) (funext fun q => congrArg gelu ?_)
  refine (right_at m c t (strip r s) q).trans ?_
  refine congrArg _ ?_
  unfold strip
  simp only [Nat.add_assoc]

/-- The call's result array after the run is the reference's. -/
theorem result (c : Dev nD) : (dats m 0 c).arrAt 7 (cfgs 0).N
    = refSgu (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 7 _ (by decide +kernel) fun t hf y => ?_
  blk_simp; rw [after0_7]
  idx_vars y
  refine (stores_eq _ _ _ _ _ _ _ _ _).trans ((point m c t _ _).trans ?_)
  refine congrArg _ ?_
  blk_ext [places t]

end Cert.SguIdeal.Whole

end
-- ==== Proof.FfnBlock.lean ====
/- The gated feed-forward call, one grid point: what each of the body's stores computes, read at an index. -/
module

public import proofs.«01_k».proof.Proof.Gen.FfnIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.FfnIdeal.Whole

open Cert.FfnIdeal Cert.FfnIdeal.Gen

/-- A row of 2048 numbers divided by its root mean square, at one place, with that place's gain. -/
def rms (f : Fin 2048 → EReal) (k : Fin 2048) (g : EReal) : EReal :=
  f k * Ideal.rsqrt (Ideal.div (∑ l, f l * f l) (Ideal.ofBits .f32 0x45000000#32) + Ideal.ofBits .f32 0x358637BD#32) * g

/-- A hidden unit: the smooth gate of the row's product with one column, times its product with another. -/
def hidden (h u v : Fin 2048 → EReal) : EReal :=
  (∑ q, h q * u q) * Ideal.logistic (∑ q, h q * u q) * (∑ q, h q * v q)

/-- The first store: the normalised row. -/
theorem pay1_at (x : Vec Ideal S1024x2048 .f32) (g : Vec Ideal S1x2048 .f32) (r : Fin 1024) (k : Fin 2048) :
    k0_pay1 x g (ix2 r k) = rms (fun l => x (ix2 r l)) k (g (ix2 0 k)) := by
  pointwise [k0_pay1]; rfl

/-- The accumulating store: what was there plus 512 hidden units times their rows of the down projection. -/
theorem pay2_at (h : Vec Ideal S1024x2048 .bf16) (w : Vec Ideal S2048x1024 .bf16) (a : Vec Ideal S1024x2048 .f32)
    (d : Vec Ideal S512x2048 .bf16) (r : Fin 1024) (k : Fin 2048) :
    k0_pay2 h w a d (ix2 r k) = a (ix2 r k) + ∑ s : Fin 512,
      hidden (fun q => h (ix2 r q)) (fun q => w (ix2 q ⟨s.val, by omega⟩)) (fun q => w (ix2 q ⟨512 + s.val, by omega⟩))
        * d (ix2 s k) := by
  pointwise [k0_pay2]
  rfl

/-- The closing store: the accumulated row, normalised. -/
theorem pay3_at (x : Vec Ideal S1024x2048 .f32) (g : Vec Ideal S1x2048 .f32) (r : Fin 1024) (k : Fin 2048) :
    k0_pay3 x g (ix2 r k) = rms (fun l => x (ix2 r l)) k (g (ix2 0 k)) := by
  pointwise [k0_pay3]; rfl

end Cert.FfnIdeal.Whole

end
-- ==== Proof.FfnRef.lean ====
/- The gated feed-forward call: its reference read at an index. -/
module

public import proofs.«01_k».proof.Proof.FfnBlock
public import proofs.«01_k».proof.Proof.Gen.FfnReferenceIdeal.Read

@[expose] public section

set_option maxRecDepth 16384

noncomputable section

open Idealize.ShloMosaic Idealize.ShloMosaic.TcCoe Idealize.SL.Sem
open Idealize.ShloMosaic.Pipeline (Dat)
open scoped BigOperators

namespace Cert.FfnIdeal.RefValue

open Cert.FfnIdeal.Whole (rms hidden)
open Cert.FfnReferenceIdeal Cert.FfnReferenceIdeal.Read

variable (x : FVec Ideal S16384x2048 .f32) (g : FVec Ideal S2048 .f32) (w : FVec Ideal S2048x11264 .bf16)
  (d : FVec Ideal S5632x2048 .bf16) (n : FVec Ideal S2048 .f32)

/-- The reference's normalised input. -/
theorem rms_at (r : Fin 16384) (k : Fin 2048) :
    val_main_v20 (F := Ideal) x g (ix2 r k) = rms (fun l => x (ix2 r l)) k (g (ix1 k)) := by
  pointwise [val_main_v20, val_main_v19, val_main_v18, val_main_v17, val_main_v16, val_main_v15, val_main_v14,
    val_main_v13, val_main_v12, val_main_v11, val_main_v10, val_main_v9, val_main_v8, val_main_cst, val_main_cst_0, val_main_cst_1]
  unfold rms
  blk_point []

/-- The gate's columns: of every 1024 columns of the joint weight, the first 512. -/
theorem gate_col (q : Fin 2048) (j : Fin 5632) :
    val_main_v4 (F := Ideal) w (ix2 q j) = w (ix2 q ⟨j.val / 512 * 1024 + j.val % 512, by omega⟩) := by
  pointwise [val_main_v4, val_main_v3, val_main_v2, val_main_v1, val_main_v0]

/-- The up projection's columns: of every 1024 columns of the joint weight, the last 512. -/
theorem up_col (q : Fin 2048) (j : Fin 5632) :
    val_main_v7 (F := Ideal) w (ix2 q j) = w (ix2 q ⟨j.val / 512 * 1024 + (512 + j.val % 512), by omega⟩) := by
  pointwise [val_main_v7, val_main_v6, val_main_v5, val_main_v1, val_main_v0]
  blk_point []

/-- The reference's hidden units. -/
theorem hidden_at (r : Fin 16384) (j : Fin 5632) :
    val_main_v24 (F := Ideal) x g w (ix2 r j)
      = hidden (fun q => rms (fun l => x (ix2 r l)) q (g (ix1 q)))
          (fun q => w (ix2 q ⟨j.val / 512 * 1024 + j.val % 512, by omega⟩))
          (fun q => w (ix2 q ⟨j.val / 512 * 1024 + (512 + j.val % 512), by omega⟩)) := by
  pointwise [val_main_v24, val_main_v23, val_main_v22, val_main_v21, val_main_call0_v0, val_main_call0_v1,
    val_main_call0_v2, val_main_call0_v3, val_main_call0_v4, val_main_call0_v5, val_main_call0_cst, val_main_call0_cst_0]
  simp only [rms_at, gate_col, up_col]
  rfl

/-- The reference's residual sum. -/
theorem sum_at (r : Fin 16384) (k : Fin 2048) :
    val_main_v27 (F := Ideal) x g w d (ix2 r k) = x (ix2 r k) + ∑ j : Fin 5632,
      hidden (fun q => rms (fun l => x (ix2 r l)) q (g (ix1 q)))
          (fun q => w (ix2 q ⟨j.val / 512 * 1024 + j.val % 512, by omega⟩))
          (fun q => w (ix2 q ⟨j.val / 512 * 1024 + (512 + j.val % 512), by omega⟩)) * d (ix2 j k) := by
  pointwise [val_main_v27, val_main_v26, val_main_v25]
  simp only [hidden_at]

/-- The reference's result is the normalised residual sum. -/
theorem ref_at (r : Fin 16384) (k : Fin 2048) :
    val_main_v40 (F := Ideal) x g w d n (ix2 r k)
      = rms (fun l => val_main_v27 (F := Ideal) x g w d (ix2 r l)) k (n (ix1 k)) := by
  pointwise [val_main_v40, val_main_v39, val_main_v38, val_main_v37, val_main_v36, val_main_v35, val_main_v34,
    val_main_v33, val_main_v32, val_main_v31, val_main_v30, val_main_v29, val_main_v28, val_main_cst_2, val_main_cst_3, val_main_cst_4]
  unfold rms
  blk_point []

end Cert.FfnIdeal.RefValue

end
-- ==== Proof.FfnValue.lean ====
/- The gated feed-forward call: along the eleven points of a row block the staged result accumulates the residual sum
   over the hidden units, and the last of them normalises it. -/
module

public import proofs.«01_k».proof.Proof.FfnRef

@[expose] public section

set_option maxRecDepth 16384

noncomputable section

open Idealize.ShloMosaic Idealize.ShloMosaic.TcCoe Idealize.SL.Sem
open Idealize.ShloMosaic.Pipeline (Dat)
open scoped BigOperators

namespace Cert.FfnIdeal.Whole

open Cert.FfnIdeal Cert.FfnIdeal.Gen

variable (m : (ℓ : Loc nD τ sig) → Buf (Elt Ideal) ℓ)

/-- Where each window's block lies at a grid point: the row block is the point's eleventh, the weight blocks its
    remainder. -/
theorem places : ∀ t : Fin cfg0.N, win0_0.index t = ![t.val / 11, 0]
    ∧ win0_1.index t = ![0, 0]
    ∧ win0_2.index t = ![0, t.val % 11]
    ∧ win0_3.index t = ![t.val % 11, 0]
    ∧ win0_4.index t = ![0, 0]
    ∧ win0_5.index t = ![t.val / 11, 0] :=
  (by decide +kernel : ∀ t : Fin grid0.N, _)

/-- The grid has 176 points. -/
theorem point_lt (t : Fin cfg0.N) : t.val < 176 := lt_of_lt_of_eq t.isLt (show cfg0.N = 176 from N_0)

/-- The token row of the array that row `r` of a point's block is. -/
def row (n : ℕ) (hn : n < 176) (r : Fin 1024) : Fin 16384 := ⟨n / 11 * 1024 + r.val, by omega⟩

/-- The five arguments. -/
def argX (c : Dev nD) : FVec Ideal S16384x2048 .f32 := m ((c : Thread nD τ).loc main_arg0)
@[inherit_doc argX]
def argG (c : Dev nD) : FVec Ideal S2048 .f32 := m ((c : Thread nD τ).loc main_arg1)
@[inherit_doc argX]
def argW (c : Dev nD) : FVec Ideal S2048x11264 .bf16 := m ((c : Thread nD τ).loc main_arg2)
@[inherit_doc argX]
def argD (c : Dev nD) : FVec Ideal S5632x2048 .bf16 := m ((c : Thread nD τ).loc main_arg3)
@[inherit_doc argX]
def argN (c : Dev nD) : FVec Ideal S2048 .f32 := m ((c : Thread nD τ).loc main_arg4)

/-- The normalised token row. -/
def normRow (c : Dev nD) (a : Fin 16384) (q : Fin 2048) : EReal :=
  rms (fun l => argX m c (ix2 a l)) q (argG m c (ix1 q))

/-- The share of the `j`-th strip of 512 hidden units in the residual sum. -/
def share (c : Dev nD) (a : Fin 16384) (k : Fin 2048) (j : ℕ) : EReal :=
  ∑ s : Fin 512, hidden (normRow m c a)
      (fun q => argW m c (ix2 q ⟨j % 11 * 1024 + s.val, by omega⟩))
      (fun q => argW m c (ix2 q ⟨j % 11 * 1024 + (512 + s.val), by omega⟩))
    * argD m c (ix2 ⟨j % 11 * 512 + s.val, by omega⟩ k)

/-! ## The staged blocks -/

/-- The staged rows. -/
theorem rows_at (c : Dev nD) (t : Fin cfg0.N) (r : Fin 1024) (k : Fin 2048) :
    (show Vec Ideal S1024x2048 .f32 from iblk m c 0 t) (ix2 r k) = argX m c (ix2 (row t.val (point_lt t) r) k) := by
  have := point_lt t
  unfold argX row
  blk_point [iblk, V, places t]

/-- The staged gain of the first normalisation. -/
theorem gain_at (c : Dev nD) (t : Fin cfg0.N) (k : Fin 2048) :
    (show Vec Ideal S1x2048 .f32 from iblk m c 1 t) (ix2 0 k) = argG m c (ix1 k) := by
  unfold argG
  blk_point [iblk, V, places t]

/-- The staged columns of the joint weight. -/
theorem cols_at (c : Dev nD) (t : Fin cfg0.N) (q : Fin 2048) (j : Fin 1024) :
    (show Vec Ideal S2048x1024 .bf16 from iblk m c 2 t) (ix2 q j)
      = argW m c (ix2 q ⟨t.val % 11 * 1024 + j.val, by omega⟩) := by
  unfold argW
  blk_point [iblk, V, places t]

/-- The staged rows of the down projection. -/
theorem down_at (c : Dev nD) (t : Fin cfg0.N) (s : Fin 512) (k : Fin 2048) :
    (show Vec Ideal S512x2048 .bf16 from iblk m c 3 t) (ix2 s k)
      = argD m c (ix2 ⟨t.val % 11 * 512 + s.val, by omega⟩ k) := by
  unfold argD
  blk_point [iblk, V, places t]

/-- The staged gain of the closing normalisation. -/
theorem last_gain_at (c : Dev nD) (t : Fin cfg0.N) (k : Fin 2048) :
    (show Vec Ideal S1x2048 .f32 from iblk m c 4 t) (ix2 0 k) = argN m c (ix1 k) := by
  unfold argN
  blk_point [iblk, V, places t]

/-! ## The points of a row block -/

/-- The normalised rows, as the first store of a row block leaves them. -/
theorem norm_block (c : Dev nD) (t : Fin cfg0.N) (r : Fin 1024) (q : Fin 2048) :
    k0_pay1 (iblk m c 0 t) (iblk m c 1 t) (ix2 r q) = normRow m c (row t.val (point_lt t) r) q := by
  refine (pay1_at _ _ r q).trans ?_
  unfold normRow
  rw [show (iblk m c 1 t : Vec Ideal S1x2048 .f32) (ix2 0 q) = _ from gain_at m c t q]
  exact congrArg (fun f => rms f q _) (funext fun l => rows_at m c t r l)

/-- One accumulating store, over normalised rows: what was there plus the point's share. -/
theorem step_block (c : Dev nD) (t : Fin cfg0.N) (h : Vec Ideal S1024x2048 .bf16) (a : Vec Ideal S1024x2048 .f32)
    (r : Fin 1024) (k : Fin 2048) (hh : ∀ q, h (ix2 r q) = normRow m c (row t.val (point_lt t) r) q) :
    k0_pay2 h (iblk m c 2 t) a (iblk m c 3 t) (ix2 r k)
      = a (ix2 r k) + share m c (row t.val (point_lt t) r) k (t.val % 11) := by
  refine (pay2_at _ _ _ _ r k).trans (congrArg (a (ix2 r k) + ·) ?_)
  unfold share
  refine Finset.sum_congr rfl fun s _ => ?_
  have e : t.val % 11 % 11 = t.val % 11 := by omega
  rw [show (iblk m c 3 t : Vec Ideal S512x2048 .bf16) (ix2 s k) = _ from down_at m c t s k]
  simp only [e]
  refine congrArg₂ HMul.hMul ?_ rfl
  rw [show (fun q => h (ix2 r q)) = normRow m c (row t.val (point_lt t) r) from funext hh]
  exact congrArg₂ (hidden _) (funext fun q => cols_at m c t q _) (funext fun q => cols_at m c t q _)

/-- Before its last point a row block holds the rows plus the shares so far, and the scratch the normalised rows. -/
theorem running (c : Dev nD) : ∀ (n : ℕ) (hn : n < cfg0.N), n % 11 ≠ 10 →
    (∀ (r : Fin 1024) (k : Fin 2048), (outsAt0 m c n hn).1 (ix2 r k)
      = argX m c (ix2 (row n (point_lt ⟨n, hn⟩) r) k)
        + ∑ j ∈ Finset.range (n % 11 + 1), share m c (row n (point_lt ⟨n, hn⟩) r) k j)
    ∧ ∀ (r : Fin 1024) (q : Fin 2048), (outsAt0 m c n hn).2 (ix2 r q) = normRow m c (row n (point_lt ⟨n, hn⟩) r) q := by
  intro n
  induction n with
  | zero =>
    intro hn h1
    rw [outsAt0_A m c ⟨0, hn⟩ rfl (fun h => by cases h)]
    frame_out
    refine ⟨fun r k => ?_, norm_block m c ⟨0, hn⟩⟩
    refine (step_block m c ⟨0, hn⟩ _ _ r k (norm_block m c ⟨0, hn⟩ r)).trans ?_
    exact congrArg₂ HAdd.hAdd (rows_at m c ⟨0, hn⟩ r k) (Finset.sum_range_one _).symm
  | succ n ih =>
    intro hn h1
    have hN : n + 1 < 176 := point_lt ⟨n + 1, hn⟩
    by_cases h0 : (n + 1) % 11 = 0
    · rw [outsAt0_A m c ⟨n + 1, hn⟩ h0 h1]
      frame_out
      refine ⟨fun r k => ?_, norm_block m c ⟨n + 1, hn⟩⟩
      refine (step_block m c ⟨n + 1, hn⟩ _ _ r k (norm_block m c ⟨n + 1, hn⟩ r)).trans ?_
      refine congrArg₂ HAdd.hAdd (rows_at m c ⟨n + 1, hn⟩ r k) ?_
      simp only [h0]
      exact (Finset.sum_range_one _).symm
    · obtain ⟨i1, i2⟩ := ih (by omega) (by omega)
      have e : ∀ r, row n (by omega) r = row (n + 1) hN r := fun r => by
        unfold row; refine Fin.ext ?_; show n / 11 * 1024 + r.val = (n + 1) / 11 * 1024 + r.val
        omega
      have e1 : (n + 1) % 11 = n % 11 + 1 := by omega
      rw [outsAt0_B m c ⟨n + 1, hn⟩ h0 h1]
      frame_out
      have i3 : ∀ r q, (outsAt0 m c (n + 1 - 1) (by omega)).2 (ix2 r q) = normRow m c (row (n + 1) hN r) q :=
        fun r q => (i2 r q).trans (congrArg (normRow m c · q) (e r))
      refine ⟨fun r k => ?_, fun r q => ?_⟩
      · refine (step_block m c ⟨n + 1, hn⟩ _ _ r k (fun q => ?_)).trans ?_
        · exact (congrFun (Memref.IsWhole.read_unread _ _) _).trans (i3 r q)
        · have := i1 r k
          rw [e r] at this
          simp only [e1]
          rw [Finset.sum_range_succ, ← add_assoc]
          exact congrArg₂ HAdd.hAdd this rfl
      · exact i3 r q

/-! ## The array -/

/-- The reference's result as a function of the five arguments. -/
def refFfn (a0 : FVec Ideal S16384x2048 .f32) (a1 : FVec Ideal S2048 .f32) (a2 : FVec Ideal S2048x11264 .bf16)
    (a3 : FVec Ideal S5632x2048 .bf16) (a4 : FVec Ideal S2048 .f32) : FVec Ideal S16384x2048 .f32 :=
  Cert.FfnReferenceIdeal.Read.val_main_v40 (F := Ideal) a0 a1 a2 a3 a4

/-- The reference's residual sum, its hidden units taken strip by strip. -/
theorem strips (c : Dev nD) (a : Fin 16384) (k : Fin 2048) :
    Cert.FfnReferenceIdeal.Read.val_main_v27 (F := Ideal) (argX m c) (argG m c) (argW m c) (argD m c) (ix2 a k)
      = argX m c (ix2 a k) + ∑ j ∈ Finset.range 11, share m c a k j := by
  refine (RefValue.sum_at _ _ _ _ a k).trans (congrArg (argX m c (ix2 a k) + ·) ?_)
  rw [Finset.sum_range]
  unfold share
  refine (Fin.sum_mul_add_congr (S := 11) (n := 512) fun s l hl => ?_).symm
  have e1 : (s.val * 512 + l.val) / 512 = s.val := by omega
  have e2 : (s.val * 512 + l.val) % 512 = l.val := by omega
  have e3 : s.val % 11 = s.val := by omega
  simp only [e1, e2, e3]
  rfl

/-- What the last point of a row block leaves is the reference's value at the array place. -/
theorem point (c : Dev nD) (t : Fin cfg0.N) (h1 : t.val % 11 = 10) (r : Fin 1024) (k : Fin 2048) :
    (outsAt0 m c t.val t.isLt).1 (ix2 r k)
      = refFfn (argX m c) (argG m c) (argW m c) (argD m c) (argN m c) (ix2 (row t.val (point_lt t) r) k) := by
  have hN := point_lt t
  obtain ⟨i1, i2⟩ := running m c (t.val - 1) (lt_of_le_of_lt (Nat.sub_le _ _) t.isLt) (by omega)
  have e : ∀ r, row (t.val - 1) (by omega) r = row t.val hN r := fun r => by
    unfold row; refine Fin.ext ?_; show (t.val - 1) / 11 * 1024 + r.val = t.val / 11 * 1024 + r.val
    omega
  have e1 : (t.val - 1) % 11 = 9 := by omega
  rw [outsAt0_C m c t (by omega) h1]
  frame_out
  refine Eq.trans ?_ (RefValue.ref_at _ _ _ _ _ _ _).symm
  refine (pay3_at _ _ r k).trans ?_
  rw [show (iblk m c 4 t : Vec Ideal S1x2048 .f32) (ix2 0 k) = _ from last_gain_at m c t k]
  refine congrArg (fun f => rms f k _) (funext fun l => ?_)
  refine (step_block m c t _ _ r l (fun q => ?_)).trans ?_
  · exact (congrFun (Memref.IsWhole.read_unread _ _) _).trans ((i2 r q).trans (congrArg (normRow m c · q) (e r)))
  · refine Eq.trans ?_ (strips m c _ l).symm
    have := i1 r l
    rw [e r, e1] at this
    rw [Finset.sum_range_succ, ← add_assoc, h1]
    exact congrArg₂ HAdd.hAdd this rfl

/-- The call's result array after the run is the reference's. -/
theorem result (c : Dev nD) : (dats m 0 c).arrAt 5 (cfgs 0).N
    = refFfn (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 5 _ (by decide +kernel) fun t hf y => ?_
  have h1 := (flush0_5 t).mp hf
  have hN := point_lt t
  blk_simp; rw [after0_5]
  idx_vars y
  refine (point m c t h1 _ _).trans ?_
  unfold argX argG argW argD argN row
  refine congrArg _ ?_
  blk_ext [places t]

end Cert.FfnIdeal.Whole

end
-- ==== Proof.OutValue.lean ====
/- The output projection with its residual: the call's result array is the reference's value, index by index. -/
module

public import proofs.«01_k».proof.Proof.Gen.OutIdeal.Value
public import proofs.«01_k».proof.Proof.Gen.OutReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.OutIdeal.Whole

open Cert.OutIdeal Cert.OutIdeal.Gen

variable (m : (ℓ : Loc nD τ sig) → Buf (Elt Ideal) ℓ)

/-- The reference's result as a function of the five arguments. -/
def refOut (a0 : FVec Ideal S16384x2048 .f32) (a1 a2 : FVec Ideal S16384x768 .bf16)
    (a3 : FVec Ideal S16384x512 .bf16) (a4 : FVec Ideal S2048x2048 .bf16) : FVec Ideal S16384x2048 .f32 :=
  Cert.OutReferenceIdeal.Read.val_main_v6 (F := Ideal) a0 a1 a2 a3 a4

/-- Where each window's block lies at a grid point: the row blocks advance with the point, the weight stays. -/
theorem places : ∀ t : Fin cfg0.N, win0_0.index t = ![t.val, 0]
    ∧ win0_1.index t = ![t.val, 0]
    ∧ win0_2.index t = ![t.val, 0]
    ∧ win0_3.index t = ![t.val, 0]
    ∧ win0_4.index t = ![0, 0]
    ∧ win0_5.index t = ![t.val, 0] :=
  (by decide +kernel : ∀ t : Fin grid0.N, _)

/-- What a grid point stores at an index of its block is the reference's value at the array index of that place:
    the residual plus the three mixers' rows, side by side, times the weight. -/
theorem point (c : Dev nD) (t : Fin cfg0.N) (y) :
    k0_pay1 (iblk m c 1 t) (iblk m c 2 t) (iblk m c 3 t) (iblk m c 0 t) (iblk m c 4 t) y
      = refOut (m ((c : Thread nD τ).loc main_arg0)) (m ((c : Thread nD τ).loc main_arg1))
          (m ((c : Thread nD τ).loc main_arg2)) (m ((c : Thread nD τ).loc main_arg3))
          (m ((c : Thread nD τ).loc main_arg4)) (((cfg0.win 5).blk t).view.emb y) := by
  pointwise [k0_pay1, refOut, Cert.OutReferenceIdeal.Read.val_main_v6, Cert.OutReferenceIdeal.Read.val_main_v5,
    Cert.OutReferenceIdeal.Read.val_main_v4, Cert.OutReferenceIdeal.Read.val_main_v3,
    Cert.OutReferenceIdeal.Read.val_main_v2, Cert.OutReferenceIdeal.Read.val_main_v1,
    Cert.OutReferenceIdeal.Read.val_main_v0]
  blk_point [iblk, V, places t]

/-- The call's result array after the run is the reference's. -/
theorem result (c : Dev nD) : (dats m 0 c).arrAt 5 (cfgs 0).N
    = refOut (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 5 _ (by decide +kernel) fun t hf y => ?_
  blk_simp; rw [after0_5]; frame_out
  exact point m c t y

end Cert.OutIdeal.Whole

end
-- ==== Proof.InRun.lean ====
/- The input projection, its run: what one grid point leaves in the two result blocks and in the kept normalised rows,
   point by point, and the run of the whole call with the arguments unchanged. -/
module

public import proofs.«01_k».proof.Proof.Gen.InIdeal.Frame
public import proofs.«01_k».proof.Proof.Gen.InIdeal.Skeleton
public import Idealize.ShloMosaic.Lib.Pipeline.ValueKit

@[expose] public section

set_option maxRecDepth 16384

noncomputable section

namespace Cert.InIdeal.Whole

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

variable (m : (ℓ : Loc nD τ sig) → Buf (Elt F) ℓ) (ρ : Dev nD → PrngReg)

/-! ## One grid point -/

/-- The point opens a row block (its second coordinate is zero). -/
abbrev Opens (i : grid0.Coords) : Prop := k0_cond1 i = 1#1

/-- The opening points are every fourth. -/
theorem opens_iff (t : Fin cfg0.N) : Opens (grid0.coords t) ↔ t.val % 4 = 0 := by
  have ht : t.val < 64 := Nat.lt_of_lt_of_eq t.isLt N_0
  have e1 : (grid0.coords t 1).val = t.val / 1 % 4 := Pipeline.Grid.coords_val t 1 (by decide) rfl
  simp only [Opens, k0_cond1, e1]
  word_cmp

/-- Each window's staging buffer at a point, and that it is a whole buffer. -/
abbrev buf0 (t : Fin cfg0.N) : Memref sig .tc .vmem S1024x2048 .f32 := win0_0.stage (cfg0.slots t 0)
abbrev buf1 (t : Fin cfg0.N) : Memref sig .tc .vmem S1x2048 .f32 := win0_1.stage (cfg0.slots t 1)
abbrev buf2 (t : Fin cfg0.N) : Memref sig .tc .vmem S1536x2048 .bf16 := win0_2.stage (cfg0.slots t 2)
abbrev buf3 (t : Fin cfg0.N) : Memref sig .tc .vmem S256x2048 .bf16 := win0_3.stage (cfg0.slots t 3)
abbrev buf4 (t : Fin cfg0.N) : Memref sig .tc .vmem S1024x1536 .bf16 := win0_4.stage (cfg0.slots t 4)
abbrev buf5 (t : Fin cfg0.N) : Memref sig .tc .vmem S1024x256 .f32 := win0_5.stage (cfg0.slots t 5)
/-- The buffer of the normalised rows, kept between points. -/
abbrev kept : Memref sig .tc .vmem S1024x2048 .bf16 := Memref.whole cc0_scratch0

/-- A buffer stored to whole holds what was stored. -/
theorem read_stored {s : Shape} {e : EltTy} (v : View sig .tc .vmem s e) (f : v.ty.Contents (Elt F))
    {off : Fin s.rank → ℕ} (inb : ∀ a, off a + s.size a ≤ s.size a) (w : s.Idx → Elt F e) (h : ∀ a, off a = 0) :
    v.read (Elt F) (v.writes (Elt F) f [(⟨Rect.unit off s.size inb, w⟩ : View.Piece (Elt F) s e)]) = w := by
  obtain rfl : off = fun _ => 0 := funext h
  have cover : ∀ y : s.Idx, y ∈ (Rect.unit (fun _ => 0) s.size inb).set := fun y =>
    (Rect.mem_set_unit (inb := inb)).mpr fun a => ⟨Nat.zero_le _, by rw [Nat.zero_add]; exact (y a).isLt⟩
  exact (View.read_writes_eq_canon v f _ fun y => ⟨_, List.mem_cons_self, cover y⟩).trans
    (View.canon_cons_unit_lit' inb w [] fun _ => rfl)

/-- A whole buffer loaded whole is what it holds. -/
theorem load_whole {s : Shape} {e : EltTy} {r : Memref sig .tc .vmem s e} (hr : r.IsWhole) (x : s.Idx → Elt F e)
    {off : Fin s.rank → ℕ} (inb : ∀ a, off a + s.size a ≤ s.size a) (h : ∀ a, off a = 0) :
    View.readAt (Elt F) r.view (Rect.unit off s.size inb).toLoadRect (hr.unread x) = x := by
  rw [View.readAt_eq_ld]
  exact (congrArg (fun f => View.ld f (Rect.unit off s.size inb)) (hr.read_unread x)).trans (View.ld_unit_lit' inb x h)

set_option maxHeartbeats 1000000 in
/-- A point that opens a row block: the rows are normalised and kept, and both products of them are stored. -/
theorem run_open (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1536x2048 .bf16) (harg4 : arg4.IsWhole) (arg5 : Memref sig .tc .vmem S256x2048 .bf16) (harg5 : arg5.IsWhole) (arg6 : Memref sig .tc .vmem S1024x1536 .bf16) (harg6 : arg6.IsWhole) (arg7 : Memref sig .tc .vmem S1024x256 .f32) (harg7 : arg7.IsWhole) (arg8 : Memref sig .tc .vmem S1024x2048 .bf16) (harg8 : arg8.IsWhole) (hc : Opens i)
    (x0 : Vec F S1024x2048 .f32) (x1 : Vec F S1x2048 .f32) (x2 : Vec F S1536x2048 .bf16) (x3 : Vec F S256x2048 .bf16)
    (E : Set ℕ) (K : PUnit → sProp (MT nD τ sig Unit (Elt F) ℕ (UR sig nD τ) ℕ)) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay3 (k0_pay1 x0 x1) x2)
            ∗ owns (c : Thread nD τ) arg7 fullShare (k0_pay2 (k0_pay1 x0 x1) x3)
            ∗ owns (c : Thread nD τ) arg8 fullShare (k0_pay1 x0 x1)) -∗ K ⟨⟩))
      ⊢ wp frame (wpE (defs₀ (F := F)) Variants.none c none) E (cc0_in_proj i arg2 harg2 arg3 harg3 arg4 harg4 arg5 harg5 arg6 harg6 arg7 harg7 arg8 harg8) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds, %fs, -, HS⟩, Hk⟩
  obtain rfl := harg2.eq_unread hf0; obtain rfl := harg3.eq_unread hf1
  obtain rfl := harg4.eq_unread hf2; obtain rfl := harg5.eq_unread hf3
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (read_stored _ _ _ _ (by decide)).trans (congrArg₂ k0_pay3 ?_ (load_whole harg4 x2 _ (by decide)))
    refine (View.readCov_unit_lit' _ _ _ (by decide)).trans ?_
    exact congrArg₂ k0_pay1 (load_whole harg2 x0 _ (by decide)) (load_whole harg3 x1 _ (by decide))
  isplitl [H5]
  · iexists _; isplitr; swap; · iexact H5
    ipureintro
    refine (read_stored _ _ _ _ (by decide)).trans (congrArg₂ k0_pay2 ?_ (load_whole harg5 x3 _ (by decide)))
    refine (View.readCov_unit_lit' _ _ _ (by decide)).trans ?_
    exact congrArg₂ k0_pay1 (load_whole harg2 x0 _ (by decide)) (load_whole harg3 x1 _ (by decide))
  iexists _; isplitr; swap; · iexact HS
  ipureintro
  refine (read_stored _ _ _ _ (by decide)).trans ?_
  exact congrArg₂ k0_pay1 (load_whole harg2 x0 _ (by decide)) (load_whole harg3 x1 _ (by decide))

set_option maxHeartbeats 1000000 in
/-- Any other point: only the product of the kept rows with the point's weight block is stored. -/
theorem run_go (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1536x2048 .bf16) (harg4 : arg4.IsWhole) (arg5 : Memref sig .tc .vmem S256x2048 .bf16) (harg5 : arg5.IsWhole) (arg6 : Memref sig .tc .vmem S1024x1536 .bf16) (harg6 : arg6.IsWhole) (arg7 : Memref sig .tc .vmem S1024x256 .f32) (harg7 : arg7.IsWhole) (arg8 : Memref sig .tc .vmem S1024x2048 .bf16) (harg8 : arg8.IsWhole) (hc : ¬ Opens i)
    (x0 : Vec F S1024x2048 .f32) (x1 : Vec F S1x2048 .f32) (x2 : Vec F S1536x2048 .bf16) (x3 : Vec F S256x2048 .bf16)
    (xo : Vec F S1024x256 .f32) (xs : Vec F S1024x2048 .bf16) (E : Set ℕ) (K : PUnit → sProp (MT nD τ sig Unit (Elt F) ℕ (UR sig nD τ) ℕ)) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare xo
        ∗ owns (c : Thread nD τ) arg8 fullShare xs
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay3 xs x2)
            ∗ owns (c : Thread nD τ) arg7 fullShare xo ∗ owns (c : Thread nD τ) arg8 fullShare xs) -∗ K ⟨⟩))
      ⊢ wp frame (wpE (defs₀ (F := F)) Variants.none c none) E (cc0_in_proj i arg2 harg2 arg3 harg3 arg4 harg4 arg5 harg5 arg6 harg6 arg7 harg7 arg8 harg8) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs, %hfs, HS⟩, Hk⟩
  obtain rfl := harg2.eq_unread hf0; obtain rfl := harg3.eq_unread hf1
  obtain rfl := harg4.eq_unread hf2; obtain rfl := harg5.eq_unread hf3
  obtain rfl := harg7.eq_unread hf5; obtain rfl := harg8.eq_unread hfs
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact (read_stored _ _ _ _ (by decide)).trans
      (congrArg₂ k0_pay3 (load_whole harg8 xs _ (by decide)) (load_whole harg4 x2 _ (by decide)))
  isplitl [H5]
  · iexists _; isplitr; · ipureintro; exact harg7.read_unread _
    iexact H5
  iexists _; isplitr; · ipureintro; exact harg8.read_unread _
  iexact HS

/-! ## The proof data -/

/-- The point that opened `t`'s row block. -/
def first (t : Fin cfg0.N) : Fin cfg0.N := ⟨t.val - t.val % 4, lt_of_le_of_lt (Nat.sub_le _ _) t.isLt⟩

/-- An opening point is its own. -/
theorem first_of_open (t : Fin cfg0.N) (h : t.val % 4 = 0) : first t = t := Fin.ext (by simp [first, h])

/-- Any other point shares the previous point's. -/
theorem first_of_go (t : Fin cfg0.N) (h : ¬ t.val % 4 = 0) (p : Fin cfg0.N) (hp : p.val = t.val - 1) : first t = first p :=
  Fin.ext (by simp only [first, hp]; omega)

/-- The normalised rows kept after point `t`. -/
def normed (c : Dev nD) (t : Fin cfg0.N) : Vec F S1024x2048 .bf16 :=
  k0_pay1 (iblk m c 0 (first t)) (iblk m c 1 (first t))

/-- The block of the second result after point `t`. -/
def gates (c : Dev nD) (t : Fin cfg0.N) : Vec F S1024x256 .f32 := k0_pay2 (normed m c t) (iblk m c 3 (first t))

/-- The block of the first result after point `t`. -/
def chan (c : Dev nD) (t : Fin cfg0.N) : Vec F S1024x1536 .bf16 := k0_pay3 (normed m c t) (X0_2 m c t)

/-- Between points: before the first nothing is known, later the kept rows are the last point's. -/
def between (c : Dev nD) (n : ℕ) (h : n ≤ cfg0.N) : sProp (MT nD τ sig Unit (Elt F) ℕ (UR sig nD τ) ℕ) := match n, h with
  | 0, _ => Pipeline.ΦA spec0 c
  | n + 1, h => iprop(iprop(owns (c : Thread nD τ) kept fullShare (normed m c ⟨n, h⟩)) ∗ (∃ r, prngReg c r))

/-- What is kept before the first point, spelt out. -/
theorem kept_any_eq (c : Dev nD) : (Pipeline.ΦA spec0 c : sProp (MT nD τ sig Unit (Elt F) ℕ (UR sig nD τ) ℕ))
    = iprop(iprop(∃ d, owns (c : Thread nD τ) kept fullShare d) ∗ (∃ r, prngReg c r)) := by
  unfold Pipeline.ΦA; rw [scopedRest0_eq]; simp only [kept, owns_whole]; try rfl

/-- The proof data: what each array and each staging buffer holds. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => chan m c t
    | ⟨5, _⟩ => gates m c t
  Φ t := between m c t.val (Nat.le_of_lt_succ t.isLt)
  q w := Pipeline.shareOf spec0 w
  owed _ := 0

/-- The arrays are as the call finds them. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = X0_2 m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = chan m c t := by dsimp only [dats]
theorem after_5 (c : Dev nD) (t : Fin cfg0.N) : (dats m 0 c).after 5 t = gates m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = X0_2 m c t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- A point that opens no block: the kept rows are the point before's. -/
theorem normed_go (c : Dev nD) (t p : Fin cfg0.N) (h : ¬ t.val % 4 = 0) (hp : p.val = t.val - 1) :
    normed m c t = normed m c p := by
  unfold normed; rw [first_of_go t h p hp]

/-- And so is the second result's block. -/
theorem gates_go (c : Dev nD) (t p : Fin cfg0.N) (h : ¬ t.val % 4 = 0) (hp : p.val = t.val - 1) :
    gates m c t = gates m c p := by
  unfold gates; rw [normed_go m c t p h hp, first_of_go t h p hp]

/-- The second result is stored only where a block opens. -/
theorem idle_iff (t : Fin cfg0.N) : cfg0.idle 5 (cfg0.grid.coords t) = true ↔ ¬ t.val % 4 = 0 := by
  rw [← opens_iff t]
  show (!(k0_cond1 (grid0.coords t) == 1#1)) = true ↔ ¬ k0_cond1 (grid0.coords t) = 1#1
  simp only [Bool.not_eq_true', beq_eq_false_iff_ne, ne_eq]

/-- Its block is never cut. -/
theorem kept_5 (c : Dev nD) (t : Fin cfg0.N) (d) : (dats m 0 c).kept 5 t d = gates m c t := by
  unfold Dat.kept
  rw [Pipeline.fill_of_clip_none 5 _ (fun _ => rfl) d ((dats m 0 c).after 5 t), Pipeline.Window.fill_cut,
    after_5]

/-- Elsewhere its buffer still holds its block when the point begins. -/
theorem before_5 (c : Dev nD) : ∀ (n : ℕ) (hn : n < cfg0.N) (h : ¬ n % 4 = 0) (d),
    (dats m 0 c).before 5 ⟨n, hn⟩ d = gates m c ⟨n, hn⟩
  | 0, _, h, _ => absurd rfl h
  | n + 1, hn, h, d => by
    have hN : n + 1 < 64 := lt_of_lt_of_eq hn (show cfg0.N = 64 from N_0)
    have hp : n < cfg0.N := Nat.lt_of_succ_lt hn
    have hf : (cfg0.win 5).flush ⟨n, hp⟩ = false :=
      Bool.eq_false_iff.mpr fun e => by have := (flush0_5 _).mp e; dsimp only at this; omega
    refine ((dats m 0 c).before_of_pos 5 ⟨n + 1, hn⟩ (Nat.succ_ne_zero n) ((cfg0.win 5).fetch_out rfl _) d).trans ?_
    refine Eq.trans (b := (dats m 0 c).left 5 ⟨n, hp⟩ d) (if_neg (ne_true_of_eq_false hf)) ?_
    refine Eq.trans ?_ (gates_go m c ⟨n + 1, hn⟩ ⟨n, hp⟩ h rfl).symm
    unfold Dat.left
    cases e : cfg0.idle 5 (cfg0.grid.coords ⟨n, hp⟩) with
    | true => exact before_5 c n hp ((idle_iff ⟨n, hp⟩).mp e) d
    | false => exact kept_5 m c ⟨n, hp⟩ d

/-- So its buffer at its block is what a point has to leave, stored or not. -/
theorem leaves_5 (c : Dev nD) (t : Fin cfg0.N) :
    owns (c : Thread nD τ) (buf5 t) fullShare (gates m c t) ⊢ (dats m 0 c).leavesExact 5 t := by
  rw [← after_5]
  cases e : cfg0.idle 5 (cfg0.grid.coords t) with
  | false =>
    have : (dats m 0 c).leavesExact 5 t = owns (c : Thread nD τ) (buf5 t) fullShare ((dats m 0 c).after 5 t) := by
      unfold Dat.leavesExact; rw [e]
    rw [this]
  | true =>
    cases f : (cfg0.win 5).flush t with
    | true =>
      have : (dats m 0 c).leavesExact 5 t = owns (c : Thread nD τ) (buf5 t) fullShare ((dats m 0 c).after 5 t) := by
        unfold Dat.leavesExact; rw [e, f]
      rw [this]
    | false =>
      rw [Dat.leavesExact_idle _ 5 t e f, after_5]
      iintro H
      iexists gates m c t
      rw [before_5 m c t.val t.isLt ((idle_iff t).mp e)]
      iexact H

/-- Before a point other than the first, the kept rows are the previous point's. -/
theorem between_pos (c : Dev nD) (n : ℕ) (h : n ≤ cfg0.N) (hz : n ≠ 0) :
    between m c n h = iprop(iprop(owns (c : Thread nD τ) kept fullShare (normed m c ⟨n - 1, by omega⟩)) ∗ (∃ r, prngReg c r)) := by
  cases n with
  | zero => exact absurd rfl hz
  | succ n => rfl

/-- In every case they hold something. -/
theorem between_any (c : Dev nD) (n : ℕ) (h : n ≤ cfg0.N) :
    between m c n h ⊢ iprop(iprop(∃ d, owns (c : Thread nD τ) kept fullShare d) ∗ (∃ r, prngReg c r)) := by
  cases n with
  | zero => rw [← kept_any_eq]; exact Idealize.SL.BI.Entails.refl _
  | succ n =>
    rw [between_pos m c _ _ (Nat.succ_ne_zero n)]
    iintro ⟨HS, Hg⟩
    isplitl [HS]
    · iexists _; iexact HS
    iexact Hg

/-! ## The body at every point -/

/-- What a point starts from. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d)))

/-- What it leaves. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t)
    ∗ (dats m 0 c).leavesExact 5 t)

set_option maxHeartbeats 2400000 in
/-- The body takes every point from the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl,
    after_0, after_1, after_2, after_3, after_4]
  rw [show (dats m 0 c).Φ t.succ
      = iprop(iprop(owns (c : Thread nD τ) kept fullShare (normed m c t)) ∗ (∃ r, prngReg c r)) from rfl,
    show (dats m 0 c).Φ t.castSucc = between m c t.val (Nat.le_of_lt t.isLt) from rfl]
  have h5 := leaves_5 m c t
  by_cases h : t.val % 4 = 0
  · refine (Idealize.SL.BI.Laws.sep_mono (between_any m c _ _) (Idealize.SL.BI.Entails.refl _)).trans ?_
    have en : k0_pay1 (iblk m c 0 t) (iblk m c 1 t) = normed m c t := by unfold normed; rw [first_of_open t h]
    have eg : k0_pay2 (k0_pay1 (iblk m c 0 t) (iblk m c 1 t)) (iblk m c 3 t) = gates m c t := by
      rw [en]; unfold gates; rw [first_of_open t h]
    have eo : k0_pay3 (k0_pay1 (iblk m c 0 t) (iblk m c 1 t)) (X0_2 m c t) = chan m c t := by rw [en]; rfl
    rw [← eg] at h5
    rw [← eo, ← en]
    iintro ⟨⟨HS, Hg⟩, Ho, ⟨%d0, H0⟩, ⟨%d1, H1⟩, ⟨%d2, H2⟩, ⟨%d3, H3⟩, ⟨%d4, H4⟩, ⟨%d5, H5⟩⟩
    iapply (run_open c (grid0.coords t) _ _ _ _ _ _ _ _ _ _ _ _ _ _ ((opens_iff t).mpr h) (iblk m c 0 t) (iblk m c 1 t)
      (X0_2 m c t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    iapply h5; iexact H5
  · rw [between_pos m c t.val _ (by omega)]
    simp only [fun d => before_5 m c t.val t.isLt h d]
    rw [← normed_go m c t ⟨t.val - 1, lt_of_le_of_lt (Nat.sub_le _ _) t.isLt⟩ h rfl]
    unfold chan
    iintro ⟨⟨HS, Hg⟩, Ho, ⟨%d0, H0⟩, ⟨%d1, H1⟩, ⟨%d2, H2⟩, ⟨%d3, H3⟩, ⟨%d4, H4⟩, ⟨%d5, H5⟩⟩
    iapply (run_go c (grid0.coords t) _ _ _ _ _ _ _ _ _ _ _ _ _ _ (fun e => h ((opens_iff t).mp e)) (iblk m c 0 t)
      (iblk m c 1 t) (X0_2 m c t) (iblk m c 3 t) (gates m c t) (normed m c t) Set.univ _)
    isplitl [H0]; · iexact H0
    isplitl [H1]; · iexact H1
    isplitl [H2]; · iexact H2
    isplitl [H3]; · iexact H3
    isplitl [H4]; · iexists _; iexact H4
    isplitl [H5]; · iexact H5
    isplitl [HS]; · iexact HS
    iintro ⟨H0, H1, H2, H3, H4, H5, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    iapply h5; iexact H5

/-- The body the launch calls at a point is the printed one on that point's buffers. -/
theorem row_eq (t : Fin cfg0.N) : defs₀ (F := F) .tc cfg0.body (cfg0.bodyArgs t (cfg0.slots t)) = bodyAt0 t := by
  unfold defs₀; rw [Defs.onTc_tc]

/-- What the launch asks of the body. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-- What is there before the first point. -/
theorem start (c : Dev nD) : Pipeline.ΦA spec0 c ⊢ (dats m 0 c).Φ 0 := Idealize.SL.BI.Entails.refl _

/-- What is there after the last. -/
theorem finish (c : Dev nD) : (dats m 0 c).Φ (Fin.last cfg0.N) ⊢ Pipeline.ΦA spec0 c := by
  rw [kept_any_eq]
  exact between_any m c cfg0.N (Nat.le_refl _)

/-! ## The run -/

set_option backward.isDefEq.respectTransparency.types false in
/-- Every execution ends, with the arrays as the proof data says and every counter at zero. -/
theorem run_quiet : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := start m) (hout := finish m)

/-- The same without the counters. -/
theorem run_main : θ_run defs (onTc (τ := τ) (main (F := F))) (s₀ m ρ) (Pipeline.FramePost cfgs (dats m) 0 (V m)) :=
  (θ_run defs _ _).mono (fun _ h => h.1) (run_quiet m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: every execution ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_quiet m ρ))

end Cert.InIdeal.Whole

end
-- ==== Proof.InBlock.lean ====
/- The input projection, one grid point: what each of the body's stores computes, read at an index. -/
module

public import proofs.«01_k».proof.Proof.InRun
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.InIdeal.Whole

open Cert.InIdeal Cert.InIdeal.Gen

/-- A row of 2048 numbers divided by its root mean square, at one place, with that place's gain. -/
def rms (f : Fin 2048 → EReal) (k : Fin 2048) (g : EReal) : EReal :=
  f k * Ideal.rsqrt (Ideal.div (∑ l, f l * f l) (Ideal.ofBits .f32 0x45000000#32) + Ideal.ofBits .f32 0x358637BD#32) * g

/-- The kept rows: the normalised ones. -/
theorem pay1_at (x : Vec Ideal S1024x2048 .f32) (g : Vec Ideal S1x2048 .f32) (r : Fin 1024) (k : Fin 2048) :
    k0_pay1 x g (ix2 r k) = rms (fun l => x (ix2 r l)) k (g (ix2 0 k)) := by
  pointwise [k0_pay1]; rfl

/-- The second result's store: kept rows against the last 256 weight rows. -/
theorem pay2_at (h : Vec Ideal S1024x2048 .bf16) (w : Vec Ideal S256x2048 .bf16) (r : Fin 1024) (j : Fin 256) :
    k0_pay2 h w (ix2 r j) = ∑ q : Fin 2048, h (ix2 r q) * w (ix2 j q) := by
  pointwise [k0_pay2]

/-- The first result's store: kept rows against 1536 weight rows. -/
theorem pay3_at (h : Vec Ideal S1024x2048 .bf16) (w : Vec Ideal S1536x2048 .bf16) (r : Fin 1024) (j : Fin 1536) :
    k0_pay3 h w (ix2 r j) = ∑ q : Fin 2048, h (ix2 r q) * w (ix2 j q) := by
  pointwise [k0_pay3]

end Cert.InIdeal.Whole

end
-- ==== Proof.InRef.lean ====
/- The input projection: its reference read at an index. -/
module

public import proofs.«01_k».proof.Proof.InBlock
public import proofs.«01_k».proof.Proof.Gen.InReferenceIdeal.Read

@[expose] public section

set_option maxRecDepth 16384

noncomputable section

open Idealize.ShloMosaic Idealize.ShloMosaic.TcCoe Idealize.SL.Sem
open Idealize.ShloMosaic.Pipeline (Dat)
open scoped BigOperators

namespace Cert.InIdeal.RefValue

open Cert.InIdeal.Whole (rms)
open Cert.InReferenceIdeal Cert.InReferenceIdeal.Read

variable (x : FVec Ideal S16384x2048 .f32) (g : FVec Ideal S2048 .f32) (w : FVec Ideal S6400x2048 .bf16)

/-- The reference's normalised input. -/
theorem rms_at (r : Fin 16384) (k : Fin 2048) :
    val_main_v12 (F := Ideal) x g (ix2 r k) = rms (fun l => x (ix2 r l)) k (g (ix1 k)) := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]
  unfold rms
  blk_point []

/-- The reference's projection: the normalised row against a weight row. -/
theorem proj_at (r : Fin 16384) (j : Fin 6400) :
    val_main_v15 (F := Ideal) x g w (ix2 r j)
      = ∑ q : Fin 2048, rms (fun l => x (ix2 r l)) q (g (ix1 q)) * w (ix2 j q) := by
  pointwise [val_main_v15, val_main_v14, val_main_v13]
  simp only [rms_at]

/-- The reference's first result: the first 6144 columns. -/
theorem chan_at (r : Fin 16384) (j : Fin 6144) :
    val_main_v17 (F := Ideal) x g w (ix2 r j) = ∑ q : Fin 2048, rms (fun l => x (ix2 r l)) q (g (ix1 q))
      * w (ix2 ⟨j.val, by omega⟩ q) := by
  pointwise [val_main_v17, val_main_v16]
  exact proj_at x g w r ⟨j.val, by omega⟩

/-- The reference's second result: the last 256 columns. -/
theorem gates_at (r : Fin 16384) (j : Fin 256) :
    val_main_v18 (F := Ideal) x g w (ix2 r j) = ∑ q : Fin 2048, rms (fun l => x (ix2 r l)) q (g (ix1 q))
      * w (ix2 ⟨6144 + j.val, by omega⟩ q) := by
  pointwise [val_main_v18]
  exact proj_at x g w r ⟨6144 + j.val, by omega⟩

end Cert.InIdeal.RefValue

end
-- ==== Proof.InValue.lean ====
/- The input projection: both result arrays after the run are the reference's. -/
module

public import proofs.«01_k».proof.Proof.InRef

@[expose] public section

set_option maxRecDepth 16384

noncomputable section

open Idealize.ShloMosaic Idealize.ShloMosaic.TcCoe Idealize.SL.Sem
open Idealize.ShloMosaic.Pipeline (Dat)
open scoped BigOperators

namespace Cert.InIdeal.Whole

open Cert.InIdeal Cert.InIdeal.Gen

variable (m : (ℓ : Loc nD τ sig) → Buf (Elt Ideal) ℓ) (ρ : Dev nD → PrngReg)

/-- Where each window's block lies at a grid point: the row block is the point's quarter, the weight block its
    remainder. -/
theorem places : ∀ t : Fin cfg0.N, win0_0.index t = ![t.val / 4, 0]
    ∧ win0_1.index t = ![0, 0]
    ∧ win0_2.index t = ![t.val % 4, 0]
    ∧ win0_3.index t = ![24, 0]
    ∧ win0_4.index t = ![t.val / 4, t.val % 4]
    ∧ win0_5.index t = ![t.val / 4, 0] :=
  (by decide +kernel : ∀ t : Fin grid0.N, _)

/-- The grid has 64 points. -/
theorem point_lt (t : Fin cfg0.N) : t.val < 64 := lt_of_lt_of_eq t.isLt (show cfg0.N = 64 from N_0)

/-- The token row of the array that row `r` of a point's block is. -/
def row (t : Fin cfg0.N) (r : Fin 1024) : Fin 16384 := ⟨t.val / 4 * 1024 + r.val, by have := point_lt t; omega⟩

/-- The three arguments. -/
def argX (c : Dev nD) : FVec Ideal S16384x2048 .f32 := m ((c : Thread nD τ).loc main_arg0)
@[inherit_doc argX]
def argG (c : Dev nD) : FVec Ideal S2048 .f32 := m ((c : Thread nD τ).loc main_arg1)
@[inherit_doc argX]
def argW (c : Dev nD) : FVec Ideal S6400x2048 .bf16 := m ((c : Thread nD τ).loc main_arg2)

/-- The normalised token row. -/
def normRow (c : Dev nD) (a : Fin 16384) (q : Fin 2048) : EReal :=
  rms (fun l => argX m c (ix2 a l)) q (argG m c (ix1 q))

/-! ## The staged blocks -/

/-- The staged rows. -/
theorem rows_at (c : Dev nD) (t : Fin cfg0.N) (r : Fin 1024) (k : Fin 2048) :
    (show Vec Ideal S1024x2048 .f32 from iblk m c 0 t) (ix2 r k) = argX m c (ix2 (row t r) k) := by
  have := point_lt t
  unfold argX row
  blk_point [iblk, V, places t]

/-- The staged gain. -/
theorem gain_at (c : Dev nD) (t : Fin cfg0.N) (k : Fin 2048) :
    (show Vec Ideal S1x2048 .f32 from iblk m c 1 t) (ix2 0 k) = argG m c (ix1 k) := by
  unfold argG
  blk_point [iblk, V, places t]

/-- The staged weight rows of the first result. -/
theorem weight_at (c : Dev nD) (t : Fin cfg0.N) (j : Fin 1536) (q : Fin 2048) :
    (show Vec Ideal S1536x2048 .bf16 from X0_2 m c t) (ix2 j q) = argW m c (ix2 ⟨t.val % 4 * 1536 + j.val, by omega⟩ q) := by
  unfold argW
  show X0_2 m c t (ix2 j q) = _
  unfold X0_2 Pipeline.Window.fill
  rw [dif_pos (moved0_2 t (ix2 j q))]
  blk_point [iblk, V, places t]

/-- The staged weight rows of the second result: the last 256. -/
theorem tail_at (c : Dev nD) (t : Fin cfg0.N) (j : Fin 256) (q : Fin 2048) :
    (show Vec Ideal S256x2048 .bf16 from iblk m c 3 t) (ix2 j q) = argW m c (ix2 ⟨6144 + j.val, by omega⟩ q) := by
  unfold argW
  blk_point [iblk, V, places t]

/-! ## What a point leaves -/

/-- The kept rows are the normalised token rows. -/
theorem normed_at (c : Dev nD) (t : Fin cfg0.N) (r : Fin 1024) (q : Fin 2048) :
    normed m c t (ix2 r q) = normRow m c (row t r) q := by
  have e : row (first t) r = row t r := Fin.ext (by
    show (t.val - t.val % 4) / 4 * 1024 + r.val = t.val / 4 * 1024 + r.val
    omega)
  refine (pay1_at _ _ r q).trans ?_
  unfold normRow
  rw [show (iblk m c 1 (first t) : Vec Ideal S1x2048 .f32) (ix2 0 q) = _ from gain_at m c (first t) q, ← e]
  exact congrArg (fun f => rms f q _) (funext fun l => rows_at m c (first t) r l)

/-- The first result as the reference has it, a function of the three arguments. -/
def refChan (a0 : FVec Ideal S16384x2048 .f32) (a1 : FVec Ideal S2048 .f32) (a2 : FVec Ideal S6400x2048 .bf16) :
    FVec Ideal S16384x6144 .bf16 := Cert.InReferenceIdeal.Read.val_main_v17 (F := Ideal) a0 a1 a2

/-- The second result likewise. -/
def refGates (a0 : FVec Ideal S16384x2048 .f32) (a1 : FVec Ideal S2048 .f32) (a2 : FVec Ideal S6400x2048 .bf16) :
    FVec Ideal S16384x256 .f32 := Cert.InReferenceIdeal.Read.val_main_v18 (F := Ideal) a0 a1 a2

/-- A point's block of the first result is the reference's there. -/
theorem chan_point (c : Dev nD) (t : Fin cfg0.N) (r : Fin 1024) (j : Fin 1536) :
    chan m c t (ix2 r j)
      = refChan (argX m c) (argG m c) (argW m c) (ix2 (row t r) ⟨t.val % 4 * 1536 + j.val, by omega⟩) := by
  refine (pay3_at _ _ r j).trans (Eq.trans ?_ (RefValue.chan_at _ _ _ _ _).symm)
  exact Finset.sum_congr rfl fun q _ => congrArg₂ HMul.hMul (normed_at m c t r q) (weight_at m c t j q)

/-- A point's block of the second result is the reference's there. -/
theorem gates_point (c : Dev nD) (t : Fin cfg0.N) (r : Fin 1024) (j : Fin 256) :
    gates m c t (ix2 r j) = refGates (argX m c) (argG m c) (argW m c) (ix2 (row t r) j) := by
  refine (pay2_at _ _ r j).trans (Eq.trans ?_ (RefValue.gates_at _ _ _ _ _).symm)
  exact Finset.sum_congr rfl fun q _ => congrArg₂ HMul.hMul (normed_at m c t r q) (tail_at m c (first t) j q)

/-! ## The arrays -/

/-- The first result array after the run is the reference's. -/
theorem result_chan (c : Dev nD) : (dats m 0 c).arrAt 4 (cfgs 0).N
    = refChan (m ((c : Thread nD τ).loc main_arg0)) (m ((c : Thread nD τ).loc main_arg1))
        (m ((c : Thread nD τ).loc main_arg2)) := by
  refine (dats m 0 c).arrAt_eq_of_covers 4 _ (by decide +kernel) fun t hf y => ?_
  have hN := point_lt t
  blk_simp; rw [after_4]
  idx_vars y
  refine (chan_point m c t _ _).trans ?_
  unfold argX argG argW row
  refine congrArg _ ?_
  blk_ext [places t]

/-- The second result array after the run is the reference's. -/
theorem result_gates (c : Dev nD) : (dats m 0 c).arrAt 5 (cfgs 0).N
    = refGates (m ((c : Thread nD τ).loc main_arg0)) (m ((c : Thread nD τ).loc main_arg1))
        (m ((c : Thread nD τ).loc main_arg2)) := by
  refine (dats m 0 c).arrAt_eq_of_covers 5 _ (by decide +kernel) fun t hf y => ?_
  have hN := point_lt t
  blk_simp; rw [after_5]
  idx_vars y
  refine (gates_point m c t _ _).trans ?_
  unfold argX argG argW row
  refine congrArg _ ?_
  blk_ext [places t]

/-- Every execution ends with both result arrays the reference's and the arguments unchanged. -/
theorem run_value : θ_run defs (onTc (τ := τ) (main (F := Ideal))) ⟨m, fun _ => 0, ρ⟩ fun r => ∀ c : Dev nD,
      r.2.mem ((c : Thread nD τ).loc main_v1_0) = refChan (m ((c : Thread nD τ).loc main_arg0))
        (m ((c : Thread nD τ).loc main_arg1)) (m ((c : Thread nD τ).loc main_arg2))
      ∧ r.2.mem ((c : Thread nD τ).loc main_v1_1) = refGates (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run_and (unchanged m ρ) (run_main m ρ)).mono fun r h c =>
    ⟨((h.2 c).1 4).trans (result_chan m c), ((h.2 c).1 5).trans (result_gates m c), h.1 c⟩

end Cert.InIdeal.Whole

end
-- ==== Proof.MlstmTrip.lean ====
/- The recurrence, one chunk: every value a trip of the chunk loop computes, as a function of the blocks it reads and of
   what the output block and the three kept buffers hold when it begins. -/
module

public import proofs.«01_k».proof.Proof.Gen.MlstmIdeal.Skeleton
public import Idealize.ShloMosaic.Lib.VecWindow

@[expose] public section

set_option maxRecDepth 16384

noncomputable section

namespace Cert.MlstmIdeal.Whole

open Cert.MlstmIdeal Cert.MlstmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

/-- What a trip starts from: its number, the eight blocks it reads, the output block, the memory, the running maxima and
the rows kept for the convolution. -/
structure St (F : FTy → Type) [FloatOps F] where
  k : Fin k0_t1_loop.trips
  x1 : Vec F S2048x1024 .bf16
  x2 : Vec F S2048x1536 .bf16
  x3 : Vec F S2048x128 .f32
  x4 : Vec F S4x1024 .f32
  x5 : Vec F S1x128 .f32
  x6 : Vec F S1x768 .f32
  x7 : Vec F S128x128 .bf16
  x8 : Vec F S128x128 .i32
  c : Vec F S2x256x512 .f32
  m : Vec F S8x128 .f32
  h : Vec F S8x1024 .f32

/-- Eight kept rows followed by a chunk's 128 rows. -/
def joinRows (h : Vec F S8x1024 .f32) (w : Vec F S128x1024 .f32) : Vec F S136x1024 .f32 := fun y =>
  if g : (y 0).val < 8 then h (fun a => match a with | ⟨0, _⟩ => ⟨(y 0).val, g⟩ | ⟨1, _⟩ => y 1)
  else w (fun a => match a with | ⟨0, _⟩ => ⟨(y 0).val - 8, by have : (y 0).val < 136 := (y 0).isLt; show _ < 128; omega⟩ | ⟨1, _⟩ => y 1)

def St.v16 (s : St F) : Vec F S128x1024 .bf16 := VecWindow.window s.x1 (k0_off1 s.k) S128x1024.size (k0_off1_inb s.k)

def St.e_1 (s : St F) : Vec F S136x1024 .f32 := joinRows s.h (k0_pay4 s.v16)

def St.v22 (s : St F) : Vec F S1x1024 .f32 := VecWindow.window s.x4 ![0, 0] S1x1024.size inb_S4x1024_S1x1024_0_0

def St.v24 (s : St F) : Vec F S128x1024 .f32 := VecWindow.window s.e_1 ![5, 0] S128x1024.size inb_S136x1024_S128x1024_5_0

def St.v28 (s : St F) : Vec F S1x1024 .f32 := VecWindow.window s.x4 ![1, 0] S1x1024.size inb_S4x1024_S1x1024_1_0

def St.v30 (s : St F) : Vec F S128x1024 .f32 := VecWindow.window s.e_1 ![6, 0] S128x1024.size inb_S136x1024_S128x1024_6_0

def St.v34 (s : St F) : Vec F S1x1024 .f32 := VecWindow.window s.x4 ![2, 0] S1x1024.size inb_S4x1024_S1x1024_2_0

def St.v36 (s : St F) : Vec F S128x1024 .f32 := VecWindow.window s.e_1 ![7, 0] S128x1024.size inb_S136x1024_S128x1024_7_0

def St.v40 (s : St F) : Vec F S1x1024 .f32 := VecWindow.window s.x4 ![3, 0] S1x1024.size inb_S4x1024_S1x1024_3_0

def St.v42 (s : St F) : Vec F S128x1024 .f32 := VecWindow.window s.e_1 ![8, 0] S128x1024.size inb_S136x1024_S128x1024_8_0

def St.v46 (s : St F) : Vec F S8x1024 .f32 := VecWindow.window s.e_1 ![128, 0] S8x1024.size inb_S136x1024_S8x1024_128_0

def St.v14 (s : St F) : BitVec 32 := Scalar.muli (Scf.iv 0#32 1#32 s.k) 128#32

def St.v45 (s : St F) : FVec F S128x1024 .f32 := k0_pay5 s.v22 s.v24 s.v28 s.v30 s.v34 s.v36 s.v40 s.v42

def St.v47 (s : St F) : Vec F S8x1024 .f32 := VecWindow.window s.e_1 ![0, 0] S8x1024.size inb_S136x1024_S8x1024_0_0

def St.h_1 (s : St F) : Vec F S8x1024 .f32 := (k0_pay6 s.v46)

def St.e_2 (s : St F) : Vec F S136x1024 .f32 := VecWindow.put s.e_1 ![0, 0] S8x1024.size s.h_1

def St.v60 (s : St F) : Vec F S128x128 .f32 := VecWindow.window s.x3 (k0_off2 s.k) S128x128.size (k0_off2_inb s.k)

def St.v61 (s : St F) : Vec F S1x128 .f32 := VecWindow.window s.x5 ![0, 0] S1x128.size inb_S1x128_S1x128_0_0

def St.v85 (s : St F) : Vec F S128x128 .bf16 := VecWindow.window s.x7 ![0, 0] S128x128.size inb_S128x128_S128x128_0_0

def St.v52 (s : St F) : FVec F S128x512 .f32 := k0_pay8 s.v45

def St.v56 (s : St F) : FVec F S128x512 .bf16 := k0_pay10 s.v45

def St.v57 (s : St F) : FVec F S128x512 .bf16 := k0_pay11 s.v45

def St.v58 (s : St F) : FVec F S512x128 .f32 := k0_pay12 s.v45

def St.v84 (s : St F) : FVec F S128x128 .f32 := k0_pay13 s.v60 s.v61

def St.v86 (s : St F) : FVec F S128x128 .bf16 := k0_pay14 s.v60 s.v61

def St.v89 (s : St F) : FVec F S128x128 .bf16 := k0_pay16 s.v60 s.v61

def St.v91 (s : St F) : FVec F S128x128 .f32 := k0_pay17 s.v60 s.v61

def St.v112 (s : St F) : Vec F S128x128 .i32 := VecWindow.window s.x8 ![0, 0] S128x128.size inb_S128x128_S128x128_0_0

def St.v131 (s : St F) : IVec S256x128 32 := iota .tc S256x128 32 [1] iota_S256x128_d1_w32

def St.v97 (s : St F) : FVec F S128x128 .f32 := k0_pay18 s.v85 s.v86 s.v89 s.v91

def St.v99 (s : St F) : FVec F S8x128 .f32 := k0_pay19 s.v84

def St.v111 (s : St F) : FVec F S8x128 .f32 := k0_pay20 s.v84 s.v85

def St.v114 (s : St F) : IVec S128x128 1 := k0_pay21 s.v112

def St.v117 (s : St F) : IVec S128x384 1 := k0_pay22

def St.v124 (s : St F) : FVec F S128x128 .bf16 := k0_pay23 (F := F)

def St.v130 (s : St F) : FVec F S128x128 .bf16 := k0_pay24 (F := F)

def St.v134 (s : St F) : IVec S256x128 1 := k0_pay25

def St.v144 (s : St F) : Vec F S128x384 .bf16 := VecWindow.window s.x2 (k0_off3 s.k) S128x384.size (k0_off3_inb s.k)

def St.v151 (s : St F) : Vec F S1x128 .f32 := VecWindow.window s.m ![0, 0] S1x128.size inb_S8x128_S1x128_0_0

def St.v142 (s : St F) : FVec F S256x128 .bf16 := k0_pay26 (F := F) s.v131 s.v134

def St.v145 (s : St F) : FVec F S128x384 .bf16 := k0_pay27 (F := F)

def St.v172 (s : St F) : FVec F S128x128 .bf16 := k0_pay34 s.v56 s.v57 s.v97 s.v99 s.v111 s.v114 s.v151

def St.v175 (s : St F) : FVec F S128x128 .bf16 := k0_pay35 s.v52 s.v97 s.v99 s.v111 s.v114 s.v151

def St.v178 (s : St F) : FVec F S128x128 .f32 := k0_pay36 s.v97 s.v99 s.v111 s.v114 s.v151

def St.v179 (s : St F) : FVec F S1x1 .f32 := k0_pay37 s.v111

def St.v182 (s : St F) : FVec F S1x128 .f32 := k0_pay38 s.v99 s.v111

def St.v199 (s : St F) : Vec F S1x128 .f32 := VecWindow.window s.m ![0, 0] S1x128.size inb_S8x128_S1x128_0_0

def St.m_1 (s : St F) : Vec F S8x128 .f32 := VecWindow.put s.m ![0, 0] S1x128.size (k0_pay42 s.v151 s.v179 s.v182)

def St.v207 (s : St F) : Vec F S1x128 .f32 := VecWindow.window s.m_1 ![1, 0] S1x128.size inb_S8x128_S1x128_1_0

def St.v194 (s : St F) : FVec F S1x128 .f32 := k0_pay40 s.v151 s.v179 s.v182

def St.v198 (s : St F) : FVec F S128x128 .bf16 := k0_pay41 s.v58 s.v151 s.v179 s.v182

def St.v205 (s : St F) : FVec F S1x128 .f32 := k0_pay44 s.v111

def St.v206 (s : St F) : FVec F S1x128 .f32 := k0_pay45 s.v99

def St.v219 (s : St F) : FVec F S128x128 .f32 := k0_pay48 s.v97 s.v99 s.v111 s.v114 s.v207

def St.v228 (s : St F) : FVec F S128x128 .bf16 := k0_pay49 s.v56 s.v57 s.v97 s.v99 s.v111 s.v114 s.v207

def St.v231 (s : St F) : FVec F S128x128 .bf16 := k0_pay50 s.v52 s.v97 s.v99 s.v111 s.v114 s.v207

def St.v232 (s : St F) : FVec F S128x128 .f32 := k0_pay51 (F := F)

def St.v255 (s : St F) : Vec F S1x128 .f32 := VecWindow.window s.m_1 ![1, 0] S1x128.size inb_S8x128_S1x128_1_0

def St.m_2 (s : St F) : Vec F S8x128 .f32 := VecWindow.put s.m_1 ![1, 0] S1x128.size (k0_pay57 s.v205 s.v206 s.v207)

def St.v258 (s : St F) : Vec F S1x256x512 .f32 := VecWindow.window s.c ![0, 0, 0] S1x256x512.size inb_S2x256x512_S1x256x512_0_0_0

def St.v282 (s : St F) : IVec S128x128 32 := iota .tc S128x128 32 [1] iota_S128x128_d1_w32

def St.v250 (s : St F) : FVec F S1x128 .f32 := k0_pay55 s.v205 s.v206 s.v207

def St.v254 (s : St F) : FVec F S128x128 .bf16 := k0_pay56 s.v58 s.v205 s.v206 s.v207

def St.v259 (s : St F) : FVec F S256x512 .f32 := k0_pay58 s.v258

def St.v261 (s : St F) : Vec F S128x384 .bf16 := k0_pay59 s.v117 s.v144 s.v145

def St.v262 (s : St F) : FVec F S128x384 .bf16 := k0_pay60 s.v117 s.v144 s.v145

def St.v268 (s : St F) : FVec F S128x384 .f32 := k0_pay62 s.v117 s.v142 s.v144 s.v145 s.v172 s.v175 s.v228 s.v231 s.v258

def St.v279 (s : St F) : FVec F S128x384 .f32 := k0_pay63 s.v117 s.v142 s.v144 s.v145 s.v172 s.v175 s.v228 s.v231 s.v258

def St.v280 (s : St F) : FVec F S128x1 .f32 := k0_pay64 s.v178

def St.v281 (s : St F) : FVec F S128x1 .f32 := k0_pay65 s.v219 s.v232

def St.v308 (s : St F) : Vec F S1x256x512 .f32 := VecWindow.window s.c ![0, 0, 0] S1x256x512.size inb_S2x256x512_S1x256x512_0_0_0

def St.c_1 (s : St F) : Vec F S2x256x512 .f32 := VecWindow.put s.c ![0, 0, 0] S1x256x512.size (k0_pay67 s.v124 s.v130 s.v194 s.v198 s.v250 s.v254 s.v259 s.v261 s.v262)

def St.v312 (s : St F) : Vec F S128x384 .bf16 := VecWindow.window s.x2 (k0_off4 s.k) S128x384.size (k0_off4_inb s.k)

def St.v293 (s : St F) : FVec F S128x384 .f32 := k0_pay66 s.v268 s.v279 s.v280 s.v281 s.v282 64#32

def St.v313 (s : St F) : FVec F S128x384 .f32 := k0_pay68 s.v312

def St.v324 (s : St F) : FVec F S128x1 .f32 := k0_pay72 s.v268 s.v279 s.v280 s.v281 s.v282 64#32

def St.v330 (s : St F) : FVec F S128x1 .f32 := k0_pay73 s.v268 s.v279 s.v280 s.v281 s.v282 64#32

def St.v351 (s : St F) : Vec F S1x384 .f32 := VecWindow.window s.x6 ![0, 0] S1x384.size inb_S1x768_S1x384_0_0

def St.v360 (s : St F) : FVec F S128x384 .bf16 := (k0_pay74 s.v293 s.v313 s.v324 s.v330 s.v351)

def St.v361 (s : St F) : Vec F S128x384 .bf16 := VecWindow.window s.x2 (k0_off6 s.k) S128x384.size (k0_off6_inb s.k)

def St.v368 (s : St F) : Vec F S1x128 .f32 := VecWindow.window s.m_2 ![2, 0] S1x128.size inb_S8x128_S1x128_2_0

def St.v362 (s : St F) : FVec F S128x384 .bf16 := k0_pay75 (F := F)

def St.v366 (s : St F) : FVec F S1x128 .f32 := k0_pay77 s.v111

def St.v367 (s : St F) : FVec F S1x128 .f32 := k0_pay78 s.v99

def St.v374 (s : St F) : FVec F S128x128 .f32 := k0_pay79 s.v97 s.v99 s.v111 s.v114

def St.v376 (s : St F) : FVec F S128x128 .f32 := k0_pay80 s.v97 s.v368

def St.v416 (s : St F) : Vec F S1x128 .f32 := VecWindow.window s.m_2 ![2, 0] S1x128.size inb_S8x128_S1x128_2_0

def St.m_3 (s : St F) : Vec F S8x128 .f32 := VecWindow.put s.m_2 ![2, 0] S1x128.size (k0_pay90 s.v366 s.v367 s.v368)

def St.v424 (s : St F) : Vec F S1x128 .f32 := VecWindow.window s.m_3 ![3, 0] S1x128.size inb_S8x128_S1x128_3_0

def St.v389 (s : St F) : FVec F S128x128 .bf16 := k0_pay82 s.v56 s.v57 s.v374 s.v376

def St.v392 (s : St F) : FVec F S128x128 .bf16 := k0_pay83 s.v52 s.v374 s.v376

def St.v395 (s : St F) : FVec F S128x128 .f32 := k0_pay84 s.v374 s.v376

def St.v411 (s : St F) : FVec F S1x128 .f32 := k0_pay88 s.v366 s.v367 s.v368

def St.v415 (s : St F) : FVec F S128x128 .bf16 := k0_pay89 s.v58 s.v366 s.v367 s.v368

def St.v421 (s : St F) : FVec F S128x128 .f32 := k0_pay91 s.v97

def St.v422 (s : St F) : FVec F S1x128 .f32 := k0_pay92 s.v111

def St.v423 (s : St F) : FVec F S1x128 .f32 := k0_pay93 s.v99

def St.v426 (s : St F) : FVec F S128x128 .f32 := k0_pay94 s.v97 s.v111

def St.v427 (s : St F) : FVec F S128x128 .f32 := k0_pay95 s.v99

def St.v472 (s : St F) : Vec F S1x128 .f32 := VecWindow.window s.m_3 ![3, 0] S1x128.size inb_S8x128_S1x128_3_0

def St.m_4 (s : St F) : Vec F S8x128 .f32 := VecWindow.put s.m_3 ![3, 0] S1x128.size (k0_pay107 s.v422 s.v423 s.v424)

def St.v475 (s : St F) : Vec F S1x256x512 .f32 := VecWindow.window s.c_1 ![1, 0, 0] S1x256x512.size inb_S2x256x512_S1x256x512_1_0_0

def St.v445 (s : St F) : FVec F S128x128 .bf16 := k0_pay99 s.v56 s.v57 s.v114 s.v421 s.v424 s.v426 s.v427

def St.v448 (s : St F) : FVec F S128x128 .bf16 := k0_pay100 s.v52 s.v114 s.v421 s.v424 s.v426 s.v427

def St.v451 (s : St F) : FVec F S128x128 .f32 := k0_pay101 s.v114 s.v421 s.v424 s.v426 s.v427

def St.v467 (s : St F) : FVec F S1x128 .f32 := k0_pay105 s.v422 s.v423 s.v424

def St.v471 (s : St F) : FVec F S128x128 .bf16 := k0_pay106 s.v58 s.v422 s.v423 s.v424

def St.v476 (s : St F) : FVec F S256x512 .f32 := k0_pay108 s.v475

def St.v525 (s : St F) : Vec F S1x256x512 .f32 := VecWindow.window s.c_1 ![1, 0, 0] S1x256x512.size inb_S2x256x512_S1x256x512_1_0_0

def St.c_2 (s : St F) : Vec F S2x256x512 .f32 := VecWindow.put s.c_1 ![1, 0, 0] S1x256x512.size (k0_pay112 s.v117 s.v124 s.v130 s.v361 s.v362 s.v411 s.v415 s.v467 s.v471 s.v476)

def St.v510 (s : St F) : FVec F S128x384 .f32 := (k0_pay111 s.v117 s.v142 s.v361 s.v362 s.v389 s.v392 s.v395 s.v445 s.v448 s.v451 s.v476)

def St.v529 (s : St F) : Vec F S128x384 .bf16 := VecWindow.window s.x2 (k0_off7 s.k) S128x384.size (k0_off7_inb s.k)

def St.v568 (s : St F) : Vec F S1x384 .f32 := VecWindow.window s.x6 ![0, 384] S1x384.size inb_S1x768_S1x384_0_384

def St.v574 (s : St F) : FVec F S128x384 .bf16 := (k0_pay113 s.v510 s.v529 s.v568)

end Cert.MlstmIdeal.Whole

end
-- ==== Proof.MlstmReal.lean ====
/- The arithmetic of the stabilised recurrence on real numbers: the running sum of the log forget gates, the running
   maximum that scales the state, and the identity between a pass chunk by chunk and the sum over the whole past. -/
module

public import Idealize.ShloMosaic.PureOps.Ideal

@[expose] public section

noncomputable section

open Idealize.ShloMosaic
open scoped BigOperators

namespace Cert.Recurrence

/-- The sum of the first `n` log forget gates. -/
def cum (a : ℕ → ℝ) (n : ℕ) : ℝ := ∑ s ∈ Finset.range n, a s

/-- Token `s`'s input gate measured from the running sum at `s`. -/
def lift (a i : ℕ → ℝ) (s : ℕ) : ℝ := i s - cum a (s + 1)

/-- The greatest of 0 and the first `n` measured input gates. -/
def top (a i : ℕ → ℝ) : ℕ → ℝ
  | 0 => 0
  | n + 1 => max (top a i n) (lift a i n)

/-- The stabiliser at token `t`. -/
def peak (a i : ℕ → ℝ) (t : ℕ) : ℝ := cum a (t + 1) + top a i (t + 1)

/-- How much token `s` still weighs in a state scaled after `n` tokens. -/
def share (a i : ℕ → ℝ) (n s : ℕ) : ℝ := Real.exp (lift a i s - top a i n)

/-- The matrix state after `n` tokens, at row `d`. -/
def state (a i : ℕ → ℝ) (K V : ℕ → ℝ) (n : ℕ) : ℝ := ∑ s ∈ Finset.range n, K s * share a i n s * V s

/-- The read of the state by the query of token `t`, as the sum over the whole past. -/
def read (a i : ℕ → ℝ) (S : ℕ → ℝ) (V : ℕ → ℝ) (t : ℕ) : ℝ :=
  ∑ s ∈ Finset.range (t + 1), S s * share a i (t + 1) s * V s

/-- The running maximum does not fall. -/
theorem top_mono (a i : ℕ → ℝ) (n k : ℕ) : top a i n ≤ top a i (n + k) := by
  induction k with
  | zero => exact le_refl _
  | succ k ih => exact ih.trans (le_max_left _ _)

/-- A token counted by the running maximum is at most it. -/
theorem lift_le_top (a i : ℕ → ℝ) (n k q : ℕ) (h : q < k) : lift a i (n + q) ≤ top a i (n + k) := by
  obtain ⟨j, rfl⟩ : ∃ j, k = q + 1 + j := ⟨k - (q + 1), by omega⟩
  have := top_mono a i (n + q + 1) j
  have h2 : lift a i (n + q) ≤ top a i (n + q + 1) := le_max_right _ _
  rw [show n + (q + 1 + j) = n + q + 1 + j by omega]
  exact h2.trans this

/-- The running maximum is where it was, or one of the tokens since. -/
theorem top_cases (a i : ℕ → ℝ) (n k : ℕ) :
    top a i n = top a i (n + k) ∨ ∃ q, q < k ∧ lift a i (n + q) = top a i (n + k) := by
  induction k with
  | zero => exact Or.inl rfl
  | succ k ih =>
    rcases max_choice (top a i (n + k)) (lift a i (n + k)) with h | h
    · have h' : top a i (n + (k + 1)) = top a i (n + k) := h
      rcases ih with e | ⟨q, hq, e⟩
      · exact Or.inl (by rw [h', e])
      · exact Or.inr ⟨q, by omega, by rw [h', e]⟩
    · exact Or.inr ⟨k, by omega, h.symm⟩

/-- A maximum is a number that bounds both parts and is attained by one of them. -/
theorem max_fold_eq {N : ℕ} (f : Fin N → EReal) (x y : EReal) (hx : x ≤ y) (hf : ∀ q, f q ≤ y)
    (h : x = y ∨ ∃ q, f q = y) : max x (Finset.univ.fold max ⊥ f) = y := by
  have e : Finset.univ.fold max ⊥ f ≤ y := (Finset.fold_max_le y).2 ⟨bot_le, fun q _ => hf q⟩
  apply le_antisymm (max_le hx e)
  rcases h with rfl | ⟨q, rfl⟩
  · exact le_max_left _ _
  · exact le_max_of_le_right ((Finset.le_fold_max _).2 (Or.inr ⟨q, Finset.mem_univ q, le_refl _⟩))

/-- The stabiliser of token `n + r` from the one before the chunk and the chunk's own tokens up to `r`. -/
theorem row_max {N : ℕ} (a i : ℕ → ℝ) (n r : ℕ) (hr : r < N) :
    max (((cum a (n + r + 1) - cum a n : ℝ) : EReal) + ((cum a n + top a i n : ℝ) : EReal))
      (Finset.univ.fold max ⊥ fun x : Fin N => if x.val ≤ r then
        ((cum a (n + r + 1) - cum a n : ℝ) : EReal) - ((cum a (n + x.val + 1) - cum a n : ℝ) : EReal) + (i (n + x.val) : EReal) else ⊥)
      = (peak a i (n + r) : EReal) := by
  have key : ∀ q : ℕ, ((cum a (n + r + 1) - cum a n : ℝ) : EReal) - ((cum a (n + q + 1) - cum a n : ℝ) : EReal) + (i (n + q) : EReal)
      = ((cum a (n + r + 1) + lift a i (n + q) : ℝ) : EReal) := fun q => by
    rw [← EReal.coe_sub, ← EReal.coe_add]; congr 1; unfold lift; ring
  simp only [key, ← EReal.coe_add, peak]
  apply max_fold_eq
  · rw [EReal.coe_le_coe_iff]
    have := top_mono a i n (r + 1)
    rw [← add_assoc] at this
    linarith
  · intro q
    split_ifs with h
    · rw [EReal.coe_le_coe_iff]
      have := lift_le_top a i n (r + 1) q.val (by omega)
      rw [← add_assoc] at this
      linarith
    · exact bot_le
  · rcases top_cases a i n (r + 1) with h | ⟨q, hq, h⟩
    · left; rw [← add_assoc] at h; congr 1; linarith
    · right
      refine ⟨⟨q, by omega⟩, ?_⟩
      rw [← add_assoc] at h
      simp only
      rw [if_pos (by omega), h]

/-- The stabiliser at the end of a chunk of `N` tokens, from the one before it and all the chunk's tokens. -/
theorem carry_max {N : ℕ} (a i : ℕ → ℝ) (n : ℕ) (hN : 0 < N) :
    max (((cum a (n + N) - cum a n : ℝ) : EReal) + ((cum a n + top a i n : ℝ) : EReal))
      (Finset.univ.fold max ⊥ fun x : Fin N =>
        ((cum a (n + N) - cum a n : ℝ) : EReal) - ((cum a (n + x.val + 1) - cum a n : ℝ) : EReal) + (i (n + x.val) : EReal))
      = ((cum a (n + N) + top a i (n + N) : ℝ) : EReal) := by
  have h := row_max (N := N) a i n (N - 1) (by omega)
  rw [show n + (N - 1) + 1 = n + N by omega] at h
  unfold peak at h
  rw [show n + (N - 1) + 1 = n + N by omega] at h
  rw [← h]
  congr 2
  funext x
  rw [if_pos (by have := x.isLt; omega)]

/-- The gate of a pair of tokens: how much token `n + q` weighs at token `n + r`, nothing when it is later. -/
theorem pair_gate (a i : ℕ → ℝ) (n r q : ℕ) :
    Ideal.exp ((if q ≤ r then
        ((cum a (n + r + 1) - cum a n : ℝ) : EReal) - ((cum a (n + q + 1) - cum a n : ℝ) : EReal) + (i (n + q) : EReal) else ⊥)
        - (peak a i (n + r) : EReal))
      = ((if q ≤ r then share a i (n + r + 1) (n + q) else 0 : ℝ) : EReal) := by
  split_ifs with h
  · rw [← EReal.coe_sub, ← EReal.coe_add, ← EReal.coe_sub, Ideal.exp_coe]
    congr 2; unfold peak lift; ring
  · rw [EReal.bot_sub, Ideal.exp_bot]; rfl

/-- The gate of the state before the chunk at token `n + r`. -/
theorem past_gate (a i : ℕ → ℝ) (n r : ℕ) :
    Ideal.exp (((cum a (n + r + 1) - cum a n : ℝ) : EReal) + ((cum a n + top a i n : ℝ) : EReal) - (peak a i (n + r) : EReal))
      = ((Real.exp (top a i n - top a i (n + r + 1)) : ℝ) : EReal) := by
  rw [← EReal.coe_add, ← EReal.coe_sub, Ideal.exp_coe]
  congr 2; unfold peak; ring

/-- The gate of a token into the state at the end of its chunk. -/
theorem write_gate (a i : ℕ → ℝ) (n N q : ℕ) :
    Ideal.exp (((cum a (n + N) - cum a n : ℝ) : EReal) - ((cum a (n + q + 1) - cum a n : ℝ) : EReal) + (i (n + q) : EReal)
        - ((cum a (n + N) + top a i (n + N) : ℝ) : EReal))
      = ((share a i (n + N) (n + q) : ℝ) : EReal) := by
  rw [← EReal.coe_sub, ← EReal.coe_add, ← EReal.coe_sub, Ideal.exp_coe]
  congr 2; unfold lift; ring

/-- The gate of the state before the chunk into the state at its end. -/
theorem keep_gate (a i : ℕ → ℝ) (n N : ℕ) :
    Ideal.exp (((cum a (n + N) - cum a n : ℝ) : EReal) + ((cum a n + top a i n : ℝ) : EReal)
        - ((cum a (n + N) + top a i (n + N) : ℝ) : EReal))
      = ((Real.exp (top a i n - top a i (n + N)) : ℝ) : EReal) := by
  rw [← EReal.coe_add, ← EReal.coe_sub, Ideal.exp_coe]
  congr 2; ring

/-- Rescaling a share from one running maximum to a later one. -/
theorem share_scale (a i : ℕ → ℝ) (n m s : ℕ) :
    Real.exp (top a i n - top a i m) * share a i n s = share a i m s := by
  unfold share; rw [← Real.exp_add]; congr 1; ring

/-- The state after a chunk of `N` tokens: the old one rescaled, plus the chunk's tokens. -/
theorem state_step (a i K V : ℕ → ℝ) (n N : ℕ) :
    Real.exp (top a i n - top a i (n + N)) * state a i K V n
        + ∑ q : Fin N, K (n + q.val) * share a i (n + N) (n + q.val) * V (n + q.val)
      = state a i K V (n + N) := by
  unfold state
  rw [Finset.sum_range_add, Finset.mul_sum, Fin.sum_univ_eq_sum_range (fun q => K (n + q) * share a i (n + N) (n + q) * V (n + q))]
  congr 1
  refine Finset.sum_congr rfl fun s _ => ?_
  rw [← share_scale a i n (n + N) s]; ring

/-- Nothing in the state before the first token. -/
theorem state_zero (a i K V : ℕ → ℝ) : state a i K V 0 = 0 := by simp [state]

/-- A sum over a chunk of the tokens up to place `r` is a sum over a range. -/
theorem sum_upto {N : ℕ} (f : ℕ → ℝ) (r : ℕ) (hr : r < N) :
    ∑ q : Fin N, (if q.val ≤ r then f q.val else 0) = ∑ q ∈ Finset.range (r + 1), f q := by
  rw [Fin.sum_univ_eq_sum_range (fun q => if q ≤ r then f q else 0), ← Finset.sum_filter]
  apply Finset.sum_congr _ (fun _ _ => rfl)
  ext q; simp only [Finset.mem_filter, Finset.mem_range]; omega

/-- The read at token `n + r`: the chunk's own tokens up to `r`, plus the rescaled query against the state before. -/
theorem read_chunk {N D : ℕ} (a i : ℕ → ℝ) (Q : Fin D → ℝ) (K : ℕ → Fin D → ℝ) (V : ℕ → ℝ) (n r : ℕ) (hr : r < N) :
    ∑ q : Fin N, (∑ d, Q d * K (n + q.val) d) * (if q.val ≤ r then share a i (n + r + 1) (n + q.val) else 0) * V (n + q.val)
        + ∑ d, (Q d * Real.exp (top a i n - top a i (n + r + 1))) * state a i (fun s => K s d) V n
      = read a i (fun s => ∑ d, Q d * K s d) V (n + r) := by
  unfold read state
  rw [show n + r + 1 = n + (r + 1) by omega, Finset.sum_range_add, add_comm]
  congr 1
  · simp only [Finset.mul_sum]
    rw [Finset.sum_comm]
    refine Finset.sum_congr rfl fun s _ => ?_
    rw [← share_scale a i n (n + (r + 1)) s, Finset.sum_mul, Finset.sum_mul]
    refine Finset.sum_congr rfl fun d _ => ?_
    ring
  · rw [← sum_upto (fun q => (∑ d, Q d * K (n + q) d) * share a i (n + (r + 1)) (n + q) * V (n + q)) r hr]
    refine Finset.sum_congr rfl fun q _ => ?_
    split_ifs <;> ring

/-- The real sequences of one sequence of tokens: log forget gates and input gates by head and token, queries and keys
by token and column (128 columns a head), values by token and column (192 columns a head). -/
structure Seq where
  a : ℕ → ℕ → ℝ
  i : ℕ → ℕ → ℝ
  Q : ℕ → ℕ → ℝ
  K : ℕ → ℕ → ℝ
  V : ℕ → ℕ → ℝ

/-- What a pair of heads stores beside a key: the head's own values, nothing in the other's place, and a one in the
head's place of the normaliser columns. -/
def Seq.val (g : Seq) (p hh t j : ℕ) : ℝ :=
  if j < 384 then (if j / 192 = hh then g.V t (384 * p + j) else 0) else if j - 384 = hh then 1 else 0

/-- A sum of real numbers, taken among the extended ones. -/
theorem coe_sum {ι : Type} [Fintype ι] (f : ι → ℝ) : ∑ x, (f x : EReal) = ((∑ x, f x : ℝ) : EReal) := by
  classical
  induction (Finset.univ : Finset ι) using Finset.induction_on with
  | empty => simp
  | insert x s hx ih => rw [Finset.sum_insert hx, Finset.sum_insert hx, ih, EReal.coe_add]

/-- A selection by a decided word. -/
theorem select_if {α : Type} (p : Prop) [Decidable p] (x y : α) :
    Scalar.select (if p then 1#1 else 0#1) x y = if p then x else y := by
  split_ifs <;> rfl

/-- The least of the extended real numbers, as a written word. -/
theorem word_bot : Ideal.ofBits FTy.f32 4286578688#32 = (⊥ : EReal) := by simp [Ideal.ofBits, Ideal.ieee]

/-- Head `h`'s score of token `s` at token `t`. -/
def Seq.dot (g : Seq) (h t s : ℕ) : ℝ := ∑ d : Fin 128, g.Q t (128 * h + d.val) * g.K s (128 * h + d.val)

/-- What head `h`, the `hh`-th of pair `p`, reads at token `t`, column `j`. -/
def Seq.out (g : Seq) (h p hh t j : ℕ) : ℝ := read (g.a h) (g.i h) (g.dot h t) (fun s => g.val p hh s j) t

/-- What the `hh`-th head of pair `p`, head `h`, holds after `n` tokens at row `d`, column `j`. -/
def Seq.st (g : Seq) (h p hh n d j : ℕ) : ℝ := state (g.a h) (g.i h) (fun t => g.K t (128 * h + d)) (fun t => g.val p hh t j) n

/-- A chunk's read by one head, from the scores within the chunk and the state before it. -/
theorem out_chunk (g : Seq) (h p hh n j : ℕ) (r : Fin 128) :
    ∑ q : Fin 128, (∑ d : Fin 128, g.Q (n + r.val) (128 * h + d.val) * g.K (n + q.val) (128 * h + d.val))
          * (if q.val ≤ r.val then share (g.a h) (g.i h) (n + r.val + 1) (n + q.val) else 0) * g.val p hh (n + q.val) j
        + ∑ d : Fin 128, (g.Q (n + r.val) (128 * h + d.val) * Real.exp (top (g.a h) (g.i h) n - top (g.a h) (g.i h) (n + r.val + 1)))
          * g.st h p hh n d.val j
      = g.out h p hh (n + r.val) j :=
  read_chunk (N := 128) (D := 128) (g.a h) (g.i h) (fun d => g.Q (n + r.val) (128 * h + d.val)) (fun s d => g.K s (128 * h + d.val))
    (fun s => g.val p hh s j) n r.val r.isLt

/-- A head's state at the end of a chunk. -/
theorem st_chunk (g : Seq) (h p hh n d j : ℕ) :
    Real.exp (top (g.a h) (g.i h) n - top (g.a h) (g.i h) (n + 128)) * g.st h p hh n d j
        + ∑ q : Fin 128, g.K (n + q.val) (128 * h + d) * share (g.a h) (g.i h) (n + 128) (n + q.val) * g.val p hh (n + q.val) j
      = g.st h p hh (n + 128) d j :=
  state_step (g.a h) (g.i h) (fun t => g.K t (128 * h + d)) (fun t => g.val p hh t j) n 128

/-- A sum over 512 places is the sum over four runs of 128. -/
theorem sum_four {M : Type} [AddCommMonoid M] (f : Fin 512 → M) :
    ∑ x, f x = ((∑ x : Fin 128, f ⟨x.val, by omega⟩) + ∑ x : Fin 128, f ⟨128 + x.val, by omega⟩)
      + ((∑ x : Fin 128, f ⟨256 + x.val, by omega⟩) + ∑ x : Fin 128, f ⟨384 + x.val, by omega⟩) := by
  rw [Fin.sum_univ_add (a := 256) (b := 256) f, Fin.sum_univ_add (a := 128) (b := 128) (fun x => f (Fin.castAdd 256 x)),
    Fin.sum_univ_add (a := 128) (b := 128) (fun x => f (Fin.natAdd 256 x))]
  congr 2

/-- What a pair of heads reads at token `t`, column `j`. -/
def Seq.mix (g : Seq) (p t j : ℕ) : ℝ := g.out (2 * p) p 0 t j + g.out (2 * p + 1) p 1 t j

/-- A pair's read, from the four partial products. -/
theorem mix_chunk (g : Seq) (h0 h1 p n j : ℕ) (r : Fin 128) (e0 : h0 = 2 * p) (e1 : h1 = 2 * p + 1) :
    (∑ q : Fin 128, (∑ d : Fin 128, g.Q (n + r.val) (128 * h0 + d.val) * g.K (n + q.val) (128 * h0 + d.val))
          * (if q.val ≤ r.val then share (g.a h0) (g.i h0) (n + r.val + 1) (n + q.val) else 0) * g.val p 0 (n + q.val) j
      + ∑ q : Fin 128, (∑ d : Fin 128, g.Q (n + r.val) (128 * h1 + d.val) * g.K (n + q.val) (128 * h1 + d.val))
          * (if q.val ≤ r.val then share (g.a h1) (g.i h1) (n + r.val + 1) (n + q.val) else 0) * g.val p 1 (n + q.val) j)
      + (∑ d : Fin 128, (g.Q (n + r.val) (128 * h0 + d.val) * Real.exp (top (g.a h0) (g.i h0) n - top (g.a h0) (g.i h0) (n + r.val + 1)))
          * g.st h0 p 0 n d.val j
      + ∑ d : Fin 128, (g.Q (n + r.val) (128 * h1 + d.val) * Real.exp (top (g.a h1) (g.i h1) n - top (g.a h1) (g.i h1) (n + r.val + 1)))
          * g.st h1 p 1 n d.val j)
      = g.mix p (n + r.val) j := by
  unfold Seq.mix
  rw [← e1, ← e0, ← out_chunk g h0 p 0 n j r, ← out_chunk g h1 p 1 n j r]
  ring

/-- A lane sum of 128 that carries the 64 columns beyond it is the sum of the first 192 columns. -/
theorem sum_left {M : Type} [AddCommMonoid M] (f : ℕ → M) :
    ∑ x : Fin 128, (f x.val + if x.val < 64 then f (128 + x.val) else 0) = ∑ k : Fin 192, f k.val := by
  rw [Finset.sum_add_distrib, Fin.sum_univ_eq_sum_range (fun x => f x), Fin.sum_univ_eq_sum_range (fun x => if x < 64 then f (128 + x) else 0),
    Fin.sum_univ_eq_sum_range (fun x => f x), show (192 : ℕ) = 128 + 64 from rfl, Finset.sum_range_add f 128 64]
  congr 1
  rw [show (128 : ℕ) = 64 + 64 from rfl, Finset.sum_range_add _ 64 64]
  rw [Finset.sum_congr rfl (g := fun x => f (64 + 64 + x)) (fun x hx => by rw [if_pos (Finset.mem_range.1 hx)]),
    Finset.sum_eq_zero (s := Finset.range 64) (f := fun x => if 64 + x < 64 then f (64 + 64 + (64 + x)) else 0)
      (fun x _ => by rw [if_neg (by omega)]), add_zero]

/-- A lane sum of 128 that carries the 64 columns before it is the sum of the last 192 columns. -/
theorem sum_right {M : Type} [AddCommMonoid M] (f : ℕ → M) :
    ∑ x : Fin 128, (f (256 + x.val) + if x.val < 64 then 0 else f (128 + x.val)) = ∑ k : Fin 192, f (192 + k.val) := by
  rw [Finset.sum_add_distrib, Fin.sum_univ_eq_sum_range (fun x => f (256 + x)), Fin.sum_univ_eq_sum_range (fun x => if x < 64 then 0 else f (128 + x)),
    Fin.sum_univ_eq_sum_range (fun x => f (192 + x)), show (192 : ℕ) = 64 + 128 from rfl, Finset.sum_range_add _ 64 128, add_comm]
  congr 1
  · rw [show (128 : ℕ) = 64 + 64 from rfl, Finset.sum_range_add _ 64 64]
    rw [Finset.sum_eq_zero (s := Finset.range 64) (f := fun x => if x < 64 then 0 else f (64 + 64 + x))
        (fun x hx => by rw [if_pos (Finset.mem_range.1 hx)]), zero_add]
    refine Finset.sum_congr rfl fun x _ => ?_
    rw [if_neg (by omega)]; congr 1; omega

/-- Head `h`'s numerator at token `t`, column `c`: the sum over the whole past. -/
def Seq.num (g : Seq) (h t c : ℕ) : ℝ := read (g.a h) (g.i h) (g.dot h t) (fun s => g.V s (192 * h + c)) t

/-- Head `h`'s normaliser at token `t`. -/
def Seq.den (g : Seq) (h t : ℕ) : ℝ := read (g.a h) (g.i h) (g.dot h t) (fun _ => 1) t

/-- Head `h`'s output at token `t`, column `c`, before its normalisation. -/
def Seq.y (g : Seq) (h t c : ℕ) : EReal :=
  Ideal.div (g.num h t c : EReal) (max (FloatOps.absf (F := Ideal) (φ := .f32) (g.den h t : EReal))
    ((Real.exp (- peak (g.a h) (g.i h) t) : ℝ) : EReal))

/-- Head `h`'s result at token `t`, column `c`: normalised over the head's columns, scaled by `w`, gated by `o`. -/
def Seq.res (g : Seq) (h t c : ℕ) (w o : EReal) : EReal :=
  g.y h t c * Ideal.rsqrt (Ideal.div (∑ k : Fin 192, g.y h t k.val * g.y h t k.val) (Ideal.ofBits FTy.f32 1128267776#32)
    + Ideal.ofBits FTy.f32 897988541#32) * w * Ideal.logistic o

/-- Reading nothing gives nothing. -/
theorem read_zero (a i S : ℕ → ℝ) (V : ℕ → ℝ) (t : ℕ) (h : ∀ s, V s = 0) : read a i S V t = 0 :=
  Finset.sum_eq_zero fun s _ => by rw [h s, mul_zero]

/-- A pair's read in the first head's columns. -/
theorem mix_left (g : Seq) (p t j : ℕ) (h : j < 192) : g.mix p t j = g.num (2 * p) t j := by
  unfold Seq.mix Seq.out Seq.num
  rw [read_zero (g.a (2 * p + 1)) _ _ _ _ (fun s => by unfold Seq.val; rw [if_pos (by omega), if_neg (by omega)]), add_zero]
  congr 1; funext s; unfold Seq.val; rw [if_pos (by omega), if_pos (by omega)]; congr 1; omega

/-- A pair's read in the second head's columns. -/
theorem mix_right (g : Seq) (p t j : ℕ) (h : ¬ j < 192) (h' : j < 384) : g.mix p t j = g.num (2 * p + 1) t (j - 192) := by
  unfold Seq.mix Seq.out Seq.num
  rw [read_zero (g.a (2 * p)) _ _ _ _ (fun s => by unfold Seq.val; rw [if_pos (by omega), if_neg (by omega)]), zero_add]
  congr 1; funext s; unfold Seq.val; rw [if_pos (by omega), if_pos (by omega)]; congr 1; omega

/-- A pair's read in the first head's normaliser column. -/
theorem mix_den (g : Seq) (p t : ℕ) : g.mix p t 384 = g.den (2 * p) t := by
  unfold Seq.mix Seq.out Seq.den
  rw [read_zero (g.a (2 * p + 1)) _ _ _ _ (fun s => by unfold Seq.val; norm_num), add_zero]
  congr 1

/-- A pair's read in the second head's normaliser column. -/
theorem mix_den' (g : Seq) (p t : ℕ) : g.mix p t 385 = g.den (2 * p + 1) t := by
  unfold Seq.mix Seq.out Seq.den
  rw [read_zero (g.a (2 * p)) _ _ _ _ (fun s => by unfold Seq.val; norm_num), zero_add]
  congr 1

end Cert.Recurrence

end
-- ==== Proof.MlstmHead.lean ====
/- The recurrence, one chunk, head by head: from what a chunk begins with, the gated scores, the rescaled queries, the
   gates on the state and the next running maximum, as formulas in the real sequences. -/
module

public import proofs.«01_k».proof.Proof.MlstmTrip
public import proofs.«01_k».proof.Proof.Gen.MlstmIdeal.Skeleton
public import Idealize.ShloMosaic.Lib.Pipeline.ValueKit
public import Idealize.ShloMosaic.Lib.Pointwise
public import proofs.«01_k».proof.Proof.MlstmReal

@[expose] public section

set_option maxRecDepth 16384

noncomputable section

open Idealize.ShloMosaic Idealize.ShloMosaic.TcCoe Idealize.SL.Sem
open scoped BigOperators

namespace Cert.MlstmIdeal.Whole

open Cert.MlstmIdeal Cert.MlstmIdeal.Gen Cert.Recurrence

/-- What a chunk of the sequence `g` begins with when `n` tokens lie before it. -/
structure Chunk (s : St Ideal) (g : Seq) (n : ℕ) : Prop where
  q : ∀ r c, s.v56 (ix2 r c) = (g.Q (n + r.val) c.val : EReal)
  q32 : ∀ r c, s.v52 (ix2 r c) = (g.Q (n + r.val) c.val : EReal)
  k : ∀ r c, s.v57 (ix2 r c) = (g.K (n + r.val) c.val : EReal)
  kT : ∀ r c, s.v58 (ix2 c r) = (g.K (n + r.val) c.val : EReal)
  sum : ∀ (r : Fin 128) (h : Fin 4), s.v97 (ix2 r ⟨4 + h.val, by omega⟩) = ((cum (g.a h) (n + r.val + 1) - cum (g.a h) n : ℝ) : EReal)
  sumT : ∀ (r : Fin 128) (h : Fin 4), s.v111 (ix2 ⟨4 + h.val, by omega⟩ r) = ((cum (g.a h) (n + r.val + 1) - cum (g.a h) n : ℝ) : EReal)
  inp : ∀ (r : Fin 128) (h : Fin 4), s.v99 (ix2 ⟨h.val, by omega⟩ r) = (g.i h (n + r.val) : EReal)
  mask : ∀ r x, s.v114 (ix2 r x) = if x.val ≤ r.val then 1#1 else 0#1
  v0 : ∀ r j, s.v144 (ix2 r j) = (g.V (n + r.val) j.val : EReal)
  v1 : ∀ r j, s.v361 (ix2 r j) = (g.V (n + r.val) (384 + j.val) : EReal)
  m : ∀ (h : Fin 4) (q : Fin 128), s.m (ix2 ⟨h.val, by omega⟩ q) = ((cum (g.a h) n + top (g.a h) (g.i h) n : ℝ) : EReal)
  c : ∀ (p hh : Fin 2) (d : Fin 128) (j : Fin 512), s.c (ix3 p ⟨128 * hh.val + d.val, by omega⟩ j)
    = (g.st (2 * p + hh) p hh n d.val j : EReal)

/-- A row of the running maxima after one row has been written. -/
theorem put_row (m : Vec Ideal S8x128 .f32) (w : Vec Ideal S1x128 .f32) (k : ℕ) (h : Fin 8) (q : Fin 128) :
    VecWindow.put m ![k, 0] S1x128.size w (ix2 h q) = if h.val = k then w (ix2 0 q) else m (ix2 h q) := by
  unfold VecWindow.put
  split_ifs with g e e
  · congr 1; funext a; apply Fin.ext
    match a with
    | ⟨0, _⟩ => show h.val - k = 0; omega
    | ⟨1, _⟩ => rfl
  · exfalso; have := g 0; simp at this; omega
  · exfalso; apply g; intro a
    match a with
    | ⟨0, _⟩ => exact ⟨by show k ≤ h.val; omega, by show h.val < k + 1; omega⟩
    | ⟨1, _⟩ => exact ⟨Nat.zero_le _, by show q.val < 0 + 128; omega⟩
  · rfl

/-- A row of the running maxima as it is read. -/
theorem get_row (m : Vec Ideal S8x128 .f32) (k : ℕ) (hk : ∀ a : Fin 2, (![k, 0] : Fin 2 → ℕ) a + S1x128.size a ≤ S8x128.size a) (q : Fin 128) (h : Fin 8) (e : h.val = k) :
    VecWindow.window (s := S8x128) m ![k, 0] S1x128.size hk (ix2 0 q) = m (ix2 h q) := by
  show m _ = m _
  congr 1; funext a; apply Fin.ext
  match a with
  | ⟨0, _⟩ => show k + 0 = h.val; omega
  | ⟨1, _⟩ => show 0 + 1 * q.val = q.val; omega

/-- Head 0's row of the running maxima as the chunk reads it is the row it began with. -/
theorem max_row0 (s : St Ideal) (q : Fin 128) : s.v151 (ix2 0 q) = s.m (ix2 0 q) := by
  unfold St.v151
  rw [get_row s.m 0 _ q 0 rfl]

/-- Head 1's row of the running maxima as the chunk reads it is the row it began with. -/
theorem max_row1 (s : St Ideal) (q : Fin 128) : s.v207 (ix2 0 q) = s.m (ix2 1 q) := by
  unfold St.v207
  rw [get_row s.m_1 1 _ q 1 rfl]
  unfold St.m_1; rw [put_row, if_neg (by decide)]

/-- Head 2's row of the running maxima as the chunk reads it is the row it began with. -/
theorem max_row2 (s : St Ideal) (q : Fin 128) : s.v368 (ix2 0 q) = s.m (ix2 2 q) := by
  unfold St.v368
  rw [get_row s.m_2 2 _ q 2 rfl]
  unfold St.m_2; rw [put_row, if_neg (by decide)]
  unfold St.m_1; rw [put_row, if_neg (by decide)]

/-- Head 3's row of the running maxima as the chunk reads it is the row it began with. -/
theorem max_row3 (s : St Ideal) (q : Fin 128) : s.v424 (ix2 0 q) = s.m (ix2 3 q) := by
  unfold St.v424
  rw [get_row s.m_3 3 _ q 3 rfl]
  unfold St.m_3; rw [put_row, if_neg (by decide)]
  unfold St.m_2; rw [put_row, if_neg (by decide)]
  unfold St.m_1; rw [put_row, if_neg (by decide)]

/-- Head 0's gated scores within the chunk. -/
theorem pair0 (s : St Ideal) (g : Seq) (n : ℕ) (C : Chunk s g n) (r q : Fin 128) : s.v172 (ix2 r q)
    = (((∑ x : Fin 128, g.Q (n + r.val) (128 * 0 + x.val) * g.K (n + q.val) (128 * 0 + x.val))
        * (if q.val ≤ r.val then share (g.a 0) (g.i 0) (n + r.val + 1) (n + q.val) else 0) : ℝ) : EReal) := by
  have e1 : ∀ r : Fin 128, s.v97 (ix2 r 4) = ((cum (g.a 0) (n + r.val + 1) - cum (g.a 0) n : ℝ) : EReal) := fun r => C.sum r 0
  have e2 : ∀ r : Fin 128, s.v111 (ix2 4 r) = ((cum (g.a 0) (n + r.val + 1) - cum (g.a 0) n : ℝ) : EReal) := fun r => C.sumT r 0
  have e3 : ∀ r : Fin 128, s.v99 (ix2 0 r) = (g.i 0 (n + r.val) : EReal) := fun r => C.inp r 0
  have e4 : ∀ q : Fin 128, s.v151 (ix2 0 q) = ((cum (g.a 0) n + top (g.a 0) (g.i 0) n : ℝ) : EReal) := fun q => (max_row0 s q).trans (C.m 0 q)
  have l : s.v111 (ix2 4 127) = ((cum (g.a 0) (n + 128) - cum (g.a 0) n : ℝ) : EReal) := e2 127
  simp only [Nat.reduceMul, Nat.zero_add]
  pointwise [St.v172, k0_pay34, k0_pay28, k0_pay29, k0_pay30, k0_pay31, k0_pay32, k0_pay33, k0_pay37, k0_pay38, k0_pay39]
  simp only [e1, l, e2, e3, e4, C.q, C.q32, C.k, C.kT, C.mask, select_if, word_bot]
  rw [row_max (g.a 0) (g.i 0) n r.val r.isLt, pair_gate]
  simp only [← EReal.coe_mul, coe_sum]

/-- Head 0's queries, rescaled to read the state before the chunk. -/
theorem past0 (s : St Ideal) (g : Seq) (n : ℕ) (C : Chunk s g n) (r d : Fin 128) : s.v175 (ix2 r d)
    = ((g.Q (n + r.val) (128 * 0 + d.val) * Real.exp (top (g.a 0) (g.i 0) n - top (g.a 0) (g.i 0) (n + r.val + 1)) : ℝ) : EReal) := by
  have e1 : ∀ r : Fin 128, s.v97 (ix2 r 4) = ((cum (g.a 0) (n + r.val + 1) - cum (g.a 0) n : ℝ) : EReal) := fun r => C.sum r 0
  have e2 : ∀ r : Fin 128, s.v111 (ix2 4 r) = ((cum (g.a 0) (n + r.val + 1) - cum (g.a 0) n : ℝ) : EReal) := fun r => C.sumT r 0
  have e3 : ∀ r : Fin 128, s.v99 (ix2 0 r) = (g.i 0 (n + r.val) : EReal) := fun r => C.inp r 0
  have e4 : ∀ q : Fin 128, s.v151 (ix2 0 q) = ((cum (g.a 0) n + top (g.a 0) (g.i 0) n : ℝ) : EReal) := fun q => (max_row0 s q).trans (C.m 0 q)
  have l : s.v111 (ix2 4 127) = ((cum (g.a 0) (n + 128) - cum (g.a 0) n : ℝ) : EReal) := e2 127
  simp only [Nat.reduceMul, Nat.zero_add]
  pointwise [St.v175, k0_pay35, k0_pay28, k0_pay29, k0_pay30, k0_pay31, k0_pay32, k0_pay33, k0_pay37, k0_pay38, k0_pay39]
  simp only [e1, l, e2, e3, e4, C.q, C.q32, C.k, C.kT, C.mask, select_if, word_bot]
  rw [row_max (g.a 0) (g.i 0) n r.val r.isLt, past_gate]
  simp only [← EReal.coe_mul]

/-- Head 0's floor of the normaliser. -/
theorem floor0 (s : St Ideal) (g : Seq) (n : ℕ) (C : Chunk s g n) (r : Fin 128) : s.v280 (ix2 r 0) = ((Real.exp (- peak (g.a 0) (g.i 0) (n + r.val)) : ℝ) : EReal) := by
  have e1 : ∀ r : Fin 128, s.v97 (ix2 r 4) = ((cum (g.a 0) (n + r.val + 1) - cum (g.a 0) n : ℝ) : EReal) := fun r => C.sum r 0
  have e2 : ∀ r : Fin 128, s.v111 (ix2 4 r) = ((cum (g.a 0) (n + r.val + 1) - cum (g.a 0) n : ℝ) : EReal) := fun r => C.sumT r 0
  have e3 : ∀ r : Fin 128, s.v99 (ix2 0 r) = (g.i 0 (n + r.val) : EReal) := fun r => C.inp r 0
  have e4 : ∀ q : Fin 128, s.v151 (ix2 0 q) = ((cum (g.a 0) n + top (g.a 0) (g.i 0) n : ℝ) : EReal) := fun q => (max_row0 s q).trans (C.m 0 q)
  have l : s.v111 (ix2 4 127) = ((cum (g.a 0) (n + 128) - cum (g.a 0) n : ℝ) : EReal) := e2 127
  pointwise [St.v280, k0_pay64, St.v178, k0_pay36, k0_pay28, k0_pay29, k0_pay30, k0_pay31, k0_pay32, k0_pay33, k0_pay37, k0_pay38, k0_pay39]
  simp only [e1, l, e2, e3, e4, C.q, C.q32, C.k, C.kT, C.mask, select_if, word_bot]
  rw [row_max (g.a 0) (g.i 0) n r.val r.isLt, zero_sub, ← EReal.coe_neg, Ideal.exp_coe]

/-- Head 0's gate on the state it keeps. -/
theorem keep0 (s : St Ideal) (g : Seq) (n : ℕ) (C : Chunk s g n) (q : Fin 128) : s.v194 (ix2 0 q)
    = ((Real.exp (top (g.a 0) (g.i 0) n - top (g.a 0) (g.i 0) (n + 128)) : ℝ) : EReal) := by
  have e1 : ∀ r : Fin 128, s.v97 (ix2 r 4) = ((cum (g.a 0) (n + r.val + 1) - cum (g.a 0) n : ℝ) : EReal) := fun r => C.sum r 0
  have e2 : ∀ r : Fin 128, s.v111 (ix2 4 r) = ((cum (g.a 0) (n + r.val + 1) - cum (g.a 0) n : ℝ) : EReal) := fun r => C.sumT r 0
  have e3 : ∀ r : Fin 128, s.v99 (ix2 0 r) = (g.i 0 (n + r.val) : EReal) := fun r => C.inp r 0
  have e4 : ∀ q : Fin 128, s.v151 (ix2 0 q) = ((cum (g.a 0) n + top (g.a 0) (g.i 0) n : ℝ) : EReal) := fun q => (max_row0 s q).trans (C.m 0 q)
  have l : s.v111 (ix2 4 127) = ((cum (g.a 0) (n + 128) - cum (g.a 0) n : ℝ) : EReal) := e2 127
  pointwise [St.v194, k0_pay40, St.v179, St.v182, k0_pay28, k0_pay29, k0_pay30, k0_pay31, k0_pay32, k0_pay33, k0_pay37, k0_pay38, k0_pay39]
  simp only [e1, l, e2, e3, e4, C.q, C.q32, C.k, C.kT, C.mask, select_if, word_bot]
  rw [carry_max (g.a 0) (g.i 0) n (by decide), keep_gate]

/-- Head 0's keys, gated into the state at the end of the chunk. -/
theorem write0 (s : St Ideal) (g : Seq) (n : ℕ) (C : Chunk s g n) (d q : Fin 128) : s.v198 (ix2 d q)
    = ((g.K (n + q.val) (128 * 0 + d.val) * share (g.a 0) (g.i 0) (n + 128) (n + q.val) : ℝ) : EReal) := by
  have e1 : ∀ r : Fin 128, s.v97 (ix2 r 4) = ((cum (g.a 0) (n + r.val + 1) - cum (g.a 0) n : ℝ) : EReal) := fun r => C.sum r 0
  have e2 : ∀ r : Fin 128, s.v111 (ix2 4 r) = ((cum (g.a 0) (n + r.val + 1) - cum (g.a 0) n : ℝ) : EReal) := fun r => C.sumT r 0
  have e3 : ∀ r : Fin 128, s.v99 (ix2 0 r) = (g.i 0 (n + r.val) : EReal) := fun r => C.inp r 0
  have e4 : ∀ q : Fin 128, s.v151 (ix2 0 q) = ((cum (g.a 0) n + top (g.a 0) (g.i 0) n : ℝ) : EReal) := fun q => (max_row0 s q).trans (C.m 0 q)
  have l : s.v111 (ix2 4 127) = ((cum (g.a 0) (n + 128) - cum (g.a 0) n : ℝ) : EReal) := e2 127
  simp only [Nat.reduceMul, Nat.zero_add]
  pointwise [St.v198, k0_pay41, St.v179, St.v182, k0_pay28, k0_pay29, k0_pay30, k0_pay31, k0_pay32, k0_pay33, k0_pay37, k0_pay38, k0_pay39]
  simp only [e1, l, e2, e3, e4, C.q, C.q32, C.k, C.kT, C.mask, select_if, word_bot]
  rw [carry_max (g.a 0) (g.i 0) n (by decide), write_gate]
  simp only [← EReal.coe_mul]

/-- Head 0's running maximum at the end of the chunk. -/
theorem next0 (s : St Ideal) (g : Seq) (n : ℕ) (C : Chunk s g n) (q : Fin 128) : (k0_pay42 s.v151 s.v179 s.v182) (ix2 0 q)
    = ((cum (g.a 0) (n + 128) + top (g.a 0) (g.i 0) (n + 128) : ℝ) : EReal) := by
  have e1 : ∀ r : Fin 128, s.v97 (ix2 r 4) = ((cum (g.a 0) (n + r.val + 1) - cum (g.a 0) n : ℝ) : EReal) := fun r => C.sum r 0
  have e2 : ∀ r : Fin 128, s.v111 (ix2 4 r) = ((cum (g.a 0) (n + r.val + 1) - cum (g.a 0) n : ℝ) : EReal) := fun r => C.sumT r 0
  have e3 : ∀ r : Fin 128, s.v99 (ix2 0 r) = (g.i 0 (n + r.val) : EReal) := fun r => C.inp r 0
  have e4 : ∀ q : Fin 128, s.v151 (ix2 0 q) = ((cum (g.a 0) n + top (g.a 0) (g.i 0) n : ℝ) : EReal) := fun q => (max_row0 s q).trans (C.m 0 q)
  have l : s.v111 (ix2 4 127) = ((cum (g.a 0) (n + 128) - cum (g.a 0) n : ℝ) : EReal) := e2 127
  pointwise [k0_pay42, St.v179, St.v182, k0_pay28, k0_pay29, k0_pay30, k0_pay31, k0_pay32, k0_pay33, k0_pay37, k0_pay38, k0_pay39]
  simp only [e1, l, e2, e3, e4, C.q, C.q32, C.k, C.kT, C.mask, select_if, word_bot]
  rw [carry_max (g.a 0) (g.i 0) n (by decide)]

/-- Head 1's gated scores within the chunk. -/
theorem pair1 (s : St Ideal) (g : Seq) (n : ℕ) (C : Chunk s g n) (r q : Fin 128) : s.v228 (ix2 r q)
    = (((∑ x : Fin 128, g.Q (n + r.val) (128 * 1 + x.val) * g.K (n + q.val) (128 * 1 + x.val))
        * (if q.val ≤ r.val then share (g.a 1) (g.i 1) (n + r.val + 1) (n + q.val) else 0) : ℝ) : EReal) := by
  have e1 : ∀ r : Fin 128, s.v97 (ix2 r 5) = ((cum (g.a 1) (n + r.val + 1) - cum (g.a 1) n : ℝ) : EReal) := fun r => C.sum r 1
  have e2 : ∀ r : Fin 128, s.v111 (ix2 5 r) = ((cum (g.a 1) (n + r.val + 1) - cum (g.a 1) n : ℝ) : EReal) := fun r => C.sumT r 1
  have e3 : ∀ r : Fin 128, s.v99 (ix2 1 r) = (g.i 1 (n + r.val) : EReal) := fun r => C.inp r 1
  have e4 : ∀ q : Fin 128, s.v207 (ix2 0 q) = ((cum (g.a 1) n + top (g.a 1) (g.i 1) n : ℝ) : EReal) := fun q => (max_row1 s q).trans (C.m 1 q)
  have l : s.v111 (ix2 5 127) = ((cum (g.a 1) (n + 128) - cum (g.a 1) n : ℝ) : EReal) := e2 127
  simp only [Nat.reduceMul, Nat.zero_add]
  pointwise [St.v228, k0_pay49, k0_pay43, k0_pay44, k0_pay45, k0_pay46, k0_pay47, k0_pay48, k0_pay52, k0_pay53, k0_pay54]
  simp only [e1, l, e2, e3, e4, C.q, C.q32, C.k, C.kT, C.mask, select_if, word_bot]
  rw [row_max (g.a 1) (g.i 1) n r.val r.isLt, pair_gate]
  simp only [← EReal.coe_mul, coe_sum]

/-- Head 1's queries, rescaled to read the state before the chunk. -/
theorem past1 (s : St Ideal) (g : Seq) (n : ℕ) (C : Chunk s g n) (r d : Fin 128) : s.v231 (ix2 r d)
    = ((g.Q (n + r.val) (128 * 1 + d.val) * Real.exp (top (g.a 1) (g.i 1) n - top (g.a 1) (g.i 1) (n + r.val + 1)) : ℝ) : EReal) := by
  have e1 : ∀ r : Fin 128, s.v97 (ix2 r 5) = ((cum (g.a 1) (n + r.val + 1) - cum (g.a 1) n : ℝ) : EReal) := fun r => C.sum r 1
  have e2 : ∀ r : Fin 128, s.v111 (ix2 5 r) = ((cum (g.a 1) (n + r.val + 1) - cum (g.a 1) n : ℝ) : EReal) := fun r => C.sumT r 1
  have e3 : ∀ r : Fin 128, s.v99 (ix2 1 r) = (g.i 1 (n + r.val) : EReal) := fun r => C.inp r 1
  have e4 : ∀ q : Fin 128, s.v207 (ix2 0 q) = ((cum (g.a 1) n + top (g.a 1) (g.i 1) n : ℝ) : EReal) := fun q => (max_row1 s q).trans (C.m 1 q)
  have l : s.v111 (ix2 5 127) = ((cum (g.a 1) (n + 128) - cum (g.a 1) n : ℝ) : EReal) := e2 127
  simp only [Nat.reduceMul, Nat.zero_add]
  pointwise [St.v231, k0_pay50, k0_pay43, k0_pay44, k0_pay45, k0_pay46, k0_pay47, k0_pay48, k0_pay52, k0_pay53, k0_pay54]
  simp only [e1, l, e2, e3, e4, C.q, C.q32, C.k, C.kT, C.mask, select_if, word_bot]
  rw [row_max (g.a 1) (g.i 1) n r.val r.isLt, past_gate]
  simp only [← EReal.coe_mul]

/-- Head 1's floor of the normaliser. -/
theorem floor1 (s : St Ideal) (g : Seq) (n : ℕ) (C : Chunk s g n) (r : Fin 128) : s.v281 (ix2 r 0) = ((Real.exp (- peak (g.a 1) (g.i 1) (n + r.val)) : ℝ) : EReal) := by
  have e1 : ∀ r : Fin 128, s.v97 (ix2 r 5) = ((cum (g.a 1) (n + r.val + 1) - cum (g.a 1) n : ℝ) : EReal) := fun r => C.sum r 1
  have e2 : ∀ r : Fin 128, s.v111 (ix2 5 r) = ((cum (g.a 1) (n + r.val + 1) - cum (g.a 1) n : ℝ) : EReal) := fun r => C.sumT r 1
  have e3 : ∀ r : Fin 128, s.v99 (ix2 1 r) = (g.i 1 (n + r.val) : EReal) := fun r => C.inp r 1
  have e4 : ∀ q : Fin 128, s.v207 (ix2 0 q) = ((cum (g.a 1) n + top (g.a 1) (g.i 1) n : ℝ) : EReal) := fun q => (max_row1 s q).trans (C.m 1 q)
  have l : s.v111 (ix2 5 127) = ((cum (g.a 1) (n + 128) - cum (g.a 1) n : ℝ) : EReal) := e2 127
  pointwise [St.v281, k0_pay65, St.v219, St.v232, k0_pay51, k0_pay43, k0_pay44, k0_pay45, k0_pay46, k0_pay47, k0_pay48, k0_pay52, k0_pay53, k0_pay54]
  simp only [e1, l, e2, e3, e4, C.q, C.q32, C.k, C.kT, C.mask, select_if, word_bot]
  rw [row_max (g.a 1) (g.i 1) n r.val r.isLt, zero_sub, ← EReal.coe_neg, Ideal.exp_coe]

/-- Head 1's gate on the state it keeps. -/
theorem keep1 (s : St Ideal) (g : Seq) (n : ℕ) (C : Chunk s g n) (q : Fin 128) : s.v250 (ix2 0 q)
    = ((Real.exp (top (g.a 1) (g.i 1) n - top (g.a 1) (g.i 1) (n + 128)) : ℝ) : EReal) := by
  have e1 : ∀ r : Fin 128, s.v97 (ix2 r 5) = ((cum (g.a 1) (n + r.val + 1) - cum (g.a 1) n : ℝ) : EReal) := fun r => C.sum r 1
  have e2 : ∀ r : Fin 128, s.v111 (ix2 5 r) = ((cum (g.a 1) (n + r.val + 1) - cum (g.a 1) n : ℝ) : EReal) := fun r => C.sumT r 1
  have e3 : ∀ r : Fin 128, s.v99 (ix2 1 r) = (g.i 1 (n + r.val) : EReal) := fun r => C.inp r 1
  have e4 : ∀ q : Fin 128, s.v207 (ix2 0 q) = ((cum (g.a 1) n + top (g.a 1) (g.i 1) n : ℝ) : EReal) := fun q => (max_row1 s q).trans (C.m 1 q)
  have l : s.v111 (ix2 5 127) = ((cum (g.a 1) (n + 128) - cum (g.a 1) n : ℝ) : EReal) := e2 127
  pointwise [St.v250, k0_pay55, St.v205, St.v206, k0_pay43, k0_pay44, k0_pay45, k0_pay46, k0_pay47, k0_pay48, k0_pay52, k0_pay53, k0_pay54]
  simp only [e1, l, e2, e3, e4, C.q, C.q32, C.k, C.kT, C.mask, select_if, word_bot]
  rw [carry_max (g.a 1) (g.i 1) n (by decide), keep_gate]

/-- Head 1's keys, gated into the state at the end of the chunk. -/
theorem write1 (s : St Ideal) (g : Seq) (n : ℕ) (C : Chunk s g n) (d q : Fin 128) : s.v254 (ix2 d q)
    = ((g.K (n + q.val) (128 * 1 + d.val) * share (g.a 1) (g.i 1) (n + 128) (n + q.val) : ℝ) : EReal) := by
  have e1 : ∀ r : Fin 128, s.v97 (ix2 r 5) = ((cum (g.a 1) (n + r.val + 1) - cum (g.a 1) n : ℝ) : EReal) := fun r => C.sum r 1
  have e2 : ∀ r : Fin 128, s.v111 (ix2 5 r) = ((cum (g.a 1) (n + r.val + 1) - cum (g.a 1) n : ℝ) : EReal) := fun r => C.sumT r 1
  have e3 : ∀ r : Fin 128, s.v99 (ix2 1 r) = (g.i 1 (n + r.val) : EReal) := fun r => C.inp r 1
  have e4 : ∀ q : Fin 128, s.v207 (ix2 0 q) = ((cum (g.a 1) n + top (g.a 1) (g.i 1) n : ℝ) : EReal) := fun q => (max_row1 s q).trans (C.m 1 q)
  have l : s.v111 (ix2 5 127) = ((cum (g.a 1) (n + 128) - cum (g.a 1) n : ℝ) : EReal) := e2 127
  simp only [Nat.reduceMul, Nat.zero_add]
  pointwise [St.v254, k0_pay56, St.v205, St.v206, k0_pay43, k0_pay44, k0_pay45, k0_pay46, k0_pay47, k0_pay48, k0_pay52, k0_pay53, k0_pay54]
  simp only [e1, l, e2, e3, e4, C.q, C.q32, C.k, C.kT, C.mask, select_if, word_bot]
  rw [carry_max (g.a 1) (g.i 1) n (by decide), write_gate]
  simp only [← EReal.coe_mul]

/-- Head 1's running maximum at the end of the chunk. -/
theorem next1 (s : St Ideal) (g : Seq) (n : ℕ) (C : Chunk s g n) (q : Fin 128) : (k0_pay57 s.v205 s.v206 s.v207) (ix2 0 q)
    = ((cum (g.a 1) (n + 128) + top (g.a 1) (g.i 1) (n + 128) : ℝ) : EReal) := by
  have e1 : ∀ r : Fin 128, s.v97 (ix2 r 5) = ((cum (g.a 1) (n + r.val + 1) - cum (g.a 1) n : ℝ) : EReal) := fun r => C.sum r 1
  have e2 : ∀ r : Fin 128, s.v111 (ix2 5 r) = ((cum (g.a 1) (n + r.val + 1) - cum (g.a 1) n : ℝ) : EReal) := fun r => C.sumT r 1
  have e3 : ∀ r : Fin 128, s.v99 (ix2 1 r) = (g.i 1 (n + r.val) : EReal) := fun r => C.inp r 1
  have e4 : ∀ q : Fin 128, s.v207 (ix2 0 q) = ((cum (g.a 1) n + top (g.a 1) (g.i 1) n : ℝ) : EReal) := fun q => (max_row1 s q).trans (C.m 1 q)
  have l : s.v111 (ix2 5 127) = ((cum (g.a 1) (n + 128) - cum (g.a 1) n : ℝ) : EReal) := e2 127
  pointwise [k0_pay57, St.v205, St.v206, k0_pay43, k0_pay44, k0_pay45, k0_pay46, k0_pay47, k0_pay48, k0_pay52, k0_pay53, k0_pay54]
  simp only [e1, l, e2, e3, e4, C.q, C.q32, C.k, C.kT, C.mask, select_if, word_bot]
  rw [carry_max (g.a 1) (g.i 1) n (by decide)]

/-- Head 2's gated scores within the chunk. -/
theorem pair2 (s : St Ideal) (g : Seq) (n : ℕ) (C : Chunk s g n) (r q : Fin 128) : s.v389 (ix2 r q)
    = (((∑ x : Fin 128, g.Q (n + r.val) (128 * 2 + x.val) * g.K (n + q.val) (128 * 2 + x.val))
        * (if q.val ≤ r.val then share (g.a 2) (g.i 2) (n + r.val + 1) (n + q.val) else 0) : ℝ) : EReal) := by
  have e1 : ∀ r : Fin 128, s.v97 (ix2 r 6) = ((cum (g.a 2) (n + r.val + 1) - cum (g.a 2) n : ℝ) : EReal) := fun r => C.sum r 2
  have e2 : ∀ r : Fin 128, s.v111 (ix2 6 r) = ((cum (g.a 2) (n + r.val + 1) - cum (g.a 2) n : ℝ) : EReal) := fun r => C.sumT r 2
  have e3 : ∀ r : Fin 128, s.v99 (ix2 2 r) = (g.i 2 (n + r.val) : EReal) := fun r => C.inp r 2
  have e4 : ∀ q : Fin 128, s.v368 (ix2 0 q) = ((cum (g.a 2) n + top (g.a 2) (g.i 2) n : ℝ) : EReal) := fun q => (max_row2 s q).trans (C.m 2 q)
  have l : s.v111 (ix2 6 127) = ((cum (g.a 2) (n + 128) - cum (g.a 2) n : ℝ) : EReal) := e2 127
  simp only [Nat.reduceMul, Nat.zero_add]
  pointwise [St.v389, k0_pay82, St.v374, St.v376, k0_pay76, k0_pay77, k0_pay78, k0_pay79, k0_pay80, k0_pay81, k0_pay85, k0_pay86, k0_pay87]
  simp only [e1, l, e2, e3, e4, C.q, C.q32, C.k, C.kT, C.mask, select_if, word_bot]
  rw [row_max (g.a 2) (g.i 2) n r.val r.isLt, pair_gate]
  simp only [← EReal.coe_mul, coe_sum]

/-- Head 2's queries, rescaled to read the state before the chunk. -/
theorem past2 (s : St Ideal) (g : Seq) (n : ℕ) (C : Chunk s g n) (r d : Fin 128) : s.v392 (ix2 r d)
    = ((g.Q (n + r.val) (128 * 2 + d.val) * Real.exp (top (g.a 2) (g.i 2) n - top (g.a 2) (g.i 2) (n + r.val + 1)) : ℝ) : EReal) := by
  have e1 : ∀ r : Fin 128, s.v97 (ix2 r 6) = ((cum (g.a 2) (n + r.val + 1) - cum (g.a 2) n : ℝ) : EReal) := fun r => C.sum r 2
  have e2 : ∀ r : Fin 128, s.v111 (ix2 6 r) = ((cum (g.a 2) (n + r.val + 1) - cum (g.a 2) n : ℝ) : EReal) := fun r => C.sumT r 2
  have e3 : ∀ r : Fin 128, s.v99 (ix2 2 r) = (g.i 2 (n + r.val) : EReal) := fun r => C.inp r 2
  have e4 : ∀ q : Fin 128, s.v368 (ix2 0 q) = ((cum (g.a 2) n + top (g.a 2) (g.i 2) n : ℝ) : EReal) := fun q => (max_row2 s q).trans (C.m 2 q)
  have l : s.v111 (ix2 6 127) = ((cum (g.a 2) (n + 128) - cum (g.a 2) n : ℝ) : EReal) := e2 127
  simp only [Nat.reduceMul, Nat.zero_add]
  pointwise [St.v392, k0_pay83, St.v374, St.v376, k0_pay76, k0_pay77, k0_pay78, k0_pay79, k0_pay80, k0_pay81, k0_pay85, k0_pay86, k0_pay87]
  simp only [e1, l, e2, e3, e4, C.q, C.q32, C.k, C.kT, C.mask, select_if, word_bot]
  rw [row_max (g.a 2) (g.i 2) n r.val r.isLt, past_gate]
  simp only [← EReal.coe_mul]

/-- Head 2's floor of the normaliser. -/
theorem floor2 (s : St Ideal) (g : Seq) (n : ℕ) (C : Chunk s g n) (r : Fin 128) : s.v395 (ix2 r 0) = ((Real.exp (- peak (g.a 2) (g.i 2) (n + r.val)) : ℝ) : EReal) := by
  have e1 : ∀ r : Fin 128, s.v97 (ix2 r 6) = ((cum (g.a 2) (n + r.val + 1) - cum (g.a 2) n : ℝ) : EReal) := fun r => C.sum r 2
  have e2 : ∀ r : Fin 128, s.v111 (ix2 6 r) = ((cum (g.a 2) (n + r.val + 1) - cum (g.a 2) n : ℝ) : EReal) := fun r => C.sumT r 2
  have e3 : ∀ r : Fin 128, s.v99 (ix2 2 r) = (g.i 2 (n + r.val) : EReal) := fun r => C.inp r 2
  have e4 : ∀ q : Fin 128, s.v368 (ix2 0 q) = ((cum (g.a 2) n + top (g.a 2) (g.i 2) n : ℝ) : EReal) := fun q => (max_row2 s q).trans (C.m 2 q)
  have l : s.v111 (ix2 6 127) = ((cum (g.a 2) (n + 128) - cum (g.a 2) n : ℝ) : EReal) := e2 127
  pointwise [St.v395, k0_pay84, St.v374, St.v376, k0_pay76, k0_pay77, k0_pay78, k0_pay79, k0_pay80, k0_pay81, k0_pay85, k0_pay86, k0_pay87]
  simp only [e1, l, e2, e3, e4, C.q, C.q32, C.k, C.kT, C.mask, select_if, word_bot]
  rw [row_max (g.a 2) (g.i 2) n r.val r.isLt, zero_sub, ← EReal.coe_neg, Ideal.exp_coe]

/-- Head 2's gate on the state it keeps. -/
theorem keep2 (s : St Ideal) (g : Seq) (n : ℕ) (C : Chunk s g n) (q : Fin 128) : s.v411 (ix2 0 q)
    = ((Real.exp (top (g.a 2) (g.i 2) n - top (g.a 2) (g.i 2) (n + 128)) : ℝ) : EReal) := by
  have e1 : ∀ r : Fin 128, s.v97 (ix2 r 6) = ((cum (g.a 2) (n + r.val + 1) - cum (g.a 2) n : ℝ) : EReal) := fun r => C.sum r 2
  have e2 : ∀ r : Fin 128, s.v111 (ix2 6 r) = ((cum (g.a 2) (n + r.val + 1) - cum (g.a 2) n : ℝ) : EReal) := fun r => C.sumT r 2
  have e3 : ∀ r : Fin 128, s.v99 (ix2 2 r) = (g.i 2 (n + r.val) : EReal) := fun r => C.inp r 2
  have e4 : ∀ q : Fin 128, s.v368 (ix2 0 q) = ((cum (g.a 2) n + top (g.a 2) (g.i 2) n : ℝ) : EReal) := fun q => (max_row2 s q).trans (C.m 2 q)
  have l : s.v111 (ix2 6 127) = ((cum (g.a 2) (n + 128) - cum (g.a 2) n : ℝ) : EReal) := e2 127
  pointwise [St.v411, k0_pay88, St.v366, St.v367, k0_pay76, k0_pay77, k0_pay78, k0_pay79, k0_pay80, k0_pay81, k0_pay85, k0_pay86, k0_pay87]
  simp only [e1, l, e2, e3, e4, C.q, C.q32, C.k, C.kT, C.mask, select_if, word_bot]
  rw [carry_max (g.a 2) (g.i 2) n (by decide), keep_gate]

/-- Head 2's keys, gated into the state at the end of the chunk. -/
theorem write2 (s : St Ideal) (g : Seq) (n : ℕ) (C : Chunk s g n) (d q : Fin 128) : s.v415 (ix2 d q)
    = ((g.K (n + q.val) (128 * 2 + d.val) * share (g.a 2) (g.i 2) (n + 128) (n + q.val) : ℝ) : EReal) := by
  have e1 : ∀ r : Fin 128, s.v97 (ix2 r 6) = ((cum (g.a 2) (n + r.val + 1) - cum (g.a 2) n : ℝ) : EReal) := fun r => C.sum r 2
  have e2 : ∀ r : Fin 128, s.v111 (ix2 6 r) = ((cum (g.a 2) (n + r.val + 1) - cum (g.a 2) n : ℝ) : EReal) := fun r => C.sumT r 2
  have e3 : ∀ r : Fin 128, s.v99 (ix2 2 r) = (g.i 2 (n + r.val) : EReal) := fun r => C.inp r 2
  have e4 : ∀ q : Fin 128, s.v368 (ix2 0 q) = ((cum (g.a 2) n + top (g.a 2) (g.i 2) n : ℝ) : EReal) := fun q => (max_row2 s q).trans (C.m 2 q)
  have l : s.v111 (ix2 6 127) = ((cum (g.a 2) (n + 128) - cum (g.a 2) n : ℝ) : EReal) := e2 127
  simp only [Nat.reduceMul, Nat.zero_add]
  pointwise [St.v415, k0_pay89, St.v366, St.v367, k0_pay76, k0_pay77, k0_pay78, k0_pay79, k0_pay80, k0_pay81, k0_pay85, k0_pay86, k0_pay87]
  simp only [e1, l, e2, e3, e4, C.q, C.q32, C.k, C.kT, C.mask, select_if, word_bot]
  rw [carry_max (g.a 2) (g.i 2) n (by decide), write_gate]
  simp only [← EReal.coe_mul]

/-- Head 2's running maximum at the end of the chunk. -/
theorem next2 (s : St Ideal) (g : Seq) (n : ℕ) (C : Chunk s g n) (q : Fin 128) : (k0_pay90 s.v366 s.v367 s.v368) (ix2 0 q)
    = ((cum (g.a 2) (n + 128) + top (g.a 2) (g.i 2) (n + 128) : ℝ) : EReal) := by
  have e1 : ∀ r : Fin 128, s.v97 (ix2 r 6) = ((cum (g.a 2) (n + r.val + 1) - cum (g.a 2) n : ℝ) : EReal) := fun r => C.sum r 2
  have e2 : ∀ r : Fin 128, s.v111 (ix2 6 r) = ((cum (g.a 2) (n + r.val + 1) - cum (g.a 2) n : ℝ) : EReal) := fun r => C.sumT r 2
  have e3 : ∀ r : Fin 128, s.v99 (ix2 2 r) = (g.i 2 (n + r.val) : EReal) := fun r => C.inp r 2
  have e4 : ∀ q : Fin 128, s.v368 (ix2 0 q) = ((cum (g.a 2) n + top (g.a 2) (g.i 2) n : ℝ) : EReal) := fun q => (max_row2 s q).trans (C.m 2 q)
  have l : s.v111 (ix2 6 127) = ((cum (g.a 2) (n + 128) - cum (g.a 2) n : ℝ) : EReal) := e2 127
  pointwise [k0_pay90, St.v366, St.v367, k0_pay76, k0_pay77, k0_pay78, k0_pay79, k0_pay80, k0_pay81, k0_pay85, k0_pay86, k0_pay87]
  simp only [e1, l, e2, e3, e4, C.q, C.q32, C.k, C.kT, C.mask, select_if, word_bot]
  rw [carry_max (g.a 2) (g.i 2) n (by decide)]

/-- Head 3's gated scores within the chunk. -/
theorem pair3 (s : St Ideal) (g : Seq) (n : ℕ) (C : Chunk s g n) (r q : Fin 128) : s.v445 (ix2 r q)
    = (((∑ x : Fin 128, g.Q (n + r.val) (128 * 3 + x.val) * g.K (n + q.val) (128 * 3 + x.val))
        * (if q.val ≤ r.val then share (g.a 3) (g.i 3) (n + r.val + 1) (n + q.val) else 0) : ℝ) : EReal) := by
  have e1 : ∀ r : Fin 128, s.v97 (ix2 r 7) = ((cum (g.a 3) (n + r.val + 1) - cum (g.a 3) n : ℝ) : EReal) := fun r => C.sum r 3
  have e2 : ∀ r : Fin 128, s.v111 (ix2 7 r) = ((cum (g.a 3) (n + r.val + 1) - cum (g.a 3) n : ℝ) : EReal) := fun r => C.sumT r 3
  have e3 : ∀ r : Fin 128, s.v99 (ix2 3 r) = (g.i 3 (n + r.val) : EReal) := fun r => C.inp r 3
  have e4 : ∀ q : Fin 128, s.v424 (ix2 0 q) = ((cum (g.a 3) n + top (g.a 3) (g.i 3) n : ℝ) : EReal) := fun q => (max_row3 s q).trans (C.m 3 q)
  have l : s.v111 (ix2 7 127) = ((cum (g.a 3) (n + 128) - cum (g.a 3) n : ℝ) : EReal) := e2 127
  simp only [Nat.reduceMul, Nat.zero_add]
  pointwise [St.v445, k0_pay99, St.v421, St.v426, St.v427, k0_pay91, k0_pay92, k0_pay93, k0_pay94, k0_pay95, k0_pay96, k0_pay97, k0_pay98, k0_pay102, k0_pay103, k0_pay104]
  simp only [e1, l, e2, e3, e4, C.q, C.q32, C.k, C.kT, C.mask, select_if, word_bot]
  rw [row_max (g.a 3) (g.i 3) n r.val r.isLt, pair_gate]
  simp only [← EReal.coe_mul, coe_sum]

/-- Head 3's queries, rescaled to read the state before the chunk. -/
theorem past3 (s : St Ideal) (g : Seq) (n : ℕ) (C : Chunk s g n) (r d : Fin 128) : s.v448 (ix2 r d)
    = ((g.Q (n + r.val) (128 * 3 + d.val) * Real.exp (top (g.a 3) (g.i 3) n - top (g.a 3) (g.i 3) (n + r.val + 1)) : ℝ) : EReal) := by
  have e1 : ∀ r : Fin 128, s.v97 (ix2 r 7) = ((cum (g.a 3) (n + r.val + 1) - cum (g.a 3) n : ℝ) : EReal) := fun r => C.sum r 3
  have e2 : ∀ r : Fin 128, s.v111 (ix2 7 r) = ((cum (g.a 3) (n + r.val + 1) - cum (g.a 3) n : ℝ) : EReal) := fun r => C.sumT r 3
  have e3 : ∀ r : Fin 128, s.v99 (ix2 3 r) = (g.i 3 (n + r.val) : EReal) := fun r => C.inp r 3
  have e4 : ∀ q : Fin 128, s.v424 (ix2 0 q) = ((cum (g.a 3) n + top (g.a 3) (g.i 3) n : ℝ) : EReal) := fun q => (max_row3 s q).trans (C.m 3 q)
  have l : s.v111 (ix2 7 127) = ((cum (g.a 3) (n + 128) - cum (g.a 3) n : ℝ) : EReal) := e2 127
  simp only [Nat.reduceMul, Nat.zero_add]
  pointwise [St.v448, k0_pay100, St.v421, St.v426, St.v427, k0_pay91, k0_pay92, k0_pay93, k0_pay94, k0_pay95, k0_pay96, k0_pay97, k0_pay98, k0_pay102, k0_pay103, k0_pay104]
  simp only [e1, l, e2, e3, e4, C.q, C.q32, C.k, C.kT, C.mask, select_if, word_bot]
  rw [row_max (g.a 3) (g.i 3) n r.val r.isLt, past_gate]
  simp only [← EReal.coe_mul]

/-- Head 3's floor of the normaliser. -/
theorem floor3 (s : St Ideal) (g : Seq) (n : ℕ) (C : Chunk s g n) (r : Fin 128) : s.v451 (ix2 r 0) = ((Real.exp (- peak (g.a 3) (g.i 3) (n + r.val)) : ℝ) : EReal) := by
  have e1 : ∀ r : Fin 128, s.v97 (ix2 r 7) = ((cum (g.a 3) (n + r.val + 1) - cum (g.a 3) n : ℝ) : EReal) := fun r => C.sum r 3
  have e2 : ∀ r : Fin 128, s.v111 (ix2 7 r) = ((cum (g.a 3) (n + r.val + 1) - cum (g.a 3) n : ℝ) : EReal) := fun r => C.sumT r 3
  have e3 : ∀ r : Fin 128, s.v99 (ix2 3 r) = (g.i 3 (n + r.val) : EReal) := fun r => C.inp r 3
  have e4 : ∀ q : Fin 128, s.v424 (ix2 0 q) = ((cum (g.a 3) n + top (g.a 3) (g.i 3) n : ℝ) : EReal) := fun q => (max_row3 s q).trans (C.m 3 q)
  have l : s.v111 (ix2 7 127) = ((cum (g.a 3) (n + 128) - cum (g.a 3) n : ℝ) : EReal) := e2 127
  pointwise [St.v451, k0_pay101, St.v421, St.v426, St.v427, k0_pay91, k0_pay92, k0_pay93, k0_pay94, k0_pay95, k0_pay96, k0_pay97, k0_pay98, k0_pay102, k0_pay103, k0_pay104]
  simp only [e1, l, e2, e3, e4, C.q, C.q32, C.k, C.kT, C.mask, select_if, word_bot]
  rw [row_max (g.a 3) (g.i 3) n r.val r.isLt, zero_sub, ← EReal.coe_neg, Ideal.exp_coe]

/-- Head 3's gate on the state it keeps. -/
theorem keep3 (s : St Ideal) (g : Seq) (n : ℕ) (C : Chunk s g n) (q : Fin 128) : s.v467 (ix2 0 q)
    = ((Real.exp (top (g.a 3) (g.i 3) n - top (g.a 3) (g.i 3) (n + 128)) : ℝ) : EReal) := by
  have e1 : ∀ r : Fin 128, s.v97 (ix2 r 7) = ((cum (g.a 3) (n + r.val + 1) - cum (g.a 3) n : ℝ) : EReal) := fun r => C.sum r 3
  have e2 : ∀ r : Fin 128, s.v111 (ix2 7 r) = ((cum (g.a 3) (n + r.val + 1) - cum (g.a 3) n : ℝ) : EReal) := fun r => C.sumT r 3
  have e3 : ∀ r : Fin 128, s.v99 (ix2 3 r) = (g.i 3 (n + r.val) : EReal) := fun r => C.inp r 3
  have e4 : ∀ q : Fin 128, s.v424 (ix2 0 q) = ((cum (g.a 3) n + top (g.a 3) (g.i 3) n : ℝ) : EReal) := fun q => (max_row3 s q).trans (C.m 3 q)
  have l : s.v111 (ix2 7 127) = ((cum (g.a 3) (n + 128) - cum (g.a 3) n : ℝ) : EReal) := e2 127
  pointwise [St.v467, k0_pay105, St.v422, St.v423, k0_pay91, k0_pay92, k0_pay93, k0_pay94, k0_pay95, k0_pay96, k0_pay97, k0_pay98, k0_pay102, k0_pay103, k0_pay104]
  simp only [e1, l, e2, e3, e4, C.q, C.q32, C.k, C.kT, C.mask, select_if, word_bot]
  rw [carry_max (g.a 3) (g.i 3) n (by decide), keep_gate]

/-- Head 3's keys, gated into the state at the end of the chunk. -/
theorem write3 (s : St Ideal) (g : Seq) (n : ℕ) (C : Chunk s g n) (d q : Fin 128) : s.v471 (ix2 d q)
    = ((g.K (n + q.val) (128 * 3 + d.val) * share (g.a 3) (g.i 3) (n + 128) (n + q.val) : ℝ) : EReal) := by
  have e1 : ∀ r : Fin 128, s.v97 (ix2 r 7) = ((cum (g.a 3) (n + r.val + 1) - cum (g.a 3) n : ℝ) : EReal) := fun r => C.sum r 3
  have e2 : ∀ r : Fin 128, s.v111 (ix2 7 r) = ((cum (g.a 3) (n + r.val + 1) - cum (g.a 3) n : ℝ) : EReal) := fun r => C.sumT r 3
  have e3 : ∀ r : Fin 128, s.v99 (ix2 3 r) = (g.i 3 (n + r.val) : EReal) := fun r => C.inp r 3
  have e4 : ∀ q : Fin 128, s.v424 (ix2 0 q) = ((cum (g.a 3) n + top (g.a 3) (g.i 3) n : ℝ) : EReal) := fun q => (max_row3 s q).trans (C.m 3 q)
  have l : s.v111 (ix2 7 127) = ((cum (g.a 3) (n + 128) - cum (g.a 3) n : ℝ) : EReal) := e2 127
  simp only [Nat.reduceMul, Nat.zero_add]
  pointwise [St.v471, k0_pay106, St.v422, St.v423, k0_pay91, k0_pay92, k0_pay93, k0_pay94, k0_pay95, k0_pay96, k0_pay97, k0_pay98, k0_pay102, k0_pay103, k0_pay104]
  simp only [e1, l, e2, e3, e4, C.q, C.q32, C.k, C.kT, C.mask, select_if, word_bot]
  rw [carry_max (g.a 3) (g.i 3) n (by decide), write_gate]
  simp only [← EReal.coe_mul]

/-- Head 3's running maximum at the end of the chunk. -/
theorem next3 (s : St Ideal) (g : Seq) (n : ℕ) (C : Chunk s g n) (q : Fin 128) : (k0_pay107 s.v422 s.v423 s.v424) (ix2 0 q)
    = ((cum (g.a 3) (n + 128) + top (g.a 3) (g.i 3) (n + 128) : ℝ) : EReal) := by
  have e1 : ∀ r : Fin 128, s.v97 (ix2 r 7) = ((cum (g.a 3) (n + r.val + 1) - cum (g.a 3) n : ℝ) : EReal) := fun r => C.sum r 3
  have e2 : ∀ r : Fin 128, s.v111 (ix2 7 r) = ((cum (g.a 3) (n + r.val + 1) - cum (g.a 3) n : ℝ) : EReal) := fun r => C.sumT r 3
  have e3 : ∀ r : Fin 128, s.v99 (ix2 3 r) = (g.i 3 (n + r.val) : EReal) := fun r => C.inp r 3
  have e4 : ∀ q : Fin 128, s.v424 (ix2 0 q) = ((cum (g.a 3) n + top (g.a 3) (g.i 3) n : ℝ) : EReal) := fun q => (max_row3 s q).trans (C.m 3 q)
  have l : s.v111 (ix2 7 127) = ((cum (g.a 3) (n + 128) - cum (g.a 3) n : ℝ) : EReal) := e2 127
  pointwise [k0_pay107, St.v422, St.v423, k0_pay91, k0_pay92, k0_pay93, k0_pay94, k0_pay95, k0_pay96, k0_pay97, k0_pay98, k0_pay102, k0_pay103, k0_pay104]
  simp only [e1, l, e2, e3, e4, C.q, C.q32, C.k, C.kT, C.mask, select_if, word_bot]
  rw [carry_max (g.a 3) (g.i 3) n (by decide)]

end Cert.MlstmIdeal.Whole

end
-- ==== Proof.MlstmValues.lean ====
/- The recurrence, one chunk, pair by pair of heads: the product of scores and queries with values and state, and the
   state at the end of the chunk. -/
module

public import proofs.«01_k».proof.Proof.MlstmTrip
public import proofs.«01_k».proof.Proof.Gen.MlstmIdeal.Skeleton
public import Idealize.ShloMosaic.Lib.Pipeline.ValueKit
public import Idealize.ShloMosaic.Lib.Pointwise
public import proofs.«01_k».proof.Proof.MlstmHead

@[expose] public section

set_option maxRecDepth 16384

noncomputable section

open Idealize.ShloMosaic Idealize.ShloMosaic.TcCoe Idealize.SL.Sem
open scoped BigOperators

namespace Cert.MlstmIdeal.Whole

open Cert.MlstmIdeal Cert.MlstmIdeal.Gen Cert.Recurrence

/-- A column number is less than 192 exactly when its word is. -/
theorem col_word : ∀ j : Fin 384, IntOp.cmpi CmpIPredicate.slt (BitVec.ofNat 32 j.val) 192#32 = if j.val < 192 then 1#1 else 0#1 := by
  decide +kernel

/-- A column is the first exactly when its word is 0. -/
theorem zero_word : ∀ j : Fin 128, IntOp.cmpi CmpIPredicate.eq (BitVec.ofNat 32 j.val) 0#32 = if j.val = 0 then 1#1 else 0#1 := by
  decide +kernel

/-- A column is the second exactly when its word is 1. -/
theorem one_word : ∀ j : Fin 128, IntOp.cmpi CmpIPredicate.eq (BitVec.ofNat 32 j.val) 1#32 = if j.val = 1 then 1#1 else 0#1 := by
  decide +kernel

/-- A row number is less than 128 exactly when its word is. -/
theorem row_word : ∀ x : Fin 256, IntOp.cmpi CmpIPredicate.slt (BitVec.ofNat 32 x.val) 128#32 = if x.val < 128 then 1#1 else 0#1 := by
  decide +kernel

/-- The first head's normaliser columns. -/
theorem ones_left (s : St Ideal) (x l : Fin 128) : s.v124 (ix2 x l) = ((if l.val = 0 then 1 else 0 : ℝ) : EReal) := by
  pointwise [St.v124, k0_pay23]
  rw [zero_word, select_if]; split_ifs <;> rfl

/-- The second head's normaliser columns. -/
theorem ones_right (s : St Ideal) (x l : Fin 128) : s.v130 (ix2 x l) = ((if l.val = 1 then 1 else 0 : ℝ) : EReal) := by
  pointwise [St.v130, k0_pay24]
  rw [one_word, select_if]; split_ifs <;> rfl

/-- The normaliser columns of a pair, one under the other. -/
theorem ones_both (s : St Ideal) (x : Fin 256) (l : Fin 128) :
    s.v142 (ix2 x l) = ((if l.val = (if x.val < 128 then 0 else 1) then 1 else 0 : ℝ) : EReal) := by
  pointwise [St.v142, k0_pay26, St.v134, k0_pay25, St.v131]
  rw [row_word, select_if]
  by_cases h : x.val < 128
  · rw [if_pos h, if_pos h, zero_word, select_if]; split_ifs <;> rfl
  · rw [if_neg h, if_neg h, one_word, select_if]; split_ifs <;> rfl

/-- Pair 0's values with the second head's columns taken out. -/
theorem left0 (s : St Ideal) (g : Seq) (n : ℕ) (C : Chunk s g n) (x : Fin 128) (j : Fin 384) :
    k0_pay59 s.v117 s.v144 s.v145 (ix2 x j) = (g.val 0 0 (n + x.val) j.val : EReal) := by
  have hj := j.isLt
  pointwise [k0_pay59, St.v117, k0_pay22, St.v145, k0_pay27, C.v0]
  rw [col_word, select_if]; unfold Seq.val; rw [if_pos hj]
  by_cases h : j.val < 192
  · rw [if_pos h]; rw [if_pos (by omega)]; norm_num
  · rw [if_neg h]; rw [if_neg (by omega)]; norm_num

/-- Pair 0's values beside the first head's normaliser columns. -/
theorem left_cols0 (s : St Ideal) (g : Seq) (n : ℕ) (C : Chunk s g n) (x : Fin 128) (j : Fin 512) :
    (if h : j.val < 384 then k0_pay59 s.v117 s.v144 s.v145 (ix2 x ⟨j.val, h⟩) else s.v124 (ix2 x ⟨j.val - 384, by omega⟩))
      = (g.val 0 0 (n + x.val) j.val : EReal) := by
  split_ifs with h
  · exact left0 s g n C x ⟨j.val, h⟩
  · rw [ones_left]; unfold Seq.val; rw [if_neg h]

/-- Pair 0's values with the first head's columns taken out. -/
theorem right0 (s : St Ideal) (g : Seq) (n : ℕ) (C : Chunk s g n) (x : Fin 128) (j : Fin 384) :
    k0_pay60 s.v117 s.v144 s.v145 (ix2 x j) = (g.val 0 1 (n + x.val) j.val : EReal) := by
  have hj := j.isLt
  pointwise [k0_pay60, St.v117, k0_pay22, St.v145, k0_pay27, C.v0]
  rw [col_word, select_if]; unfold Seq.val; rw [if_pos hj]
  by_cases h : j.val < 192
  · rw [if_pos h]; rw [if_neg (by omega)]; norm_num
  · rw [if_neg h]; rw [if_pos (by omega)]; norm_num

/-- Pair 0's values beside the second head's normaliser columns. -/
theorem right_cols0 (s : St Ideal) (g : Seq) (n : ℕ) (C : Chunk s g n) (x : Fin 128) (j : Fin 512) :
    (if h : j.val < 384 then k0_pay60 s.v117 s.v144 s.v145 (ix2 x ⟨j.val, h⟩) else s.v130 (ix2 x ⟨j.val - 384, by omega⟩))
      = (g.val 0 1 (n + x.val) j.val : EReal) := by
  split_ifs with h
  · exact right0 s g n C x ⟨j.val, h⟩
  · rw [ones_right]; unfold Seq.val; rw [if_neg h]

/-- The stacked normaliser columns are a head's own in its rows. -/
theorem stack00 (s : St Ideal) (g : Seq) (t : ℕ) (x : Fin 128) (j : Fin 512) (h : ¬ j.val < 384) :
    s.v142 (ix2 ⟨x.val, by omega⟩ ⟨j.val - 384, by omega⟩) = (g.val 0 0 t j.val : EReal) := by
  rw [ones_both]; unfold Seq.val; rw [if_neg h]
  rw [if_pos (show x.val < 128 from x.isLt)]

/-- The state of pair 0's first head as the chunk reads it. -/
theorem held00 (s : St Ideal) (g : Seq) (n : ℕ) (C : Chunk s g n) (x : Fin 128) (j : Fin 512) :
    s.v258 (ix3 0 ⟨x.val, by omega⟩ j) = (g.st 0 0 0 n x.val j.val : EReal) := by
  have e := C.c 0 0 x j
  refine Eq.trans ?_ e
  show s.c _ = s.c _
  congr 1; funext a; apply Fin.ext
  match a with
  | ⟨0, _⟩ => rfl
  | ⟨1, _⟩ => show 0 + 1 * _ = _; simp
  | ⟨2, _⟩ => show 0 + 1 * _ = _; simp

/-- The stacked normaliser columns are a head's own in its rows. -/
theorem stack01 (s : St Ideal) (g : Seq) (t : ℕ) (x : Fin 128) (j : Fin 512) (h : ¬ j.val < 384) :
    s.v142 (ix2 ⟨128 + x.val, by omega⟩ ⟨j.val - 384, by omega⟩) = (g.val 0 1 t j.val : EReal) := by
  rw [ones_both]; unfold Seq.val; rw [if_neg h]
  rw [if_neg (show ¬ 128 + x.val < 128 by omega)]

/-- The state of pair 0's second head as the chunk reads it. -/
theorem held01 (s : St Ideal) (g : Seq) (n : ℕ) (C : Chunk s g n) (x : Fin 128) (j : Fin 512) :
    s.v258 (ix3 0 ⟨128 + x.val, by omega⟩ j) = (g.st 1 0 1 n x.val j.val : EReal) := by
  have e := C.c 0 1 x j
  refine Eq.trans ?_ e
  show s.c _ = s.c _
  congr 1; funext a; apply Fin.ext
  match a with
  | ⟨0, _⟩ => rfl
  | ⟨1, _⟩ => show 0 + 1 * _ = _; simp
  | ⟨2, _⟩ => show 0 + 1 * _ = _; simp

/-- Pair 1's values with the second head's columns taken out. -/
theorem left1 (s : St Ideal) (g : Seq) (n : ℕ) (C : Chunk s g n) (x : Fin 128) (j : Fin 384) :
    k0_pay109 s.v117 s.v361 s.v362 (ix2 x j) = (g.val 1 0 (n + x.val) j.val : EReal) := by
  have hj := j.isLt
  pointwise [k0_pay109, St.v117, k0_pay22, St.v362, k0_pay75, C.v1]
  rw [col_word, select_if]; unfold Seq.val; rw [if_pos hj]
  by_cases h : j.val < 192
  · rw [if_pos h]; rw [if_pos (by omega)]
  · rw [if_neg h]; rw [if_neg (by omega)]; norm_num

/-- Pair 1's values beside the first head's normaliser columns. -/
theorem left_cols1 (s : St Ideal) (g : Seq) (n : ℕ) (C : Chunk s g n) (x : Fin 128) (j : Fin 512) :
    (if h : j.val < 384 then k0_pay109 s.v117 s.v361 s.v362 (ix2 x ⟨j.val, h⟩) else s.v124 (ix2 x ⟨j.val - 384, by omega⟩))
      = (g.val 1 0 (n + x.val) j.val : EReal) := by
  split_ifs with h
  · exact left1 s g n C x ⟨j.val, h⟩
  · rw [ones_left]; unfold Seq.val; rw [if_neg h]

/-- Pair 1's values with the first head's columns taken out. -/
theorem right1 (s : St Ideal) (g : Seq) (n : ℕ) (C : Chunk s g n) (x : Fin 128) (j : Fin 384) :
    k0_pay110 s.v117 s.v361 s.v362 (ix2 x j) = (g.val 1 1 (n + x.val) j.val : EReal) := by
  have hj := j.isLt
  pointwise [k0_pay110, St.v117, k0_pay22, St.v362, k0_pay75, C.v1]
  rw [col_word, select_if]; unfold Seq.val; rw [if_pos hj]
  by_cases h : j.val < 192
  · rw [if_pos h]; rw [if_neg (by omega)]; norm_num
  · rw [if_neg h]; rw [if_pos (by omega)]

/-- Pair 1's values beside the second head's normaliser columns. -/
theorem right_cols1 (s : St Ideal) (g : Seq) (n : ℕ) (C : Chunk s g n) (x : Fin 128) (j : Fin 512) :
    (if h : j.val < 384 then k0_pay110 s.v117 s.v361 s.v362 (ix2 x ⟨j.val, h⟩) else s.v130 (ix2 x ⟨j.val - 384, by omega⟩))
      = (g.val 1 1 (n + x.val) j.val : EReal) := by
  split_ifs with h
  · exact right1 s g n C x ⟨j.val, h⟩
  · rw [ones_right]; unfold Seq.val; rw [if_neg h]

/-- The stacked normaliser columns are a head's own in its rows. -/
theorem stack10 (s : St Ideal) (g : Seq) (t : ℕ) (x : Fin 128) (j : Fin 512) (h : ¬ j.val < 384) :
    s.v142 (ix2 ⟨x.val, by omega⟩ ⟨j.val - 384, by omega⟩) = (g.val 1 0 t j.val : EReal) := by
  rw [ones_both]; unfold Seq.val; rw [if_neg h]
  rw [if_pos (show x.val < 128 from x.isLt)]

/-- The state of pair 1's first head as the chunk reads it. -/
theorem held10 (s : St Ideal) (g : Seq) (n : ℕ) (C : Chunk s g n) (x : Fin 128) (j : Fin 512) :
    s.v475 (ix3 0 ⟨x.val, by omega⟩ j) = (g.st 2 1 0 n x.val j.val : EReal) := by
  have e := C.c 1 0 x j
  refine Eq.trans ?_ e
  unfold St.v475 St.c_1
  rw [VecWindow.window_put_of_disjoint]
  · show s.c _ = s.c _
    congr 1; funext a; apply Fin.ext
    match a with
    | ⟨0, _⟩ => rfl
    | ⟨1, _⟩ => show 0 + 1 * _ = _; simp
    | ⟨2, _⟩ => show 0 + 1 * _ = _; simp
  · exact (0 : Fin 3)
  · exact Or.inr (by decide)

/-- The stacked normaliser columns are a head's own in its rows. -/
theorem stack11 (s : St Ideal) (g : Seq) (t : ℕ) (x : Fin 128) (j : Fin 512) (h : ¬ j.val < 384) :
    s.v142 (ix2 ⟨128 + x.val, by omega⟩ ⟨j.val - 384, by omega⟩) = (g.val 1 1 t j.val : EReal) := by
  rw [ones_both]; unfold Seq.val; rw [if_neg h]
  rw [if_neg (show ¬ 128 + x.val < 128 by omega)]

/-- The state of pair 1's second head as the chunk reads it. -/
theorem held11 (s : St Ideal) (g : Seq) (n : ℕ) (C : Chunk s g n) (x : Fin 128) (j : Fin 512) :
    s.v475 (ix3 0 ⟨128 + x.val, by omega⟩ j) = (g.st 3 1 1 n x.val j.val : EReal) := by
  have e := C.c 1 1 x j
  refine Eq.trans ?_ e
  unfold St.v475 St.c_1
  rw [VecWindow.window_put_of_disjoint]
  · show s.c _ = s.c _
    congr 1; funext a; apply Fin.ext
    match a with
    | ⟨0, _⟩ => rfl
    | ⟨1, _⟩ => show 0 + 1 * _ = _; simp
    | ⟨2, _⟩ => show 0 + 1 * _ = _; simp
  · exact (0 : Fin 3)
  · exact Or.inr (by decide)

end Cert.MlstmIdeal.Whole

end
-- ==== Proof.MlstmMix.lean ====
/- The recurrence, one chunk, pair by pair of heads: the one product that reads the chunk and the state before it, and the
   state at the end of the chunk. -/
module

public import proofs.«01_k».proof.Proof.MlstmTrip
public import proofs.«01_k».proof.Proof.Gen.MlstmIdeal.Skeleton
public import Idealize.ShloMosaic.Lib.Pipeline.ValueKit
public import Idealize.ShloMosaic.Lib.Pointwise
public import proofs.«01_k».proof.Proof.MlstmValues

@[expose] public section

set_option maxRecDepth 16384

noncomputable section

open Idealize.ShloMosaic Idealize.ShloMosaic.TcCoe Idealize.SL.Sem
open scoped BigOperators

namespace Cert.MlstmIdeal.Whole

open Cert.MlstmIdeal Cert.MlstmIdeal.Gen Cert.Recurrence

/-- Pair 0's product is its read of the whole past. -/
theorem mix0 (s : St Ideal) (g : Seq) (n : ℕ) (C : Chunk s g n) (r : Fin 128) (j : Fin 512) :
    k0_pay61 s.v117 s.v142 s.v144 s.v145 s.v172 s.v175 s.v228 s.v231 s.v258 (ix2 r j) = (g.mix 0 (n + r.val) j.val : EReal) := by
  have w : ∀ x : Fin 128, x.val < 128 ∧ x.val < 256 ∧ ¬ 128 + x.val < 128 ∧ 128 + x.val < 256 ∧ ¬ 256 + x.val < 128 ∧ ¬ 256 + x.val - 128 < 128
      ∧ 256 + x.val - 128 - 128 < 128 ∧ ¬ 384 + x.val < 128 ∧ ¬ 384 + x.val - 128 < 128 ∧ ¬ 384 + x.val - 128 - 128 < 128
      ∧ ¬ 256 + x.val < 256 ∧ ¬ 384 + x.val < 256 := fun x => by have := x.isLt; omega
  have i1 : ∀ x : Fin 128, 256 + x.val - 128 - 128 = x.val := fun x => by omega
  have i2 : ∀ x : Fin 128, 384 + x.val - 128 - 128 - 128 = x.val := fun x => by omega
  have i3 : ∀ x : Fin 128, 384 + x.val - 256 = 128 + x.val := fun x => by omega
  pointwise [k0_pay61, k0_pay58]
  rw [sum_four]
  simp only [dif_pos, dif_neg, w, not_false_eq_true, i1, i2, i3, Nat.add_sub_cancel_left]
  by_cases h : j.val < 384
  · simp only [dif_pos h, left0 s g n C, right0 s g n C, pair0 s g n C, pair1 s g n C, past0 s g n C, past1 s g n C, held00 s g n C, held01 s g n C,
      ← EReal.coe_mul, coe_sum, ← EReal.coe_add]
    exact congrArg _ (mix_chunk g 0 1 0 n j.val r rfl rfl)
  · simp only [dif_neg h, fun x => stack00 s g (n + x.val) x j h, fun x => stack01 s g (n + x.val) x j h, pair0 s g n C, pair1 s g n C, past0 s g n C, past1 s g n C, held00 s g n C, held01 s g n C,
      ← EReal.coe_mul, coe_sum, ← EReal.coe_add]
    exact congrArg _ (mix_chunk g 0 1 0 n j.val r rfl rfl)

/-- Pair 1's product, as it is written. -/
def prod1 (s : St Ideal) : FVec Ideal S128x512 .f32 :=
  k0_pay61 s.v117 s.v142 s.v361 s.v362 s.v389 s.v392 s.v445 s.v448 s.v475

/-- Pair 1's product is its read of the whole past. -/
theorem mix1 (s : St Ideal) (g : Seq) (n : ℕ) (C : Chunk s g n) (r : Fin 128) (j : Fin 512) : prod1 s (ix2 r j) = (g.mix 1 (n + r.val) j.val : EReal) := by
  have w : ∀ x : Fin 128, x.val < 128 ∧ x.val < 256 ∧ ¬ 128 + x.val < 128 ∧ 128 + x.val < 256 ∧ ¬ 256 + x.val < 128 ∧ ¬ 256 + x.val - 128 < 128
      ∧ 256 + x.val - 128 - 128 < 128 ∧ ¬ 384 + x.val < 128 ∧ ¬ 384 + x.val - 128 < 128 ∧ ¬ 384 + x.val - 128 - 128 < 128
      ∧ ¬ 256 + x.val < 256 ∧ ¬ 384 + x.val < 256 := fun x => by have := x.isLt; omega
  have i1 : ∀ x : Fin 128, 256 + x.val - 128 - 128 = x.val := fun x => by omega
  have i2 : ∀ x : Fin 128, 384 + x.val - 128 - 128 - 128 = x.val := fun x => by omega
  have i3 : ∀ x : Fin 128, 384 + x.val - 256 = 128 + x.val := fun x => by omega
  have el : ∀ x j, k0_pay59 s.v117 s.v361 s.v362 (ix2 x j) = (g.val 1 0 (n + x.val) j.val : EReal) := left1 s g n C
  have er : ∀ x j, k0_pay60 s.v117 s.v361 s.v362 (ix2 x j) = (g.val 1 1 (n + x.val) j.val : EReal) := right1 s g n C
  pointwise [prod1, k0_pay61, k0_pay58]
  rw [sum_four]
  simp only [dif_pos, dif_neg, w, not_false_eq_true, i1, i2, i3, Nat.add_sub_cancel_left]
  by_cases h : j.val < 384
  · simp only [dif_pos h, el, er, pair2 s g n C, pair3 s g n C, past2 s g n C, past3 s g n C, held10 s g n C, held11 s g n C,
      ← EReal.coe_mul, coe_sum, ← EReal.coe_add]
    exact congrArg _ (mix_chunk g 2 3 1 n j.val r rfl rfl)
  · simp only [dif_neg h, fun x => stack10 s g (n + x.val) x j h, fun x => stack11 s g (n + x.val) x j h, pair2 s g n C, pair3 s g n C, past2 s g n C, past3 s g n C, held10 s g n C, held11 s g n C,
      ← EReal.coe_mul, coe_sum, ← EReal.coe_add]
    exact congrArg _ (mix_chunk g 2 3 1 n j.val r rfl rfl)

/-- The state of pair 0's first head at the end of the chunk. -/
theorem kept00 (s : St Ideal) (g : Seq) (n : ℕ) (C : Chunk s g n) (x : Fin 128) (j : Fin 512) :
    k0_pay67 s.v124 s.v130 s.v194 s.v198 s.v250 s.v254 s.v259 s.v261 s.v262 (ix3 0 ⟨x.val, by omega⟩ j) = (g.st 0 0 0 (n + 128) x.val j.val : EReal) := by
  have w : x.val < 128 := by have := x.isLt; omega
  have hd := held00 s g n C x j
  have e := fun y => left_cols0 s g n C y j
  pointwise [k0_pay67, St.v259, k0_pay58, St.v261, St.v262]
  simp only [dif_pos w, Nat.add_sub_cancel_left, keep0 s g n C, write0 s g n C, dite_eq_ite, ite_self, hd]
  first
    | simp only [e, ← EReal.coe_mul, coe_sum, ← EReal.coe_add]
    | (simp only [dite_eq_ite] at e; simp only [e, ← EReal.coe_mul, coe_sum, ← EReal.coe_add])
  exact congrArg _ (st_chunk g 0 0 0 n x.val j.val)

/-- The state of pair 0's second head at the end of the chunk. -/
theorem kept01 (s : St Ideal) (g : Seq) (n : ℕ) (C : Chunk s g n) (x : Fin 128) (j : Fin 512) :
    k0_pay67 s.v124 s.v130 s.v194 s.v198 s.v250 s.v254 s.v259 s.v261 s.v262 (ix3 0 ⟨128 + x.val, by omega⟩ j) = (g.st 1 0 1 (n + 128) x.val j.val : EReal) := by
  have w : ¬ 128 + x.val < 128 := by have := x.isLt; omega
  have hd := held01 s g n C x j
  have e := fun y => right_cols0 s g n C y j
  pointwise [k0_pay67, St.v259, k0_pay58, St.v261, St.v262]
  simp only [dif_neg w, Nat.add_sub_cancel_left, keep1 s g n C, write1 s g n C, dite_eq_ite, ite_self, hd]
  first
    | simp only [e, ← EReal.coe_mul, coe_sum, ← EReal.coe_add]
    | (simp only [dite_eq_ite] at e; simp only [e, ← EReal.coe_mul, coe_sum, ← EReal.coe_add])
  exact congrArg _ (st_chunk g 1 0 1 n x.val j.val)

/-- The state of pair 1's first head at the end of the chunk. -/
theorem kept10 (s : St Ideal) (g : Seq) (n : ℕ) (C : Chunk s g n) (x : Fin 128) (j : Fin 512) :
    k0_pay112 s.v117 s.v124 s.v130 s.v361 s.v362 s.v411 s.v415 s.v467 s.v471 s.v476 (ix3 0 ⟨x.val, by omega⟩ j) = (g.st 2 1 0 (n + 128) x.val j.val : EReal) := by
  have w : x.val < 128 := by have := x.isLt; omega
  have hd := held10 s g n C x j
  have e := fun y => left_cols1 s g n C y j
  pointwise [k0_pay112, St.v476, k0_pay108]
  simp only [dif_pos w, Nat.add_sub_cancel_left, keep2 s g n C, write2 s g n C, dite_eq_ite, ite_self, hd]
  first
    | simp only [e, ← EReal.coe_mul, coe_sum, ← EReal.coe_add]
    | (simp only [dite_eq_ite] at e; simp only [e, ← EReal.coe_mul, coe_sum, ← EReal.coe_add])
  exact congrArg _ (st_chunk g 2 1 0 n x.val j.val)

/-- The state of pair 1's second head at the end of the chunk. -/
theorem kept11 (s : St Ideal) (g : Seq) (n : ℕ) (C : Chunk s g n) (x : Fin 128) (j : Fin 512) :
    k0_pay112 s.v117 s.v124 s.v130 s.v361 s.v362 s.v411 s.v415 s.v467 s.v471 s.v476 (ix3 0 ⟨128 + x.val, by omega⟩ j) = (g.st 3 1 1 (n + 128) x.val j.val : EReal) := by
  have w : ¬ 128 + x.val < 128 := by have := x.isLt; omega
  have hd := held11 s g n C x j
  have e := fun y => right_cols1 s g n C y j
  pointwise [k0_pay112, St.v476, k0_pay108]
  simp only [dif_neg w, Nat.add_sub_cancel_left, keep3 s g n C, write3 s g n C, dite_eq_ite, ite_self, hd]
  first
    | simp only [e, ← EReal.coe_mul, coe_sum, ← EReal.coe_add]
    | (simp only [dite_eq_ite] at e; simp only [e, ← EReal.coe_mul, coe_sum, ← EReal.coe_add])
  exact congrArg _ (st_chunk g 3 1 1 n x.val j.val)

end Cert.MlstmIdeal.Whole

end
-- ==== Proof.MlstmRow.lean ====
/- The recurrence, one chunk, the rows it stores: each head's output divided by its floored normaliser, normalised over
   the head's columns, scaled and gated. -/
module

public import proofs.«01_k».proof.Proof.MlstmTrip
public import proofs.«01_k».proof.Proof.Gen.MlstmIdeal.Skeleton
public import Idealize.ShloMosaic.Lib.Pipeline.ValueKit
public import Idealize.ShloMosaic.Lib.Pointwise
public import proofs.«01_k».proof.Proof.MlstmMix

@[expose] public section

set_option maxRecDepth 16384

noncomputable section

open Idealize.ShloMosaic Idealize.ShloMosaic.TcCoe Idealize.SL.Sem
open scoped BigOperators

namespace Cert.MlstmIdeal.Whole

open Cert.MlstmIdeal Cert.MlstmIdeal.Gen Cert.Recurrence

/-- A lane number is less than 64 exactly when its word is. -/
theorem half_word : ∀ j : Fin 128, IntOp.cmpi CmpIPredicate.slt (BitVec.ofNat 32 j.val) 64#32 = if j.val < 64 then 1#1 else 0#1 := by
  decide +kernel

/-- Three runs of 128 lanes, the middle one split in two halves, are two runs of 192. -/
theorem thirds {α : Type} (j : Fin 384) (x y : α) :
    (if h : j.val < 128 then x else if h : j.val - 128 < 128 then
      Scalar.select (IntOp.cmpi CmpIPredicate.slt (BitVec.ofNat 32 (j.val - 128)) 64#32) x y else y) = if j.val < 192 then x else y := by
  have hj := j.isLt
  by_cases h1 : j.val < 128
  · rw [dif_pos h1, if_pos (by omega)]
  · rw [dif_neg h1]
    by_cases h2 : j.val - 128 < 128
    · rw [dif_pos h2, half_word ⟨j.val - 128, h2⟩, select_if]
      by_cases h3 : j.val < 192
      · rw [if_pos h3, if_pos (show j.val - 128 < 64 by omega)]
      · rw [if_neg h3, if_neg (show ¬ j.val - 128 < 64 by omega)]
    · rw [dif_neg h2, if_neg (by omega)]

/-- A pair's quotient by its floored normaliser. -/
theorem quot (A B : FVec Ideal S128x384 .f32) (C D : FVec Ideal S128x1 .f32) (s : St Ideal) (r : Fin 128) (j : Fin 384) :
    k0_pay66 A B C D s.v282 64#32 (ix2 r j)
      = Ideal.div (A (ix2 r j)) (max (FloatOps.absf (F := Ideal) (φ := .f32) (B (ix2 r j))) (if j.val < 192 then C (ix2 r 0) else D (ix2 r 0))) := by
  pointwise [k0_pay66, St.v282]
  rw [thirds]

/-- The normaliser is the pair's read in the head's normaliser column. -/
theorem den (a : IVec S128x384 1) (b : FVec Ideal S256x128 .bf16) (c : Vec Ideal S128x384 .bf16) (d : FVec Ideal S128x384 .bf16)
    (e f g h : FVec Ideal S128x128 .bf16) (m : Vec Ideal S1x256x512 .f32) (r : Fin 128) (j : Fin 384) :
    k0_pay63 a b c d e f g h m (ix2 r j) = if j.val < 192 then k0_pay61 a b c d e f g h m (ix2 r 384) else k0_pay61 a b c d e f g h m (ix2 r 385) := by
  pointwise [k0_pay63]
  rw [thirds]

/-- The numerators are the pair's read in the value columns. -/
theorem num (a : IVec S128x384 1) (b : FVec Ideal S256x128 .bf16) (c : Vec Ideal S128x384 .bf16) (d : FVec Ideal S128x384 .bf16)
    (e f g h : FVec Ideal S128x128 .bf16) (m : Vec Ideal S1x256x512 .f32) (r : Fin 128) (j : Fin 384) :
    k0_pay62 a b c d e f g h m (ix2 r j) = k0_pay61 a b c d e f g h m (ix2 r ⟨j.val, by omega⟩) := by
  pointwise [k0_pay62]

/-- The first head's sum of squares is over its 192 columns. -/
theorem squares_left (A B : FVec Ideal S128x384 .f32) (C D : FVec Ideal S128x1 .f32) (s : St Ideal) (r : Fin 128) :
    k0_pay72 A B C D s.v282 64#32 (ix2 r 0)
      = ∑ k : Fin 192, k0_pay66 A B C D s.v282 64#32 (ix2 r ⟨k.val, by omega⟩) * k0_pay66 A B C D s.v282 64#32 (ix2 r ⟨k.val, by omega⟩) := by
  pointwise [k0_pay72, k0_pay71, k0_pay70, k0_pay69]
  simp only [half_word, select_if]
  have e := sum_left (M := EReal) fun k => if h : k < 384 then k0_pay66 A B C D s.v282 64#32 (ix2 r ⟨k, h⟩) * k0_pay66 A B C D s.v282 64#32 (ix2 r ⟨k, h⟩) else 0
  have h1 : ∀ x : Fin 128, x.val < 384 ∧ 128 + x.val < 384 := fun x => by omega
  have h2 : ∀ x : Fin 192, x.val < 384 := fun x => by omega
  simp only [h1, h2, dif_pos] at e
  exact e

/-- The second head's sum of squares is over its 192 columns. -/
theorem squares_right (A B : FVec Ideal S128x384 .f32) (C D : FVec Ideal S128x1 .f32) (s : St Ideal) (r : Fin 128) :
    k0_pay73 A B C D s.v282 64#32 (ix2 r 0)
      = ∑ k : Fin 192, k0_pay66 A B C D s.v282 64#32 (ix2 r ⟨192 + k.val, by omega⟩) * k0_pay66 A B C D s.v282 64#32 (ix2 r ⟨192 + k.val, by omega⟩) := by
  pointwise [k0_pay73, k0_pay71, k0_pay70, k0_pay69]
  simp only [half_word, select_if]
  have e := sum_right (M := EReal) fun k => if h : k < 384 then k0_pay66 A B C D s.v282 64#32 (ix2 r ⟨k, h⟩) * k0_pay66 A B C D s.v282 64#32 (ix2 r ⟨k, h⟩) else 0
  have h1 : ∀ x : Fin 128, 256 + x.val < 384 ∧ 128 + x.val < 384 := fun x => by omega
  have h2 : ∀ x : Fin 192, 192 + x.val < 384 := fun x => by omega
  simp only [h1, h2, dif_pos] at e
  exact e

/-- The normalised, scaled and gated row. -/
theorem scaled (y o : FVec Ideal S128x384 .f32) (a b : FVec Ideal S128x1 .f32) (w : Vec Ideal S1x384 .f32) (r : Fin 128) (j : Fin 384) :
    k0_pay74 y o a b w (ix2 r j)
      = y (ix2 r j) * Ideal.rsqrt (Ideal.div (if j.val < 192 then a (ix2 r 0) else b (ix2 r 0)) (Ideal.ofBits FTy.f32 1128267776#32)
          + Ideal.ofBits FTy.f32 897988541#32) * w (ix2 0 j) * Ideal.logistic (o (ix2 r j)) := by
  pointwise [k0_pay74]
  rw [thirds]
  split_ifs <;> rfl
/-- Pair 0's row, through the shared steps. -/
theorem row0 (s : St Ideal) : s.v360 = k0_pay74 (k0_pay66 s.v268 s.v279 s.v280 s.v281 s.v282 64#32) (k0_pay68 s.v312)
    (k0_pay72 s.v268 s.v279 s.v280 s.v281 s.v282 64#32) (k0_pay73 s.v268 s.v279 s.v280 s.v281 s.v282 64#32) s.v351 := rfl

/-- Pair 1's numerators. -/
def num1 (s : St Ideal) : FVec Ideal S128x384 .f32 := k0_pay62 s.v117 s.v142 s.v361 s.v362 s.v389 s.v392 s.v445 s.v448 s.v475
/-- Pair 1's normalisers. -/
def den1 (s : St Ideal) : FVec Ideal S128x384 .f32 := k0_pay63 s.v117 s.v142 s.v361 s.v362 s.v389 s.v392 s.v445 s.v448 s.v475
/-- Pair 1's row, through the same steps. -/
theorem row1 (s : St Ideal) : s.v574 = k0_pay74 (k0_pay66 (num1 s) (den1 s) (k0_pay64 s.v395) (k0_pay64 s.v451) s.v282 64#32) (k0_pay68 s.v529)
    (k0_pay72 (num1 s) (den1 s) (k0_pay64 s.v395) (k0_pay64 s.v451) s.v282 64#32) (k0_pay73 (num1 s) (den1 s) (k0_pay64 s.v395) (k0_pay64 s.v451) s.v282 64#32) s.v568 := rfl

/-- A pair's quotient is the two heads' outputs. -/
theorem quot_y (A B : FVec Ideal S128x384 .f32) (C D : FVec Ideal S128x1 .f32) (s : St Ideal) (g : Seq) (p t : ℕ) (r : Fin 128)
    (eA : ∀ j : Fin 384, A (ix2 r j) = (g.mix p t j.val : EReal))
    (eB : ∀ j : Fin 384, B (ix2 r j) = if j.val < 192 then (g.mix p t 384 : EReal) else (g.mix p t 385 : EReal))
    (eC : C (ix2 r 0) = ((Real.exp (- peak (g.a (2 * p)) (g.i (2 * p)) t) : ℝ) : EReal))
    (eD : D (ix2 r 0) = ((Real.exp (- peak (g.a (2 * p + 1)) (g.i (2 * p + 1)) t) : ℝ) : EReal)) (j : Fin 384) :
    k0_pay66 A B C D s.v282 64#32 (ix2 r j) = if j.val < 192 then g.y (2 * p) t j.val else g.y (2 * p + 1) t (j.val - 192) := by
  rw [quot, eA, eB, eC, eD]
  split_ifs with h
  · rw [mix_left g p t j.val h, mix_den]; rfl
  · rw [mix_right g p t j.val h j.isLt, mix_den']; rfl

/-- A pair's row is the two heads' results. -/
theorem row_res (A B : FVec Ideal S128x384 .f32) (C D : FVec Ideal S128x1 .f32) (o : FVec Ideal S128x384 .f32) (w : Vec Ideal S1x384 .f32)
    (s : St Ideal) (g : Seq) (p t : ℕ) (r : Fin 128)
    (eA : ∀ j : Fin 384, A (ix2 r j) = (g.mix p t j.val : EReal))
    (eB : ∀ j : Fin 384, B (ix2 r j) = if j.val < 192 then (g.mix p t 384 : EReal) else (g.mix p t 385 : EReal))
    (eC : C (ix2 r 0) = ((Real.exp (- peak (g.a (2 * p)) (g.i (2 * p)) t) : ℝ) : EReal))
    (eD : D (ix2 r 0) = ((Real.exp (- peak (g.a (2 * p + 1)) (g.i (2 * p + 1)) t) : ℝ) : EReal)) (j : Fin 384) :
    k0_pay74 (k0_pay66 A B C D s.v282 64#32) o (k0_pay72 A B C D s.v282 64#32) (k0_pay73 A B C D s.v282 64#32) w (ix2 r j)
      = g.res (2 * p + j.val / 192) t (j.val % 192) (w (ix2 0 j)) (o (ix2 r j)) := by
  have e := quot_y A B C D s g p t r eA eB eC eD
  have hj := j.isLt
  rw [scaled, squares_left, squares_right]
  simp only [e]
  unfold Seq.res
  by_cases h : j.val < 192
  · rw [if_pos h, if_pos h, show 2 * p + j.val / 192 = 2 * p by omega, show j.val % 192 = j.val by omega,
      Finset.sum_congr rfl (fun k _ => by rw [if_pos k.isLt])]
  · rw [if_neg h, if_neg h, show 2 * p + j.val / 192 = 2 * p + 1 by omega, show j.val % 192 = j.val - 192 by omega,
      Finset.sum_congr rfl (fun k _ => by rw [if_neg (show ¬ 192 + (k : Fin 192).val < 192 by omega), Nat.add_sub_cancel_left])]

/-- Pair 0's row of the chunk. -/
theorem chunk_row0 (s : St Ideal) (g : Seq) (n : ℕ) (C : Chunk s g n) (r : Fin 128) (j : Fin 384) :
    s.v360 (ix2 r j) = g.res (j.val / 192) (n + r.val) (j.val % 192) (s.v351 (ix2 0 j)) (s.v312 (ix2 r j)) := by
  rw [row0, row_res s.v268 s.v279 s.v280 s.v281 _ _ s g 0 (n + r.val) r (fun j => ?_) (fun j => ?_) (floor0 s g n C r) (floor1 s g n C r), Nat.mul_zero, Nat.zero_add]
  · rfl
  · exact (num _ _ _ _ _ _ _ _ _ r j).trans (mix0 s g n C r _)
  · refine (den _ _ _ _ _ _ _ _ _ r j).trans ?_
    rw [mix0 s g n C r, mix0 s g n C r]; rfl

/-- Pair 1's row of the chunk. -/
theorem chunk_row1 (s : St Ideal) (g : Seq) (n : ℕ) (C : Chunk s g n) (r : Fin 128) (j : Fin 384) :
    s.v574 (ix2 r j) = g.res (2 + j.val / 192) (n + r.val) (j.val % 192) (s.v568 (ix2 0 j)) (s.v529 (ix2 r j)) := by
  rw [row1, row_res (num1 s) (den1 s) (k0_pay64 s.v395) (k0_pay64 s.v451) _ _ s g 1 (n + r.val) r (fun j => ?_) (fun j => ?_) ?_ ?_]
  · rfl
  · refine Eq.trans ?_ (floor2 s g n C r); pointwise [k0_pay64]
  · refine Eq.trans ?_ (floor3 s g n C r); pointwise [k0_pay64]
  · exact (num _ _ _ _ _ _ _ _ _ r j).trans (mix1 s g n C r _)
  · refine (den _ _ _ _ _ _ _ _ _ r j).trans ?_
    have e1 := mix1 s g n C r 384
    have e2 := mix1 s g n C r 385
    unfold prod1 at e1 e2
    rw [e1, e2]; rfl

end Cert.MlstmIdeal.Whole

end
-- ==== Proof.MlstmGate.lean ====
/- The scalar identities of the recurrence's gates, and the real sequences it runs over. -/
module

public import proofs.«01_k».proof.Proof.MlstmReal

@[expose] public section

noncomputable section

open Idealize.ShloMosaic
open scoped BigOperators

namespace Cert.Recurrence

/-- The logarithm of the sigmoid. -/
def logsig (x : ℝ) : ℝ := min x 0 - Real.log (1 + Real.exp (- |x|))

/-- The absolute value of a real number among the extended ones. -/
theorem absf_real (x : ℝ) : FloatOps.absf (F := Ideal) (φ := .f32) (x : EReal) = ((|x| : ℝ) : EReal) := by
  show max (x : EReal) (-(x : EReal)) = _
  rw [← EReal.coe_neg, abs_eq_max_neg]
  exact (EReal.coe_strictMono.monotone.map_max).symm

/-- The log sigmoid taken in powers of two and scaled back is the log sigmoid. -/
theorem log_gate (x : ℝ) :
    (min ((x : EReal) * (((Real.log 2)⁻¹ : ℝ) : EReal)) 0
      - Ideal.log (1 + FloatOps.exp2 (F := Ideal) (φ := .f32) (0 - FloatOps.absf (F := Ideal) (φ := .f32) ((x : EReal) * (((Real.log 2)⁻¹ : ℝ) : EReal))))
          * (((Real.log 2)⁻¹ : ℝ) : EReal)) * ((Real.log 2 : ℝ) : EReal) = (logsig x : EReal) := by
  have hl : (0 : ℝ) < Real.log 2 := Real.log_pos (by norm_num)
  have h2 : (0 : ℝ) < 1 + Real.exp (-|x|) := by positivity
  have hp : Real.rpow 2 (-|x * (Real.log 2)⁻¹|) = Real.exp (-|x|) := by
    show (2 : ℝ) ^ (-|x * (Real.log 2)⁻¹|) = _
    rw [Real.rpow_def_of_pos (by norm_num), abs_mul, abs_of_pos (inv_pos.2 hl)]
    congr 1; field_simp
  have hm : min ((x * (Real.log 2)⁻¹ : ℝ) : EReal) 0 = ((min (x * (Real.log 2)⁻¹) 0 : ℝ) : EReal) :=
    (EReal.coe_strictMono.monotone.map_min (a := x * (Real.log 2)⁻¹) (b := 0)).symm
  rw [← EReal.coe_mul, hm, absf_real, zero_sub, ← EReal.coe_neg]
  rw [show FloatOps.exp2 (F := Ideal) (φ := .f32) ((-|x * (Real.log 2)⁻¹| : ℝ) : EReal) = ((Real.exp (-|x|) : ℝ) : EReal) by
    rw [← hp]; rfl]
  rw [← EReal.coe_one, ← EReal.coe_add, Ideal.log_coe, if_neg (not_le.2 h2), ← EReal.coe_mul, ← EReal.coe_sub, ← EReal.coe_mul]
  congr 1
  have hmin : min (x * (Real.log 2)⁻¹) 0 = min x 0 * (Real.log 2)⁻¹ := by
    rw [min_mul_of_nonneg _ _ (inv_pos.2 hl).le, zero_mul]
  rw [hmin, ← sub_mul]
  unfold logsig; field_simp

/-- The log sigmoid as the reference takes it: the negated softplus of the negated gate. -/
theorem log_gate' (x : ℝ) :
    -(max (-(x : EReal)) 0 + Ideal.log1p (Ideal.exp (- FloatOps.absf (F := Ideal) (φ := .f32) (-(x : EReal))))) = (logsig x : EReal) := by
  have h2 : (0 : ℝ) < 1 + Real.exp (-|x|) := by positivity
  rw [← EReal.coe_neg, absf_real, abs_neg, ← EReal.coe_neg, Ideal.exp_coe]
  have hm : max ((-x : ℝ) : EReal) 0 = ((max (-x) 0 : ℝ) : EReal) := (EReal.coe_strictMono.monotone.map_max (a := -x) (b := 0)).symm
  rw [hm]
  show -(_ + Ideal.log (1 + _)) = _
  rw [← EReal.coe_one, ← EReal.coe_add, Ideal.log_coe, if_neg (not_le.2 h2), ← EReal.coe_add, ← EReal.coe_neg]
  congr 1
  unfold logsig
  rcases le_total x 0 with h | h
  · rw [min_eq_left h, max_eq_left (by linarith)]; ring
  · rw [min_eq_right h, max_eq_right (by linarith)]; ring

/-- The scale of the keys. -/
def kscale : ℝ := (Ideal.ofBits FTy.f32 1037108716#32).toReal

/-- The scale as it is written. -/
theorem kscale_word : Ideal.ofBits FTy.f32 1037108716#32 = (kscale : EReal) := by
  unfold kscale
  rw [EReal.coe_toReal] <;> simp [Ideal.ofBits, Ideal.ieee] <;> first | exact EReal.coe_ne_top _ | exact EReal.coe_ne_bot _

/-- The gated linear unit. -/
def silu (x : ℝ) : ℝ := x * (1 + Real.exp (-x))⁻¹

/-- The gated linear unit among the extended numbers. -/
theorem silu_real (x : ℝ) : (x : EReal) * Ideal.logistic (x : EReal) = (silu x : EReal) := by
  rw [Ideal.logistic_coe, ← EReal.coe_mul]; rfl

/-- A number of an earlier row, with nothing before the first: row `s` of the padded sequence is token `s - 8`. -/
def pad (X : ℕ → ℕ → ℝ) (s c : ℕ) : ℝ := if 8 ≤ s then X (s - 8) c else 0

/-- The causal convolution over four tokens. -/
def conv (X W : ℕ → ℕ → ℝ) (t c : ℕ) : ℝ :=
  W 0 c * pad X (t + 5) c + W 1 c * pad X (t + 6) c + W 2 c * pad X (t + 7) c + W 3 c * pad X (t + 8) c

/-- The sequences of the recurrence from the projected rows `X`, the convolution's weights `W`, the gates `G` and the values `V`. -/
def seqOf (X W G V : ℕ → ℕ → ℝ) : Seq where
  a h t := logsig (G t (4 + h))
  i h t := G t h
  Q t c := silu (conv X W t c)
  K t c := silu (conv X W t (512 + c)) * kscale
  V := V

end Cert.Recurrence

end
-- ==== Proof.MlstmRun.lean ====
/- The recurrence, one chunk: the printed trip of the chunk loop computes what the trip's values say. -/
module

public import proofs.«01_k».proof.Proof.MlstmTrip
public import proofs.«01_k».proof.Proof.Gen.MlstmIdeal.Frame
public import Idealize.ShloMosaic.Lib.Pipeline.ValueKit

@[expose] public section

set_option maxRecDepth 16384

noncomputable section

namespace Cert.MlstmIdeal.Whole

open Cert.MlstmIdeal Cert.MlstmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

/-- A load through a unit-stride rectangle: the program goes on at the window of what the buffer holds. -/
theorem load_then {α : Type} {s : Shape} {e : EltTy} (c : Dev nD) (E : Set ℕ) (r : Memref sig .tc .vmem s e)
    (X : s.Idx → Elt F e) {off size : Fin s.rank → ℕ} {inb : ∀ a, off a + size a ≤ s.size a}
    {hl : r.view.LoadsAt (Rect.unit off size inb).toLoadRect} (w : (Rect.unit off size inb).shape.Idx → Elt F e)
    (hw : VecWindow.window X off size inb = w)
    (kk : ((Rect.unit off size inb).shape.Idx → Elt F e) → Prog (TpuEff nD τ sig (Elt F) Λ₀ .tc) α) (K : α → sProp (MT nD τ sig Unit (Elt F) ℕ (UR sig nD τ) ℕ)) :
    iprop(owns (c : Thread nD τ) r fullShare X
        ∗ (owns (c : Thread nD τ) r fullShare X -∗ wp frame (wpE (defs₀ (F := F)) Variants.none c none) E (kk w) K))
      ⊢ wp frame (wpE (defs₀ (F := F)) Variants.none c none) E
          (Prog.lift (.load r (Rect.unit off size inb).toLoadRect hl) >>= kk) K := by
  subst hw
  change _ ⊢ wp frame (wpE (defs₀ (F := F)) Variants.none c none) E
    (.op (.load r (Rect.unit off size inb).toLoadRect hl) kk) K
  unfold owns
  iintro ⟨⟨%f, %hf, H⟩, Hk⟩
  subst hf
  sl_step
  rw [View.readAt_unit r.view f inb rfl inb]
  iapply Hk
  iexists _; isplitr; · ipureintro; rfl
  iexact H

/-- An unmasked store through a unit-stride rectangle: the buffer holds what it held with the payload put there. -/
theorem store_then {α : Type} {s : Shape} {e : EltTy} (c : Dev nD) (E : Set ℕ) (r : Memref sig .tc .vmem s e)
    (X : s.Idx → Elt F e) {off size : Fin s.rank → ℕ} {inb : ∀ a, off a + size a ≤ s.size a}
    {w : (Rect.unit off size inb).shape.Idx → Elt F e} {hx} {hm} (Y : s.Idx → Elt F e) (hY : VecWindow.put X off size w = Y)
    (kk : PUnit → Prog (TpuEff nD τ sig (Elt F) Λ₀ .tc) α) (K : α → sProp (MT nD τ sig Unit (Elt F) ℕ (UR sig nD τ) ℕ)) :
    iprop(owns (c : Thread nD τ) r fullShare X
        ∗ (owns (c : Thread nD τ) r fullShare Y -∗ wp frame (wpE (defs₀ (F := F)) Variants.none c none) E (kk ⟨⟩) K))
      ⊢ wp frame (wpE (defs₀ (F := F)) Variants.none c none) E
          (Prog.lift (.store r (Rect.unit off size inb) w Finset.univ hx hm) >>= kk) K := by
  subst hY
  change _ ⊢ wp frame (wpE (defs₀ (F := F)) Variants.none c none) E
    (.op (.store r (Rect.unit off size inb) w Finset.univ hx hm) kk) K
  unfold owns
  iintro ⟨⟨%f, %hf, H⟩, Hk⟩
  subst hf
  sl_step
  iapply Hk
  iexists _; isplitr; swap; · iexact H
  ipureintro
  exact (View.read_writes_cons_put r.view f inb w [] rfl)

/-- A program that returns a value equal to `b` returns `b`. -/
theorem ret_then {α : Type} (c : Dev nD) (E : Set ℕ) (b a : α) (h : a = b) (K : α → sProp (MT nD τ sig Unit (Elt F) ℕ (UR sig nD τ) ℕ)) :
    K b ⊢ wp frame (wpE (defs₀ (F := F)) Variants.none c none) E (pure a) K := by
  subst h
  change K a ⊢ wp frame (wpE (defs₀ (F := F)) Variants.none c none) E (.ret a) K
  iintro H
  sl_step
  iexact H

variable (c : Dev nD) (i : grid0.Coords)
variable (arg1 : Memref sig .tc .vmem S2048x1024 .bf16) (harg1 : arg1.IsWhole)
variable (arg2 : Memref sig .tc .vmem S2048x1536 .bf16) (harg2 : arg2.IsWhole)
variable (arg3 : Memref sig .tc .vmem S2048x128 .f32) (harg3 : arg3.IsWhole)
variable (arg4 : Memref sig .tc .vmem S4x1024 .f32) (harg4 : arg4.IsWhole)
variable (arg5 : Memref sig .tc .vmem S1x128 .f32) (harg5 : arg5.IsWhole)
variable (arg6 : Memref sig .tc .vmem S1x768 .f32) (harg6 : arg6.IsWhole)
variable (arg7 : Memref sig .tc .vmem S128x128 .bf16) (harg7 : arg7.IsWhole)
variable (arg8 : Memref sig .tc .vmem S128x128 .i32) (harg8 : arg8.IsWhole)
variable (arg9 : Memref sig .tc .vmem S2048x768 .bf16) (harg9 : arg9.IsWhole)
variable (arg10 : Memref sig .tc .vmem S2x256x512 .f32) (harg10 : arg10.IsWhole)
variable (arg11 : Memref sig .tc .vmem S8x128 .f32) (harg11 : arg11.IsWhole)
variable (arg12 : Memref sig .tc .vmem S136x1024 .f32) (harg12 : arg12.IsWhole)
/-- Storing a chunk's rows below eight kept rows joins the two. -/
theorem put_rows (e : Vec F S136x1024 .f32) (h : Vec F S8x1024 .f32) (w : Vec F S128x1024 .f32)
    (he : VecWindow.window e ![0, 0] S8x1024.size inb_S136x1024_S8x1024_0_0 = h) :
    VecWindow.put e ![8, 0] S128x1024.size w = joinRows h w := by
  subst he
  funext y
  unfold joinRows VecWindow.put
  have y0 : (y 0).val < 136 := (y 0).isLt
  have y1 : (y 1).val < 1024 := (y 1).isLt
  by_cases g : (y 0).val < 8
  · rw [dif_neg (fun q => by have := (q 0).1; simp at this; omega), dif_pos g]
    unfold VecWindow.window
    congr 1; funext a; apply Fin.ext
    match a with
    | ⟨0, _⟩ => show (y 0).val = 0 + 1 * (y 0).val; omega
    | ⟨1, _⟩ => show (y 1).val = 0 + 1 * (y 1).val; omega
  · rw [dif_neg g, dif_pos (fun a => by match a with
      | ⟨0, _⟩ => exact ⟨by show 8 ≤ (y 0).val; omega, by show (y 0).val < 8 + 128; omega⟩
      | ⟨1, _⟩ => exact ⟨Nat.zero_le _, by show (y 1).val < 0 + 1024; omega⟩)]
    congr 1; funext a; apply Fin.ext
    match a with
    | ⟨0, _⟩ => rfl
    | ⟨1, _⟩ => rfl

variable (o : Vec F S2048x768 .bf16) (e : Vec F S136x1024 .f32)

set_option maxHeartbeats 1000000 in
/-- The trip's part 1. -/
theorem part1_run (s : St F) (he : VecWindow.window e ![0, 0] S8x1024.size inb_S136x1024_S8x1024_0_0 = s.h) (E : Set ℕ) (K : (Σ' (_ : BitVec 32) (_ : FVec F S128x1024 .f32), Vec F S8x1024 .f32) → sProp (MT nD τ sig Unit (Elt F) ℕ (UR sig nD τ) ℕ)) :
    iprop(owns (c : Thread nD τ) arg1 fullShare s.x1 ∗ owns (c : Thread nD τ) arg4 fullShare s.x4 ∗ owns (c : Thread nD τ) arg12 fullShare (e)
        ∗ (iprop(owns (c : Thread nD τ) arg1 fullShare s.x1 ∗ owns (c : Thread nD τ) arg4 fullShare s.x4 ∗ owns (c : Thread nD τ) arg12 fullShare s.e_1) -∗ K ⟨s.v14, s.v45, s.v46⟩))
      ⊢ wp frame (wpE (defs₀ (F := F)) Variants.none c none) E (k0_part1 i arg1 harg1 arg2 harg2 arg3 harg3 arg4 harg4 arg5 harg5 arg6 harg6 arg7 harg7 arg8 harg8 arg9 harg9 arg10 harg10 arg11 harg11 arg12 harg12 0#32 1#32 s.k) K := by
  rw [k0_part1_eq_skeleton]; unfold k0_part1_skel
  iintro ⟨H1, H4, H12, Hk⟩
  iapply (load_then c E arg1 s.x1 s.v16 rfl)
  isplitl [H1]; · iexact H1
  iintro H1
  iapply (load_then c E arg12 (e) _ rfl)
  isplitl [H12]; · iexact H12
  iintro H12
  iapply (store_then c E arg12 (e) s.e_1 (put_rows e _ _ he))
  isplitl [H12]; · iexact H12
  iintro H12
  iapply (load_then c E arg4 s.x4 s.v22 rfl)
  isplitl [H4]; · iexact H4
  iintro H4
  iapply (load_then c E arg12 s.e_1 s.v24 rfl)
  isplitl [H12]; · iexact H12
  iintro H12
  iapply (load_then c E arg4 s.x4 s.v28 rfl)
  isplitl [H4]; · iexact H4
  iintro H4
  iapply (load_then c E arg12 s.e_1 s.v30 rfl)
  isplitl [H12]; · iexact H12
  iintro H12
  iapply (load_then c E arg4 s.x4 s.v34 rfl)
  isplitl [H4]; · iexact H4
  iintro H4
  iapply (load_then c E arg12 s.e_1 s.v36 rfl)
  isplitl [H12]; · iexact H12
  iintro H12
  iapply (load_then c E arg4 s.x4 s.v40 rfl)
  isplitl [H4]; · iexact H4
  iintro H4
  iapply (load_then c E arg12 s.e_1 s.v42 rfl)
  isplitl [H12]; · iexact H12
  iintro H12
  iapply (load_then c E arg12 s.e_1 s.v46 rfl)
  isplitl [H12]; · iexact H12
  iintro H12
  iapply (ret_then c E ⟨s.v14, s.v45, s.v46⟩ _ rfl K)
  iapply Hk
  isplitl [H1]; · iexact H1
  isplitl [H4]; · iexact H4
  iexact H12

set_option maxHeartbeats 1000000 in
/-- The trip's part 2. -/
theorem part2_run (s : St F) (E : Set ℕ) (K : (Σ' (_ : FVec F S128x512 .f32) (_ : FVec F S128x512 .bf16) (_ : FVec F S128x512 .bf16) (_ : FVec F S512x128 .f32) (_ : FVec F S128x128 .f32) (_ : Vec F S128x128 .bf16) (_ : FVec F S128x128 .bf16) (_ : FVec F S128x128 .bf16), FVec F S128x128 .f32) → sProp (MT nD τ sig Unit (Elt F) ℕ (UR sig nD τ) ℕ)) :
    iprop(owns (c : Thread nD τ) arg3 fullShare s.x3 ∗ owns (c : Thread nD τ) arg5 fullShare s.x5 ∗ owns (c : Thread nD τ) arg7 fullShare s.x7 ∗ owns (c : Thread nD τ) arg12 fullShare s.e_1
        ∗ (iprop(owns (c : Thread nD τ) arg3 fullShare s.x3 ∗ owns (c : Thread nD τ) arg5 fullShare s.x5 ∗ owns (c : Thread nD τ) arg7 fullShare s.x7 ∗ owns (c : Thread nD τ) arg12 fullShare s.e_2) -∗ K ⟨s.v52, s.v56, s.v57, s.v58, s.v84, s.v85, s.v86, s.v89, s.v91⟩))
      ⊢ wp frame (wpE (defs₀ (F := F)) Variants.none c none) E (k0_part2 i arg1 harg1 arg2 harg2 arg3 harg3 arg4 harg4 arg5 harg5 arg6 harg6 arg7 harg7 arg8 harg8 arg9 harg9 arg10 harg10 arg11 harg11 arg12 harg12 s.k s.v14 s.v45 s.v46) K := by
  rw [k0_part2_eq_skeleton]; unfold k0_part2_skel
  iintro ⟨H3, H5, H7, H12, Hk⟩
  iapply (load_then c E arg12 s.e_1 s.v47 rfl)
  isplitl [H12]; · iexact H12
  iintro H12
  iapply (store_then c E arg12 s.e_1 s.e_2 rfl)
  isplitl [H12]; · iexact H12
  iintro H12
  iapply (load_then c E arg3 s.x3 s.v60 rfl)
  isplitl [H3]; · iexact H3
  iintro H3
  iapply (load_then c E arg5 s.x5 s.v61 rfl)
  isplitl [H5]; · iexact H5
  iintro H5
  iapply (load_then c E arg7 s.x7 s.v85 rfl)
  isplitl [H7]; · iexact H7
  iintro H7
  iapply (ret_then c E ⟨s.v52, s.v56, s.v57, s.v58, s.v84, s.v85, s.v86, s.v89, s.v91⟩ _ rfl K)
  iapply Hk
  isplitl [H3]; · iexact H3
  isplitl [H5]; · iexact H5
  isplitl [H7]; · iexact H7
  iexact H12

set_option maxHeartbeats 1000000 in
/-- The trip's part 3. -/
theorem part3_run (s : St F) (E : Set ℕ) (K : (Σ' (_ : FVec F S128x128 .f32) (_ : FVec F S8x128 .f32) (_ : FVec F S8x128 .f32) (_ : IVec S128x128 1) (_ : IVec S128x384 1) (_ : FVec F S128x128 .bf16) (_ : FVec F S128x128 .bf16) (_ : IVec S256x128 32), IVec S256x128 1) → sProp (MT nD τ sig Unit (Elt F) ℕ (UR sig nD τ) ℕ)) :
    iprop(owns (c : Thread nD τ) arg8 fullShare s.x8
        ∗ (iprop(owns (c : Thread nD τ) arg8 fullShare s.x8) -∗ K ⟨s.v97, s.v99, s.v111, s.v114, s.v117, s.v124, s.v130, s.v131, s.v134⟩))
      ⊢ wp frame (wpE (defs₀ (F := F)) Variants.none c none) E (k0_part3 i arg1 harg1 arg2 harg2 arg3 harg3 arg4 harg4 arg5 harg5 arg6 harg6 arg7 harg7 arg8 harg8 arg9 harg9 arg10 harg10 arg11 harg11 arg12 harg12 s.v84 s.v85 s.v86 s.v89 s.v91) K := by
  rw [k0_part3_eq_skeleton]; unfold k0_part3_skel
  iintro ⟨H8, Hk⟩
  iapply (load_then c E arg8 s.x8 s.v112 rfl)
  isplitl [H8]; · iexact H8
  iintro H8
  dsimp only
  iapply (ret_then c E ⟨s.v97, s.v99, s.v111, s.v114, s.v117, s.v124, s.v130, s.v131, s.v134⟩ _ rfl K)
  iapply Hk
  iexact H8

set_option maxHeartbeats 1000000 in
/-- The trip's part 4. -/
theorem part4_run (s : St F) (E : Set ℕ) (K : (Σ' (_ : FVec F S256x128 .bf16) (_ : Vec F S128x384 .bf16) (_ : FVec F S128x384 .bf16) (_ : Vec F S1x128 .f32) (_ : FVec F S128x128 .bf16) (_ : FVec F S128x128 .bf16) (_ : FVec F S128x128 .f32) (_ : FVec F S1x1 .f32), FVec F S1x128 .f32) → sProp (MT nD τ sig Unit (Elt F) ℕ (UR sig nD τ) ℕ)) :
    iprop(owns (c : Thread nD τ) arg2 fullShare s.x2 ∗ owns (c : Thread nD τ) arg11 fullShare s.m
        ∗ (iprop(owns (c : Thread nD τ) arg2 fullShare s.x2 ∗ owns (c : Thread nD τ) arg11 fullShare s.m) -∗ K ⟨s.v142, s.v144, s.v145, s.v151, s.v172, s.v175, s.v178, s.v179, s.v182⟩))
      ⊢ wp frame (wpE (defs₀ (F := F)) Variants.none c none) E (k0_part4 i arg1 harg1 arg2 harg2 arg3 harg3 arg4 harg4 arg5 harg5 arg6 harg6 arg7 harg7 arg8 harg8 arg9 harg9 arg10 harg10 arg11 harg11 arg12 harg12 s.k s.v14 s.v52 s.v56 s.v57 s.v97 s.v99 s.v111 s.v114 s.v131 s.v134) K := by
  rw [k0_part4_eq_skeleton]; unfold k0_part4_skel
  iintro ⟨H2, H11, Hk⟩
  iapply (load_then c E arg2 s.x2 s.v144 rfl)
  isplitl [H2]; · iexact H2
  iintro H2
  iapply (load_then c E arg11 s.m s.v151 rfl)
  isplitl [H11]; · iexact H11
  iintro H11
  iapply (ret_then c E ⟨s.v142, s.v144, s.v145, s.v151, s.v172, s.v175, s.v178, s.v179, s.v182⟩ _ rfl K)
  iapply Hk
  isplitl [H2]; · iexact H2
  iexact H11

set_option maxHeartbeats 1000000 in
/-- The trip's part 5. -/
theorem part5_run (s : St F) (E : Set ℕ) (K : (Σ' (_ : FVec F S1x128 .f32) (_ : FVec F S128x128 .bf16) (_ : FVec F S1x128 .f32) (_ : FVec F S1x128 .f32) (_ : Vec F S1x128 .f32) (_ : FVec F S128x128 .f32) (_ : FVec F S128x128 .bf16) (_ : FVec F S128x128 .bf16), FVec F S128x128 .f32) → sProp (MT nD τ sig Unit (Elt F) ℕ (UR sig nD τ) ℕ)) :
    iprop(owns (c : Thread nD τ) arg11 fullShare s.m
        ∗ (iprop(owns (c : Thread nD τ) arg11 fullShare s.m_1) -∗ K ⟨s.v194, s.v198, s.v205, s.v206, s.v207, s.v219, s.v228, s.v231, s.v232⟩))
      ⊢ wp frame (wpE (defs₀ (F := F)) Variants.none c none) E (k0_part5 i arg1 harg1 arg2 harg2 arg3 harg3 arg4 harg4 arg5 harg5 arg6 harg6 arg7 harg7 arg8 harg8 arg9 harg9 arg10 harg10 arg11 harg11 arg12 harg12 s.v52 s.v56 s.v57 s.v58 s.v97 s.v99 s.v111 s.v114 s.v151 s.v179 s.v182) K := by
  rw [k0_part5_eq_skeleton]; unfold k0_part5_skel
  iintro ⟨H11, Hk⟩
  iapply (load_then c E arg11 s.m s.v199 rfl)
  isplitl [H11]; · iexact H11
  iintro H11
  iapply (store_then c E arg11 s.m s.m_1 rfl)
  isplitl [H11]; · iexact H11
  iintro H11
  iapply (load_then c E arg11 s.m_1 s.v207 rfl)
  isplitl [H11]; · iexact H11
  iintro H11
  iapply (ret_then c E ⟨s.v194, s.v198, s.v205, s.v206, s.v207, s.v219, s.v228, s.v231, s.v232⟩ _ rfl K)
  iapply Hk
  iexact H11

set_option maxHeartbeats 1000000 in
/-- The trip's part 6. -/
theorem part6_run (s : St F) (E : Set ℕ) (K : (Σ' (_ : FVec F S1x128 .f32) (_ : FVec F S128x128 .bf16) (_ : FVec F S256x512 .f32) (_ : Vec F S128x384 .bf16) (_ : FVec F S128x384 .bf16) (_ : FVec F S128x384 .f32) (_ : FVec F S128x384 .f32) (_ : FVec F S128x1 .f32) (_ : FVec F S128x1 .f32) (_ : IVec S128x128 32), BitVec 32) → sProp (MT nD τ sig Unit (Elt F) ℕ (UR sig nD τ) ℕ)) :
    iprop(owns (c : Thread nD τ) arg10 fullShare s.c ∗ owns (c : Thread nD τ) arg11 fullShare s.m_1
        ∗ (iprop(owns (c : Thread nD τ) arg10 fullShare s.c ∗ owns (c : Thread nD τ) arg11 fullShare s.m_2) -∗ K ⟨s.v250, s.v254, s.v259, s.v261, s.v262, s.v268, s.v279, s.v280, s.v281, s.v282, 64#32⟩))
      ⊢ wp frame (wpE (defs₀ (F := F)) Variants.none c none) E (k0_part6 i arg1 harg1 arg2 harg2 arg3 harg3 arg4 harg4 arg5 harg5 arg6 harg6 arg7 harg7 arg8 harg8 arg9 harg9 arg10 harg10 arg11 harg11 arg12 harg12 s.v58 s.v117 s.v142 s.v144 s.v145 s.v172 s.v175 s.v178 s.v205 s.v206 s.v207 s.v219 s.v228 s.v231 s.v232) K := by
  rw [k0_part6_eq_skeleton]; unfold k0_part6_skel
  iintro ⟨H10, H11, Hk⟩
  iapply (load_then c E arg11 s.m_1 s.v255 rfl)
  isplitl [H11]; · iexact H11
  iintro H11
  iapply (store_then c E arg11 s.m_1 s.m_2 rfl)
  isplitl [H11]; · iexact H11
  iintro H11
  iapply (load_then c E arg10 s.c s.v258 rfl)
  isplitl [H10]; · iexact H10
  iintro H10
  dsimp only
  iapply (ret_then c E ⟨s.v250, s.v254, s.v259, s.v261, s.v262, s.v268, s.v279, s.v280, s.v281, s.v282, 64#32⟩ _ rfl K)
  iapply Hk
  isplitl [H10]; · iexact H10
  iexact H11

set_option maxHeartbeats 1000000 in
/-- The trip's part 7. -/
theorem part7_run (s : St F) (E : Set ℕ) (K : (Σ' (_ : FVec F S128x384 .f32) (_ : FVec F S128x384 .f32) (_ : FVec F S128x1 .f32), FVec F S128x1 .f32) → sProp (MT nD τ sig Unit (Elt F) ℕ (UR sig nD τ) ℕ)) :
    iprop(owns (c : Thread nD τ) arg2 fullShare s.x2 ∗ owns (c : Thread nD τ) arg10 fullShare s.c
        ∗ (iprop(owns (c : Thread nD τ) arg2 fullShare s.x2 ∗ owns (c : Thread nD τ) arg10 fullShare s.c_1) -∗ K ⟨s.v293, s.v313, s.v324, s.v330⟩))
      ⊢ wp frame (wpE (defs₀ (F := F)) Variants.none c none) E (k0_part7 i arg1 harg1 arg2 harg2 arg3 harg3 arg4 harg4 arg5 harg5 arg6 harg6 arg7 harg7 arg8 harg8 arg9 harg9 arg10 harg10 arg11 harg11 arg12 harg12 s.k s.v14 s.v124 s.v130 s.v194 s.v198 s.v250 s.v254 s.v259 s.v261 s.v262 s.v268 s.v279 s.v280 s.v281 s.v282 64#32) K := by
  rw [k0_part7_eq_skeleton]; unfold k0_part7_skel
  iintro ⟨H2, H10, Hk⟩
  iapply (load_then c E arg10 s.c s.v308 rfl)
  isplitl [H10]; · iexact H10
  iintro H10
  iapply (store_then c E arg10 s.c s.c_1 rfl)
  isplitl [H10]; · iexact H10
  iintro H10
  iapply (load_then c E arg2 s.x2 s.v312 rfl)
  isplitl [H2]; · iexact H2
  iintro H2
  iapply (ret_then c E ⟨s.v293, s.v313, s.v324, s.v330⟩ _ rfl K)
  iapply Hk
  isplitl [H2]; · iexact H2
  iexact H10

set_option maxHeartbeats 1000000 in
/-- The trip's part 8. -/
theorem part8_run (s : St F) (E : Set ℕ) (K : (Σ' (_ : Vec F S128x384 .bf16) (_ : FVec F S128x384 .bf16) (_ : FVec F S1x128 .f32) (_ : FVec F S1x128 .f32) (_ : Vec F S1x128 .f32) (_ : FVec F S128x128 .f32), FVec F S128x128 .f32) → sProp (MT nD τ sig Unit (Elt F) ℕ (UR sig nD τ) ℕ)) :
    iprop(owns (c : Thread nD τ) arg2 fullShare s.x2 ∗ owns (c : Thread nD τ) arg6 fullShare s.x6 ∗ owns (c : Thread nD τ) arg9 fullShare (o) ∗ owns (c : Thread nD τ) arg11 fullShare s.m_2
        ∗ (iprop(owns (c : Thread nD τ) arg2 fullShare s.x2 ∗ owns (c : Thread nD τ) arg6 fullShare s.x6 ∗ owns (c : Thread nD τ) arg9 fullShare (VecWindow.put o (k0_off5 s.k) S128x384.size s.v360) ∗ owns (c : Thread nD τ) arg11 fullShare s.m_2) -∗ K ⟨s.v361, s.v362, s.v366, s.v367, s.v368, s.v374, s.v376⟩))
      ⊢ wp frame (wpE (defs₀ (F := F)) Variants.none c none) E (k0_part8 i arg1 harg1 arg2 harg2 arg3 harg3 arg4 harg4 arg5 harg5 arg6 harg6 arg7 harg7 arg8 harg8 arg9 harg9 arg10 harg10 arg11 harg11 arg12 harg12 s.k s.v14 s.v97 s.v99 s.v111 s.v114 s.v293 s.v313 s.v324 s.v330) K := by
  rw [k0_part8_eq_skeleton]; unfold k0_part8_skel
  iintro ⟨H2, H6, H9, H11, Hk⟩
  iapply (load_then c E arg6 s.x6 s.v351 rfl)
  isplitl [H6]; · iexact H6
  iintro H6
  iapply (load_then c E arg9 (o) _ rfl)
  isplitl [H9]; · iexact H9
  iintro H9
  iapply (store_then c E arg9 (o) (VecWindow.put o (k0_off5 s.k) S128x384.size s.v360) rfl)
  isplitl [H9]; · iexact H9
  iintro H9
  iapply (load_then c E arg2 s.x2 s.v361 rfl)
  isplitl [H2]; · iexact H2
  iintro H2
  iapply (load_then c E arg11 s.m_2 s.v368 rfl)
  isplitl [H11]; · iexact H11
  iintro H11
  iapply (ret_then c E ⟨s.v361, s.v362, s.v366, s.v367, s.v368, s.v374, s.v376⟩ _ rfl K)
  iapply Hk
  isplitl [H2]; · iexact H2
  isplitl [H6]; · iexact H6
  isplitl [H9]; · iexact H9
  iexact H11

set_option maxHeartbeats 1000000 in
/-- The trip's part 9. -/
theorem part9_run (s : St F) (E : Set ℕ) (K : (Σ' (_ : FVec F S128x128 .bf16) (_ : FVec F S128x128 .bf16) (_ : FVec F S128x128 .f32) (_ : FVec F S1x128 .f32) (_ : FVec F S128x128 .bf16) (_ : FVec F S128x128 .f32) (_ : FVec F S1x128 .f32) (_ : FVec F S1x128 .f32) (_ : Vec F S1x128 .f32) (_ : FVec F S128x128 .f32), FVec F S128x128 .f32) → sProp (MT nD τ sig Unit (Elt F) ℕ (UR sig nD τ) ℕ)) :
    iprop(owns (c : Thread nD τ) arg11 fullShare s.m_2
        ∗ (iprop(owns (c : Thread nD τ) arg11 fullShare s.m_3) -∗ K ⟨s.v389, s.v392, s.v395, s.v411, s.v415, s.v421, s.v422, s.v423, s.v424, s.v426, s.v427⟩))
      ⊢ wp frame (wpE (defs₀ (F := F)) Variants.none c none) E (k0_part9 i arg1 harg1 arg2 harg2 arg3 harg3 arg4 harg4 arg5 harg5 arg6 harg6 arg7 harg7 arg8 harg8 arg9 harg9 arg10 harg10 arg11 harg11 arg12 harg12 s.v52 s.v56 s.v57 s.v58 s.v97 s.v99 s.v111 s.v366 s.v367 s.v368 s.v374 s.v376) K := by
  rw [k0_part9_eq_skeleton]; unfold k0_part9_skel
  iintro ⟨H11, Hk⟩
  iapply (load_then c E arg11 s.m_2 s.v416 rfl)
  isplitl [H11]; · iexact H11
  iintro H11
  iapply (store_then c E arg11 s.m_2 s.m_3 rfl)
  isplitl [H11]; · iexact H11
  iintro H11
  iapply (load_then c E arg11 s.m_3 s.v424 rfl)
  isplitl [H11]; · iexact H11
  iintro H11
  iapply (ret_then c E ⟨s.v389, s.v392, s.v395, s.v411, s.v415, s.v421, s.v422, s.v423, s.v424, s.v426, s.v427⟩ _ rfl K)
  iapply Hk
  iexact H11

set_option maxHeartbeats 1000000 in
/-- The trip's part 10. -/
theorem part10_run (s : St F) (E : Set ℕ) (K : (Σ' (_ : FVec F S128x128 .bf16) (_ : FVec F S128x128 .bf16) (_ : FVec F S128x128 .f32) (_ : FVec F S1x128 .f32) (_ : FVec F S128x128 .bf16), FVec F S256x512 .f32) → sProp (MT nD τ sig Unit (Elt F) ℕ (UR sig nD τ) ℕ)) :
    iprop(owns (c : Thread nD τ) arg10 fullShare s.c_1 ∗ owns (c : Thread nD τ) arg11 fullShare s.m_3
        ∗ (iprop(owns (c : Thread nD τ) arg10 fullShare s.c_1 ∗ owns (c : Thread nD τ) arg11 fullShare s.m_4) -∗ K ⟨s.v445, s.v448, s.v451, s.v467, s.v471, s.v476⟩))
      ⊢ wp frame (wpE (defs₀ (F := F)) Variants.none c none) E (k0_part10 i arg1 harg1 arg2 harg2 arg3 harg3 arg4 harg4 arg5 harg5 arg6 harg6 arg7 harg7 arg8 harg8 arg9 harg9 arg10 harg10 arg11 harg11 arg12 harg12 s.v52 s.v56 s.v57 s.v58 s.v114 s.v421 s.v422 s.v423 s.v424 s.v426 s.v427) K := by
  rw [k0_part10_eq_skeleton]; unfold k0_part10_skel
  iintro ⟨H10, H11, Hk⟩
  iapply (load_then c E arg11 s.m_3 s.v472 rfl)
  isplitl [H11]; · iexact H11
  iintro H11
  iapply (store_then c E arg11 s.m_3 s.m_4 rfl)
  isplitl [H11]; · iexact H11
  iintro H11
  iapply (load_then c E arg10 s.c_1 s.v475 rfl)
  isplitl [H10]; · iexact H10
  iintro H10
  iapply (ret_then c E ⟨s.v445, s.v448, s.v451, s.v467, s.v471, s.v476⟩ _ rfl K)
  iapply Hk
  isplitl [H10]; · iexact H10
  iexact H11

set_option maxHeartbeats 1000000 in
/-- The trip's part 11. -/
theorem part11_run (s : St F) (E : Set ℕ) (K : FVec F S128x384 .f32 → sProp (MT nD τ sig Unit (Elt F) ℕ (UR sig nD τ) ℕ)) :
    iprop(owns (c : Thread nD τ) arg10 fullShare s.c_1
        ∗ (iprop(owns (c : Thread nD τ) arg10 fullShare s.c_2) -∗ K s.v510))
      ⊢ wp frame (wpE (defs₀ (F := F)) Variants.none c none) E (k0_part11 i arg1 harg1 arg2 harg2 arg3 harg3 arg4 harg4 arg5 harg5 arg6 harg6 arg7 harg7 arg8 harg8 arg9 harg9 arg10 harg10 arg11 harg11 arg12 harg12 s.v117 s.v124 s.v130 s.v142 s.v361 s.v362 s.v389 s.v392 s.v395 s.v411 s.v415 s.v445 s.v448 s.v451 s.v467 s.v471 s.v476) K := by
  rw [k0_part11_eq_skeleton]; unfold k0_part11_skel
  iintro ⟨H10, Hk⟩
  iapply (load_then c E arg10 s.c_1 s.v525 rfl)
  isplitl [H10]; · iexact H10
  iintro H10
  iapply (store_then c E arg10 s.c_1 s.c_2 rfl)
  isplitl [H10]; · iexact H10
  iintro H10
  iapply (ret_then c E s.v510 _ rfl K)
  iapply Hk
  iexact H10

set_option maxHeartbeats 1000000 in
/-- The trip's part 12. -/
theorem part12_run (s : St F) (E : Set ℕ) (K : FVec F S128x384 .bf16 → sProp (MT nD τ sig Unit (Elt F) ℕ (UR sig nD τ) ℕ)) :
    iprop(owns (c : Thread nD τ) arg2 fullShare s.x2 ∗ owns (c : Thread nD τ) arg6 fullShare s.x6
        ∗ (iprop(owns (c : Thread nD τ) arg2 fullShare s.x2 ∗ owns (c : Thread nD τ) arg6 fullShare s.x6) -∗ K s.v574))
      ⊢ wp frame (wpE (defs₀ (F := F)) Variants.none c none) E (k0_part12 i arg1 harg1 arg2 harg2 arg3 harg3 arg4 harg4 arg5 harg5 arg6 harg6 arg7 harg7 arg8 harg8 arg9 harg9 arg10 harg10 arg11 harg11 arg12 harg12 s.k s.v14 s.v510) K := by
  rw [k0_part12_eq_skeleton]; unfold k0_part12_skel
  iintro ⟨H2, H6, Hk⟩
  iapply (load_then c E arg2 s.x2 s.v529 rfl)
  isplitl [H2]; · iexact H2
  iintro H2
  iapply (load_then c E arg6 s.x6 s.v568 rfl)
  isplitl [H6]; · iexact H6
  iintro H6
  iapply (ret_then c E s.v574 _ rfl K)
  iapply Hk
  isplitl [H2]; · iexact H2
  iexact H6

set_option maxHeartbeats 4000000 in
/-- A whole trip. -/
theorem trip_run (s : St F) (he : VecWindow.window e ![0, 0] S8x1024.size inb_S136x1024_S8x1024_0_0 = s.h) (E : Set ℕ) (K : Unit → sProp (MT nD τ sig Unit (Elt F) ℕ (UR sig nD τ) ℕ)) :
    iprop(owns (c : Thread nD τ) arg1 fullShare s.x1 ∗ owns (c : Thread nD τ) arg2 fullShare s.x2 ∗ owns (c : Thread nD τ) arg3 fullShare s.x3 ∗ owns (c : Thread nD τ) arg4 fullShare s.x4 ∗ owns (c : Thread nD τ) arg5 fullShare s.x5 ∗ owns (c : Thread nD τ) arg6 fullShare s.x6 ∗ owns (c : Thread nD τ) arg7 fullShare s.x7 ∗ owns (c : Thread nD τ) arg8 fullShare s.x8 ∗ owns (c : Thread nD τ) arg9 fullShare (o) ∗ owns (c : Thread nD τ) arg10 fullShare s.c ∗ owns (c : Thread nD τ) arg11 fullShare s.m ∗ owns (c : Thread nD τ) arg12 fullShare (e)
        ∗ (iprop(owns (c : Thread nD τ) arg1 fullShare s.x1 ∗ owns (c : Thread nD τ) arg2 fullShare s.x2 ∗ owns (c : Thread nD τ) arg3 fullShare s.x3 ∗ owns (c : Thread nD τ) arg4 fullShare s.x4 ∗ owns (c : Thread nD τ) arg5 fullShare s.x5 ∗ owns (c : Thread nD τ) arg6 fullShare s.x6 ∗ owns (c : Thread nD τ) arg7 fullShare s.x7 ∗ owns (c : Thread nD τ) arg8 fullShare s.x8 ∗ owns (c : Thread nD τ) arg9 fullShare (VecWindow.put (VecWindow.put o (k0_off5 s.k) S128x384.size s.v360) (k0_off8 s.k) S128x384.size s.v574) ∗ owns (c : Thread nD τ) arg10 fullShare s.c_2 ∗ owns (c : Thread nD τ) arg11 fullShare s.m_4 ∗ owns (c : Thread nD τ) arg12 fullShare s.e_2) -∗ K ⟨⟩))
      ⊢ wp frame (wpE (defs₀ (F := F)) Variants.none c none) E (k0_t1_body i arg1 harg1 arg2 harg2 arg3 harg3 arg4 harg4 arg5 harg5 arg6 harg6 arg7 harg7 arg8 harg8 arg9 harg9 arg10 harg10 arg11 harg11 arg12 harg12 s.k ⟨⟩) K := by
  unfold k0_t1_body
  iintro ⟨H1, H2, H3, H4, H5, H6, H7, H8, H9, H10, H11, H12, Hk⟩
  rw [wp_bind]
  iapply (part1_run c i arg1 harg1 arg2 harg2 arg3 harg3 arg4 harg4 arg5 harg5 arg6 harg6 arg7 harg7 arg8 harg8 arg9 harg9 arg10 harg10 arg11 harg11 arg12 harg12 e s he E _)
  isplitl [H1]; · iexact H1
  isplitl [H4]; · iexact H4
  isplitl [H12]; · iexact H12
  iintro ⟨H1, H4, H12⟩
  rw [wp_bind]
  iapply (part2_run c i arg1 harg1 arg2 harg2 arg3 harg3 arg4 harg4 arg5 harg5 arg6 harg6 arg7 harg7 arg8 harg8 arg9 harg9 arg10 harg10 arg11 harg11 arg12 harg12 s E _)
  isplitl [H3]; · iexact H3
  isplitl [H5]; · iexact H5
  isplitl [H7]; · iexact H7
  isplitl [H12]; · iexact H12
  iintro ⟨H3, H5, H7, H12⟩
  rw [wp_bind]
  iapply (part3_run c i arg1 harg1 arg2 harg2 arg3 harg3 arg4 harg4 arg5 harg5 arg6 harg6 arg7 harg7 arg8 harg8 arg9 harg9 arg10 harg10 arg11 harg11 arg12 harg12 s E _)
  isplitl [H8]; · iexact H8
  iintro H8
  rw [wp_bind]
  iapply (part4_run c i arg1 harg1 arg2 harg2 arg3 harg3 arg4 harg4 arg5 harg5 arg6 harg6 arg7 harg7 arg8 harg8 arg9 harg9 arg10 harg10 arg11 harg11 arg12 harg12 s E _)
  isplitl [H2]; · iexact H2
  isplitl [H11]; · iexact H11
  iintro ⟨H2, H11⟩
  rw [wp_bind]
  iapply (part5_run c i arg1 harg1 arg2 harg2 arg3 harg3 arg4 harg4 arg5 harg5 arg6 harg6 arg7 harg7 arg8 harg8 arg9 harg9 arg10 harg10 arg11 harg11 arg12 harg12 s E _)
  isplitl [H11]; · iexact H11
  iintro H11
  rw [wp_bind]
  iapply (part6_run c i arg1 harg1 arg2 harg2 arg3 harg3 arg4 harg4 arg5 harg5 arg6 harg6 arg7 harg7 arg8 harg8 arg9 harg9 arg10 harg10 arg11 harg11 arg12 harg12 s E _)
  isplitl [H10]; · iexact H10
  isplitl [H11]; · iexact H11
  iintro ⟨H10, H11⟩
  rw [wp_bind]
  iapply (part7_run c i arg1 harg1 arg2 harg2 arg3 harg3 arg4 harg4 arg5 harg5 arg6 harg6 arg7 harg7 arg8 harg8 arg9 harg9 arg10 harg10 arg11 harg11 arg12 harg12 s E _)
  isplitl [H2]; · iexact H2
  isplitl [H10]; · iexact H10
  iintro ⟨H2, H10⟩
  rw [wp_bind]
  iapply (part8_run c i arg1 harg1 arg2 harg2 arg3 harg3 arg4 harg4 arg5 harg5 arg6 harg6 arg7 harg7 arg8 harg8 arg9 harg9 arg10 harg10 arg11 harg11 arg12 harg12 o s E _)
  isplitl [H2]; · iexact H2
  isplitl [H6]; · iexact H6
  isplitl [H9]; · iexact H9
  isplitl [H11]; · iexact H11
  iintro ⟨H2, H6, H9, H11⟩
  rw [wp_bind]
  iapply (part9_run c i arg1 harg1 arg2 harg2 arg3 harg3 arg4 harg4 arg5 harg5 arg6 harg6 arg7 harg7 arg8 harg8 arg9 harg9 arg10 harg10 arg11 harg11 arg12 harg12 s E _)
  isplitl [H11]; · iexact H11
  iintro H11
  rw [wp_bind]
  iapply (part10_run c i arg1 harg1 arg2 harg2 arg3 harg3 arg4 harg4 arg5 harg5 arg6 harg6 arg7 harg7 arg8 harg8 arg9 harg9 arg10 harg10 arg11 harg11 arg12 harg12 s E _)
  isplitl [H10]; · iexact H10
  isplitl [H11]; · iexact H11
  iintro ⟨H10, H11⟩
  rw [wp_bind]
  iapply (part11_run c i arg1 harg1 arg2 harg2 arg3 harg3 arg4 harg4 arg5 harg5 arg6 harg6 arg7 harg7 arg8 harg8 arg9 harg9 arg10 harg10 arg11 harg11 arg12 harg12 s E _)
  isplitl [H10]; · iexact H10
  iintro H10
  rw [wp_bind]
  iapply (part12_run c i arg1 harg1 arg2 harg2 arg3 harg3 arg4 harg4 arg5 harg5 arg6 harg6 arg7 harg7 arg8 harg8 arg9 harg9 arg10 harg10 arg11 harg11 arg12 harg12 s E _)
  isplitl [H2]; · iexact H2
  isplitl [H6]; · iexact H6
  iintro ⟨H2, H6⟩
  iapply (load_then c E arg9 (VecWindow.put o (k0_off5 s.k) S128x384.size s.v360) _ rfl)
  isplitl [H9]; · iexact H9
  iintro H9
  iapply (store_then c E arg9 (VecWindow.put o (k0_off5 s.k) S128x384.size s.v360) (VecWindow.put (VecWindow.put o (k0_off5 s.k) S128x384.size s.v360) (k0_off8 s.k) S128x384.size s.v574) rfl)
  isplitl [H9]; · iexact H9
  iintro H9
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Cert.MlstmIdeal.Whole

end
-- ==== Proof.MlstmLoop.lean ====
/- The recurrence, one grid point: the chunks one after the other, from empty memory, and what the result block holds
   after them. -/
module

public import proofs.«01_k».proof.Proof.MlstmRun

@[expose] public section

set_option maxRecDepth 16384

noncomputable section

namespace Cert.MlstmIdeal.Whole

open Cert.MlstmIdeal Cert.MlstmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

/-- The eight blocks a grid point reads. -/
structure Blk (F : FTy → Type) [FloatOps F] where
  x1 : Vec F S2048x1024 .bf16
  x2 : Vec F S2048x1536 .bf16
  x3 : Vec F S2048x128 .f32
  x4 : Vec F S4x1024 .f32
  x5 : Vec F S1x128 .f32
  x6 : Vec F S1x768 .f32
  x7 : Vec F S128x128 .bf16
  x8 : Vec F S128x128 .i32

/-- What is kept from chunk to chunk: the memory, the running maxima, the last eight rows. -/
structure Mem (F : FTy → Type) [FloatOps F] where
  c : Vec F S2x256x512 .f32
  m : Vec F S8x128 .f32
  h : Vec F S8x1024 .f32

/-- There are sixteen chunks. -/
theorem trips_eq : k0_t1_loop.trips = 16 := by decide +kernel

/-- A chunk's start, from what is kept. -/
def Blk.at (b : Blk F) (k : Fin k0_t1_loop.trips) (q : Mem F) : St F :=
  ⟨k, b.x1, b.x2, b.x3, b.x4, b.x5, b.x6, b.x7, b.x8, q.c, q.m, q.h⟩

/-- What is kept after `n` chunks. -/
def Blk.mem (b : Blk F) : ℕ → Mem F
  | 0 => ⟨k0_pay1, k0_pay2, k0_pay3⟩
  | n + 1 => if h : n < k0_t1_loop.trips then
      ⟨(b.at ⟨n, h⟩ (b.mem n)).c_2, (b.at ⟨n, h⟩ (b.mem n)).m_4, (b.at ⟨n, h⟩ (b.mem n)).h_1⟩ else b.mem n

/-- Chunk `k`. -/
def Blk.st (b : Blk F) (k : Fin k0_t1_loop.trips) : St F := b.at k (b.mem k.val)

theorem mem_succ (b : Blk F) (k : Fin k0_t1_loop.trips) :
    b.mem (k.val + 1) = ⟨(b.st k).c_2, (b.st k).m_4, (b.st k).h_1⟩ := by
  show (if h : k.val < k0_t1_loop.trips then _ else _) = _
  rw [dif_pos k.isLt]; rfl

/-- The chunk a row belongs to, and the row within it. -/
def chunkOf (r : Fin 2048) : Fin k0_t1_loop.trips := ⟨r.val / 128, by have := r.isLt; rw [trips_eq]; omega⟩
def rowOf (r : Fin 2048) : Fin 128 := ⟨r.val % 128, Nat.mod_lt _ (by decide)⟩

/-- The result block: row by row the row of its chunk, the first 384 columns from the first pair of heads, the others from the second. -/
def Blk.out (b : Blk F) : Vec F S2048x768 .bf16 := fun y =>
  if h : (y 1).val < 384 then (b.st (chunkOf (y 0))).v360 (fun a => match a with | ⟨0, _⟩ => rowOf (y 0) | ⟨1, _⟩ => ⟨(y 1).val, h⟩)
  else (b.st (chunkOf (y 0))).v574 (fun a => match a with
    | ⟨0, _⟩ => rowOf (y 0) | ⟨1, _⟩ => ⟨(y 1).val - 384, by have : (y 1).val < 768 := (y 1).isLt; show _ < 384; omega⟩)

/-- The first `n` chunks' rows of the result block are in place. -/
def Blk.upto (b : Blk F) (n : ℕ) (o : Vec F S2048x768 .bf16) : Prop := ∀ y, (y 0).val < 128 * n → o y = b.out y

/-- A chunk's two stores put its rows in place. -/
theorem upto_succ (b : Blk F) (k : Fin k0_t1_loop.trips) (o : Vec F S2048x768 .bf16) (h : b.upto k.val o) :
    b.upto (k.val + 1) (VecWindow.put (VecWindow.put o (k0_off5 k) S128x384.size (b.st k).v360) (k0_off8 k) S128x384.size (b.st k).v574) := by
  intro y hy
  have y0 : (y 0).val < 2048 := (y 0).isLt
  have y1 : (y 1).val < 768 := (y 1).isLt
  rw [k0_off5_eq, k0_off8_eq]
  by_cases g : (y 0).val < 128 * k.val
  · unfold VecWindow.put
    rw [dif_neg (fun q => by have := (q 0).1; simp at this; omega), dif_neg (fun q => by have := (q 0).1; simp at this; omega)]
    exact h y g
  · have ek : chunkOf (y 0) = k := Fin.ext (by show (y 0).val / 128 = k.val; omega)
    unfold Blk.out; rw [ek]
    by_cases g1 : (y 1).val < 384
    · unfold VecWindow.put
      rw [dif_neg (fun q => by have := (q 1).1; simp at this; omega), dif_pos (fun a => by
        match a with
        | ⟨0, _⟩ => exact ⟨by show 128 * k.val ≤ (y 0).val; omega, by show (y 0).val < 128 * k.val + 128; omega⟩
        | ⟨1, _⟩ => exact ⟨Nat.zero_le _, by show (y 1).val < 0 + 384; omega⟩), dif_pos g1]
      congr 1; funext a; apply Fin.ext
      match a with
      | ⟨0, _⟩ => show (y 0).val - 128 * k.val = (y 0).val % 128; omega
      | ⟨1, _⟩ => rfl
    · unfold VecWindow.put
      rw [dif_pos (fun a => by
        match a with
        | ⟨0, _⟩ => exact ⟨by show 128 * k.val ≤ (y 0).val; omega, by show (y 0).val < 128 * k.val + 128; omega⟩
        | ⟨1, _⟩ => exact ⟨by show 384 ≤ (y 1).val; omega, by show (y 1).val < 384 + 384; omega⟩), dif_neg g1]
      congr 1; funext a; apply Fin.ext
      match a with
      | ⟨0, _⟩ => show (y 0).val - 128 * k.val = (y 0).val % 128; omega
      | ⟨1, _⟩ => rfl

/-- After the last chunk the whole block is in place. -/
theorem upto_last (b : Blk F) (o : Vec F S2048x768 .bf16) (h : b.upto k0_t1_loop.trips o) : o = b.out :=
  funext fun y => h y (by have : (y 0).val < 2048 := (y 0).isLt; rw [trips_eq]; omega)

variable (c : Dev nD) (i : grid0.Coords)
variable (arg1 : Memref sig .tc .vmem S2048x1024 .bf16) (harg1 : arg1.IsWhole)
variable (arg2 : Memref sig .tc .vmem S2048x1536 .bf16) (harg2 : arg2.IsWhole)
variable (arg3 : Memref sig .tc .vmem S2048x128 .f32) (harg3 : arg3.IsWhole)
variable (arg4 : Memref sig .tc .vmem S4x1024 .f32) (harg4 : arg4.IsWhole)
variable (arg5 : Memref sig .tc .vmem S1x128 .f32) (harg5 : arg5.IsWhole)
variable (arg6 : Memref sig .tc .vmem S1x768 .f32) (harg6 : arg6.IsWhole)
variable (arg7 : Memref sig .tc .vmem S128x128 .bf16) (harg7 : arg7.IsWhole)
variable (arg8 : Memref sig .tc .vmem S128x128 .i32) (harg8 : arg8.IsWhole)
variable (arg9 : Memref sig .tc .vmem S2048x768 .bf16) (harg9 : arg9.IsWhole)
variable (arg10 : Memref sig .tc .vmem S2x256x512 .f32) (harg10 : arg10.IsWhole)
variable (arg11 : Memref sig .tc .vmem S8x128 .f32) (harg11 : arg11.IsWhole)
variable (arg12 : Memref sig .tc .vmem S136x1024 .f32) (harg12 : arg12.IsWhole)

/-- Between chunks. -/
def inv (b : Blk F) (n : ℕ) (_ : Unit) : sProp (MT nD τ sig Unit (Elt F) ℕ (UR sig nD τ) ℕ) :=
  iprop(owns (c : Thread nD τ) arg1 fullShare b.x1 ∗ owns (c : Thread nD τ) arg2 fullShare b.x2 ∗ owns (c : Thread nD τ) arg3 fullShare b.x3 ∗ owns (c : Thread nD τ) arg4 fullShare b.x4 ∗ owns (c : Thread nD τ) arg5 fullShare b.x5 ∗ owns (c : Thread nD τ) arg6 fullShare b.x6 ∗ owns (c : Thread nD τ) arg7 fullShare b.x7 ∗ owns (c : Thread nD τ) arg8 fullShare b.x8
    ∗ (∃ o : Vec F S2048x768 .bf16, iprop(⌜b.upto n o⌝ ∗ owns (c : Thread nD τ) arg9 fullShare o))
    ∗ owns (c : Thread nD τ) arg10 fullShare (b.mem n).c ∗ owns (c : Thread nD τ) arg11 fullShare (b.mem n).m
    ∗ (∃ e : Vec F S136x1024 .f32, iprop(⌜VecWindow.window (s := S136x1024) e ![0, 0] S8x1024.size inb_S136x1024_S8x1024_0_0 = (b.mem n).h⌝ ∗ owns (c : Thread nD τ) arg12 fullShare e)))

set_option maxHeartbeats 1000000 in
/-- A chunk keeps it. -/
theorem inv_step (b : Blk F) (E : Set ℕ) (k : Fin k0_t1_loop.trips) (u : Unit) :
    inv c arg1 arg2 arg3 arg4 arg5 arg6 arg7 arg8 arg9 arg10 arg11 arg12 b k.val u ⊢ wp frame (wpE (defs₀ (F := F)) Variants.none c none) E (k0_t1_body i arg1 harg1 arg2 harg2 arg3 harg3 arg4 harg4 arg5 harg5 arg6 harg6 arg7 harg7 arg8 harg8 arg9 harg9 arg10 harg10 arg11 harg11 arg12 harg12 k u)
      (inv c arg1 arg2 arg3 arg4 arg5 arg6 arg7 arg8 arg9 arg10 arg11 arg12 b (k.val + 1)) := by
  unfold inv
  rw [mem_succ]
  iintro ⟨H1, H2, H3, H4, H5, H6, H7, H8, ⟨%o, %ho, H9⟩, H10, H11, ⟨%e, %he, H12⟩⟩
  iapply (trip_run c i arg1 harg1 arg2 harg2 arg3 harg3 arg4 harg4 arg5 harg5 arg6 harg6 arg7 harg7 arg8 harg8 arg9 harg9 arg10 harg10 arg11 harg11 arg12 harg12 o e (b.st k) he E _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H1, H2, H3, H4, H5, H6, H7, H8, H9, H10, H11, H12⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _; isplitr; swap; · iexact H9
    ipureintro; exact upto_succ b k o ho
  isplitl [H10]; · iexact H10
  isplitl [H11]; · iexact H11
  iexists _; isplitr; swap; · iexact H12
  ipureintro
  exact VecWindow.window_put_same _ _ _ _ _

/-- A store of the buffer's own sizes leaves what was stored. -/
theorem put_whole {s : Shape} {α : Type} (x w : s.Idx → α) {off : Fin s.rank → ℕ} (h : ∀ a, off a = 0) :
    VecWindow.put x off s.size w = w := by
  funext y
  unfold VecWindow.put
  rw [dif_pos (fun a => ⟨by rw [h a]; exact Nat.zero_le _, by rw [h a, Nat.zero_add]; exact (y a).isLt⟩)]
  congr 1; funext a; apply Fin.ext
  show (y a).val - off a = (y a).val
  rw [h a]; rfl

set_option maxHeartbeats 1000000 in
/-- The body of a grid point: it empties what is kept, runs the chunks, and leaves the result block. -/
theorem point_run (b : Blk F) (E : Set ℕ) (K : PUnit → sProp (MT nD τ sig Unit (Elt F) ℕ (UR sig nD τ) ℕ)) :
    iprop(owns (c : Thread nD τ) arg1 fullShare b.x1 ∗ owns (c : Thread nD τ) arg2 fullShare b.x2 ∗ owns (c : Thread nD τ) arg3 fullShare b.x3 ∗ owns (c : Thread nD τ) arg4 fullShare b.x4 ∗ owns (c : Thread nD τ) arg5 fullShare b.x5 ∗ owns (c : Thread nD τ) arg6 fullShare b.x6 ∗ owns (c : Thread nD τ) arg7 fullShare b.x7 ∗ owns (c : Thread nD τ) arg8 fullShare b.x8
        ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg1 fullShare b.x1 ∗ owns (c : Thread nD τ) arg2 fullShare b.x2 ∗ owns (c : Thread nD τ) arg3 fullShare b.x3 ∗ owns (c : Thread nD τ) arg4 fullShare b.x4 ∗ owns (c : Thread nD τ) arg5 fullShare b.x5 ∗ owns (c : Thread nD τ) arg6 fullShare b.x6 ∗ owns (c : Thread nD τ) arg7 fullShare b.x7 ∗ owns (c : Thread nD τ) arg8 fullShare b.x8
          ∗ owns (c : Thread nD τ) arg9 fullShare b.out ∗ (∃ d, owns (c : Thread nD τ) arg10 fullShare d)
          ∗ (∃ d, owns (c : Thread nD τ) arg11 fullShare d) ∗ (∃ d, owns (c : Thread nD τ) arg12 fullShare d)) -∗ K ⟨⟩))
      ⊢ wp frame (wpE (defs₀ (F := F)) Variants.none c none) E (cc0_mlstm i arg1 harg1 arg2 harg2 arg3 harg3 arg4 harg4 arg5 harg5 arg6 harg6 arg7 harg7 arg8 harg8 arg9 harg9 arg10 harg10 arg11 harg11 arg12 harg12) K := by
  rw [cc0_mlstm_eq_skeleton]; unfold cc0_mlstm_skel
  iintro ⟨H1, H2, H3, H4, H5, H6, H7, H8, ⟨%o, H9⟩, ⟨%d10, H10⟩, ⟨%d11, H11⟩, ⟨%d12, H12⟩, Hk⟩
  iapply (load_then c E arg10 d10 _ rfl)
  isplitl [H10]; · iexact H10
  iintro H10
  iapply (store_then c E arg10 d10 k0_pay1 (put_whole d10 _ (by decide)))
  isplitl [H10]; · iexact H10
  iintro H10
  iapply (load_then c E arg11 d11 _ rfl)
  isplitl [H11]; · iexact H11
  iintro H11
  iapply (store_then c E arg11 d11 k0_pay2 (put_whole d11 _ (by decide)))
  isplitl [H11]; · iexact H11
  iintro H11
  iapply (load_then c E arg12 d12 _ rfl)
  isplitl [H12]; · iexact H12
  iintro H12
  iapply (store_then c E arg12 d12 _ rfl)
  isplitl [H12]; · iexact H12
  iintro H12
  rw [wp_bind]
  iapply (Scf.wp_for (M := (MT nD τ sig Unit (Elt F) ℕ (UR sig nD τ) ℕ)) frame (wpE (defs₀ (F := F)) Variants.none c none) E _ _ _ k0_t1_ok ⟨⟩ _
    (inv c arg1 arg2 arg3 arg4 arg5 arg6 arg7 arg8 arg9 arg10 arg11 arg12 b) (inv_step c i arg1 harg1 arg2 harg2 arg3 harg3 arg4 harg4 arg5 harg5 arg6 harg6 arg7 harg7 arg8 harg8 arg9 harg9 arg10 harg10 arg11 harg11 arg12 harg12 b E))
  isplitr [Hk]
  · unfold inv
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists _; isplitr; swap; · iexact H9
      ipureintro; intro y hy; exact absurd hy (by omega)
    isplitl [H10]; · iexact H10
    isplitl [H11]; · iexact H11
    iexists _; isplitr; swap; · iexact H12
    ipureintro
    exact VecWindow.window_put_same _ _ _ _ _
  iintro %acc Hi
  unfold inv
  icases Hi with ⟨H1, H2, H3, H4, H5, H6, H7, H8, ⟨%o, %ho, H9⟩, H10, H11, ⟨%e, %he, H12⟩⟩
  obtain rfl := upto_last b o ho
  iapply (ret_then c E ⟨⟩ _ rfl K)
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iexists _; iexact H12

end Cert.MlstmIdeal.Whole

end
-- ==== Proof.MlstmInv.lean ====
/- The recurrence, chunk after chunk: a block whose entries are real numbers keeps, after every chunk, the state, the
   running maxima and the last rows that the real sequences prescribe; so every row it stores is the heads' results. -/
module

public import proofs.«01_k».proof.Proof.MlstmTrip
public import proofs.«01_k».proof.Proof.Gen.MlstmIdeal.Skeleton
public import Idealize.ShloMosaic.Lib.Pipeline.ValueKit
public import Idealize.ShloMosaic.Lib.Pointwise
public import proofs.«01_k».proof.Proof.MlstmRow
public import proofs.«01_k».proof.Proof.MlstmGate
public import proofs.«01_k».proof.Proof.MlstmLoop

@[expose] public section

set_option maxRecDepth 16384

noncomputable section

open Idealize.ShloMosaic Idealize.ShloMosaic.TcCoe Idealize.SL.Sem
open scoped BigOperators

namespace Cert.MlstmIdeal.Whole

open Cert.MlstmIdeal Cert.MlstmIdeal.Gen Cert.Recurrence

/-- The blocks of a grid point hold the real rows `X`, weights `W`, gates `G` and values `V`, and the causal tables. -/
structure Fits (b : Blk Ideal) (X W G V : ℕ → ℕ → ℝ) : Prop where
  x1 : ∀ t c, b.x1 (ix2 t c) = (X t.val c.val : EReal)
  x2 : ∀ (t : Fin 2048) (j : Fin 768), b.x2 (ix2 t ⟨j.val, by omega⟩) = (V t.val j.val : EReal)
  x3 : ∀ t c, b.x3 (ix2 t c) + b.x5 (ix2 0 c) = (G t.val c.val : EReal)
  x4 : ∀ j c, b.x4 (ix2 j c) = (W j.val c.val : EReal)
  x7 : ∀ r x, b.x7 (ix2 r x) = ((if x.val ≤ r.val then 1 else 0 : ℝ) : EReal)
  x8 : ∀ r x, IntOp.cmpi CmpIPredicate.sge (b.x8 (ix2 r x)) 4294967295#32 = if x.val ≤ r.val then 1#1 else 0#1

/-- The named constants are the two logarithms. -/
theorem log2e_named : Named.named (F := Ideal) κ "log2e" (φ := .f32) 1069066811#32 = (((Real.log 2)⁻¹ : ℝ) : EReal) := rfl

/-- The named constants are the two logarithms. -/
theorem ln2_named : Named.named (F := Ideal) κ "ln2" (φ := .f32) 1060205080#32 = ((Real.log 2 : ℝ) : EReal) := rfl

/-- A window of 128 rows read at an entry. -/
theorem read_rows {N M : ℕ} {α : Type} (x : (⟨2, ![2048, N]⟩ : Shape).Idx → α) (off : Fin 2 → ℕ) (n q : ℕ)
    (h : ∀ a : Fin 2, off a + (⟨2, ![128, M]⟩ : Shape).size a ≤ (⟨2, ![2048, N]⟩ : Shape).size a) (e : off = ![n, q]) (r : Fin 128) (j : Fin M)
    (t : Fin 2048) (c : Fin N) (et : t.val = n + r.val) (ec : c.val = q + j.val) :
    VecWindow.window (s := ⟨2, ![2048, N]⟩) x off (⟨2, ![128, M]⟩ : Shape).size h (ix2 r j) = x (ix2 t c) := by
  subst e
  show x _ = x _
  congr 1; funext a; apply Fin.ext
  match a with
  | ⟨0, _⟩ => show n + 1 * r.val = t.val; omega
  | ⟨1, _⟩ => show q + 1 * j.val = c.val; omega

/-- What is kept before chunk `k`. -/
structure Kept (q : Mem Ideal) (g : Seq) (X : ℕ → ℕ → ℝ) (n : ℕ) : Prop where
  c : ∀ (p hh : Fin 2) (d : Fin 128) (j : Fin 512), q.c (ix3 p ⟨128 * hh.val + d.val, by omega⟩ j)
    = (g.st (2 * p + hh) p hh n d.val j.val : EReal)
  m : ∀ (h : Fin 4) (l : Fin 128), q.m (ix2 ⟨h.val, by omega⟩ l) = ((cum (g.a h) n + top (g.a h) (g.i h) n : ℝ) : EReal)
  h : ∀ r c, q.h (ix2 r c) = (pad X (n + r.val) c.val : EReal)

variable (b : Blk Ideal) (X W G V : ℕ → ℕ → ℝ) (F : Fits b X W G V)
include F

section Rows
variable (k : Fin k0_t1_loop.trips) (q : Mem Ideal) (K : Kept q (seqOf X W G V) X (128 * k.val))
include K

/-- The rows a chunk convolves: the eight kept and its own. -/
theorem joined (y : Fin 136) (c : Fin 1024) : (b.at k q).e_1 (ix2 y c) = (pad X (128 * k.val + y.val) c.val : EReal) := by
  have hk : k.val < 16 := trips_eq ▸ k.isLt
  unfold St.e_1 joinRows
  split_ifs with g
  · refine Eq.trans ?_ (K.h ⟨y.val, g⟩ c)
    show q.h _ = q.h _
    congr 1; funext a
    match a with
    | ⟨0, _⟩ => rfl
    | ⟨1, _⟩ => rfl
  · have g' : ¬ y.val < 8 := g
    have e : k0_pay4 (b.at k q).v16 (ix2 ⟨y.val - 8, by omega⟩ c) = (pad X (128 * k.val + y.val) c.val : EReal) := by
      pointwise [k0_pay4]
      unfold St.v16
      refine (read_rows (M := 1024) b.x1 _ (128 * k.val) 0 _ (k0_off1_eq k) _ _ ⟨128 * k.val + (y.val - 8), by omega⟩ c rfl (by simp)).trans ?_
      refine (F.x1 _ _).trans ?_
      unfold Cert.Recurrence.pad; rw [if_pos (by omega)]
      simp only
      rw [show 128 * k.val + (y.val - 8) = 128 * k.val + y.val - 8 by omega]
    refine Eq.trans ?_ e
    congr 1; funext a
    match a with
    | ⟨0, _⟩ => rfl
    | ⟨1, _⟩ => rfl

/-- A window of the joined rows. -/
theorem joined_at (off : ℕ) (h : ∀ a : Fin 2, (![off, 0] : Fin 2 → ℕ) a + S128x1024.size a ≤ S136x1024.size a) (r : Fin 128) (c : Fin 1024) :
    VecWindow.window (s := S136x1024) (b.at k q).e_1 ![off, 0] S128x1024.size h (ix2 r c) = (pad X (128 * k.val + r.val + off) c.val : EReal) := by
  have h0 : off + 128 ≤ 136 := h 0
  have hr := r.isLt
  refine Eq.trans ?_ ((joined b X W G V F k q K ⟨off + r.val, by omega⟩ c).trans (by simp only; rw [show 128 * k.val + (off + r.val) = 128 * k.val + r.val + off by omega]))
  show (b.at k q).e_1 _ = (b.at k q).e_1 _
  congr 1; funext a; apply Fin.ext
  match a with
  | ⟨0, _⟩ => show off + 1 * r.val = off + r.val; omega
  | ⟨1, _⟩ => show 0 + 1 * c.val = c.val; omega

/-- A row of the convolution's weights. -/
theorem weight_at (j : Fin 4) (h : ∀ a : Fin 2, (![j.val, 0] : Fin 2 → ℕ) a + S1x1024.size a ≤ S4x1024.size a) (c : Fin 1024) :
    VecWindow.window (s := S4x1024) (b.at k q).x4 ![j.val, 0] S1x1024.size h (ix2 0 c) = (W j.val c.val : EReal) := by
  refine Eq.trans ?_ (F.x4 j c)
  show b.x4 _ = b.x4 _
  congr 1; funext a; apply Fin.ext
  match a with
  | ⟨0, _⟩ => show j.val + 1 * 0 = j.val; omega
  | ⟨1, _⟩ => show 0 + 1 * c.val = c.val; omega

/-- The chunk's convolution. -/
theorem convolved (r : Fin 128) (c : Fin 1024) : (b.at k q).v45 (ix2 r c) = (conv X W (128 * k.val + r.val) c.val : EReal) := by
  have w0 : (b.at k q).v22 (ix2 0 c) = (W 0 c.val : EReal) := weight_at b X W G V F k q K 0 _ c
  have w1 : (b.at k q).v28 (ix2 0 c) = (W 1 c.val : EReal) := weight_at b X W G V F k q K 1 _ c
  have w2 : (b.at k q).v34 (ix2 0 c) = (W 2 c.val : EReal) := weight_at b X W G V F k q K 2 _ c
  have w3 : (b.at k q).v40 (ix2 0 c) = (W 3 c.val : EReal) := weight_at b X W G V F k q K 3 _ c
  have r0 : (b.at k q).v24 (ix2 r c) = _ := joined_at b X W G V F k q K 5 _ r c
  have r1 : (b.at k q).v30 (ix2 r c) = _ := joined_at b X W G V F k q K 6 _ r c
  have r2 : (b.at k q).v36 (ix2 r c) = _ := joined_at b X W G V F k q K 7 _ r c
  have r3 : (b.at k q).v42 (ix2 r c) = _ := joined_at b X W G V F k q K 8 _ r c
  pointwise [St.v45, k0_pay5]
  rw [w0, w1, w2, w3, r0, r1, r2, r3]
  simp only [← EReal.coe_mul, ← EReal.coe_add]
  rfl

/-- The rows kept for the next chunk. -/
theorem kept_rows (r : Fin 8) (c : Fin 1024) : (b.at k q).h_1 (ix2 r c) = (pad X (128 * k.val + 128 + r.val) c.val : EReal) := by
  have hr := r.isLt
  pointwise [St.h_1, k0_pay6]
  refine Eq.trans ?_ ((joined b X W G V F k q K ⟨128 + r.val, by omega⟩ c).trans (by simp only; rw [Nat.add_assoc]))
  show (b.at k q).e_1 _ = (b.at k q).e_1 _
  congr 1; funext a; apply Fin.ext
  match a with
  | ⟨0, _⟩ => show 128 + 1 * r.val = 128 + r.val; omega
  | ⟨1, _⟩ => show 0 + 1 * c.val = c.val; omega

/-- The chunk's gates before their transforms. -/
theorem gates_in (r : Fin 128) (c : Fin 128) : (b.at k q).v60 (ix2 r c) + (b.at k q).v61 (ix2 0 c) = (G (128 * k.val + r.val) c.val : EReal) := by
  have hk : k.val < 16 := trips_eq ▸ k.isLt
  have hr := r.isLt
  refine Eq.trans ?_ (F.x3 ⟨128 * k.val + r.val, by omega⟩ c)
  unfold St.v60 St.v61
  refine congrArg₂ (· + ·) (read_rows (M := 128) b.x3 _ (128 * k.val) 0 _ (k0_off2_eq k) r c ⟨128 * k.val + r.val, by omega⟩ c rfl (by simp)) ?_
  show b.x5 _ = b.x5 _
  congr 1; funext a; apply Fin.ext
  match a with
  | ⟨0, _⟩ => rfl
  | ⟨1, _⟩ => show 0 + 1 * c.val = c.val; omega

/-- A gate column is below the fourth exactly when its word is. -/
theorem gate_word : ∀ c : Fin 128, IntOp.cmpi CmpIPredicate.slt (BitVec.ofNat 32 c.val) 4#32 = if c.val < 4 then 1#1 else 0#1 := by
  decide +kernel

/-- The chunk's gates: input gates in the first four columns, log forget gates after. -/
theorem gates (r : Fin 128) (c : Fin 128) : (b.at k q).v84 (ix2 r c)
    = ((if c.val < 4 then G (128 * k.val + r.val) c.val else logsig (G (128 * k.val + r.val) c.val) : ℝ) : EReal) := by
  pointwise [St.v84, k0_pay13]
  rw [gate_word b X W G V F k q K, select_if, gates_in b X W G V F k q K]
  split_ifs
  · rfl
  · rw [log2e_named, ln2_named]; exact log_gate _

/-- The table of the running sums. -/
theorem table_at (r x : Fin 128) : (b.at k q).v85 (ix2 r x) = ((if x.val ≤ r.val then 1 else 0 : ℝ) : EReal) := by
  refine Eq.trans ?_ (F.x7 r x)
  show b.x7 _ = b.x7 _
  congr 1; funext a; apply Fin.ext
  match a with
  | ⟨0, _⟩ => show 0 + 1 * r.val = r.val; omega
  | ⟨1, _⟩ => show 0 + 1 * x.val = x.val; omega

/-- A masked sum of a chunk's log forget gates is a difference of running sums. -/
theorem masked_sum (a : ℕ → ℝ) (n : ℕ) (r : Fin 128) :
    ∑ x : Fin 128, (if x.val ≤ r.val then 1 else 0 : ℝ) * a (n + x.val) = cum a (n + r.val + 1) - cum a n := by
  simp only [ite_mul, one_mul, zero_mul]
  rw [sum_upto (fun x => a (n + x)) r.val r.isLt]
  unfold cum
  rw [Nat.add_assoc, Finset.sum_range_add _ n (r.val + 1), add_sub_cancel_left]

/-- The running sums by row. -/
theorem sums (r : Fin 128) (h : Fin 4) : (b.at k q).v97 (ix2 r ⟨4 + h.val, by omega⟩)
    = ((cum ((seqOf X W G V).a h) (128 * k.val + r.val + 1) - cum ((seqOf X W G V).a h) (128 * k.val) : ℝ) : EReal) := by
  have e : ∀ x : Fin 128, k0_pay13 (b.at k q).v60 (b.at k q).v61 (ix2 x ⟨4 + h.val, by omega⟩) = ((seqOf X W G V).a h (128 * k.val + x.val) : EReal) := fun x =>
    (gates b X W G V F k q K x ⟨4 + h.val, by omega⟩).trans (by rw [if_neg (by simp)]; rfl)
  pointwise [St.v97, St.v86, St.v89, St.v91, k0_pay18, k0_pay17, k0_pay16, k0_pay15, k0_pay14]
  simp only [e, table_at b X W G V F k q K, ← EReal.coe_sub, ← EReal.coe_mul, coe_sum, ← EReal.coe_add, sub_self, mul_zero, Finset.sum_const_zero, add_zero]
  rw [masked_sum b X W G V F k q K]

/-- The running sums by column. -/
theorem sumsT (r : Fin 128) (h : Fin 4) : (b.at k q).v111 (ix2 ⟨4 + h.val, by omega⟩ r)
    = ((cum ((seqOf X W G V).a h) (128 * k.val + r.val + 1) - cum ((seqOf X W G V).a h) (128 * k.val) : ℝ) : EReal) := by
  have e : ∀ x : Fin 128, (b.at k q).v84 (ix2 x ⟨4 + h.val, by omega⟩) = ((seqOf X W G V).a h (128 * k.val + x.val) : EReal) := fun x =>
    (gates b X W G V F k q K x ⟨4 + h.val, by omega⟩).trans (by rw [if_neg (by simp)]; rfl)
  pointwise [St.v111, k0_pay20, k0_pay19]
  simp only [e, table_at b X W G V F k q K, ← EReal.coe_sub, ← EReal.coe_mul, coe_sum, ← EReal.coe_add, sub_self, zero_mul, Finset.sum_const_zero, add_zero]
  rw [← masked_sum b X W G V F k q K]
  congr 1
  exact Finset.sum_congr rfl fun x _ => mul_comm _ _

/-- What the chunk begins with. -/
theorem chunk_of : Chunk (b.at k q) (seqOf X W G V) (128 * k.val) where
  q r c := by
    pointwise [St.v56, k0_pay10, k0_pay8, k0_pay7]
    rw [convolved b X W G V F k q K, silu_real]; rfl
  q32 r c := by
    pointwise [St.v52, k0_pay8, k0_pay7]
    rw [convolved b X W G V F k q K, silu_real]; rfl
  k r c := by
    pointwise [St.v57, k0_pay11, k0_pay9, k0_pay7]
    rw [convolved b X W G V F k q K, silu_real, kscale_word, ← EReal.coe_mul]; rfl
  kT r c := by
    pointwise [St.v58, k0_pay12, k0_pay9, k0_pay7]
    rw [convolved b X W G V F k q K, silu_real, kscale_word, ← EReal.coe_mul]; rfl
  sum r h := sums b X W G V F k q K r h
  sumT r h := sumsT b X W G V F k q K r h
  inp r h := by
    pointwise [St.v99, k0_pay19]
    refine (gates b X W G V F k q K r ⟨h.val, by omega⟩).trans ?_
    rw [if_pos (by simp)]; rfl
  mask r x := by
    pointwise [St.v114, k0_pay21]
    refine Eq.trans ?_ (F.x8 r x)
    congr 1
    show b.x8 _ = b.x8 _
    congr 1; funext a; apply Fin.ext
    match a with
    | ⟨0, _⟩ => show 0 + 1 * r.val = r.val; omega
    | ⟨1, _⟩ => show 0 + 1 * x.val = x.val; omega
  v0 r j := by
    have hk : k.val < 16 := trips_eq ▸ k.isLt
    have hr := r.isLt
    unfold St.v144
    refine (read_rows (M := 384) b.x2 _ (128 * k.val) 0 _ (k0_off3_eq k) r j ⟨128 * k.val + r.val, by omega⟩ ⟨j.val, by omega⟩ rfl (by simp)).trans ?_
    exact F.x2 ⟨128 * k.val + r.val, by omega⟩ ⟨j.val, by omega⟩
  v1 r j := by
    have hk : k.val < 16 := trips_eq ▸ k.isLt
    have hr := r.isLt
    unfold St.v361
    refine (read_rows (M := 384) b.x2 _ (128 * k.val) 384 _ (k0_off6_eq k) r j ⟨128 * k.val + r.val, by omega⟩ ⟨384 + j.val, by omega⟩ rfl rfl).trans ?_
    exact F.x2 ⟨128 * k.val + r.val, by omega⟩ ⟨384 + j.val, by omega⟩
  m h l := K.m h l
  c p hh d j := K.c p hh d j

end Rows

/-- A page of the state after both pages have been written. -/
theorem put_pages (x : Vec Ideal S2x256x512 .f32) (u w : Vec Ideal S1x256x512 .f32) (p : Fin 2) (y : Fin 256) (j : Fin 512) :
    VecWindow.put (s := S2x256x512) (VecWindow.put (s := S2x256x512) x ![0, 0, 0] S1x256x512.size u) ![1, 0, 0] S1x256x512.size w (ix3 p y j)
      = if p.val = 0 then u (ix3 0 y j) else w (ix3 0 y j) := by
  have hp := p.isLt
  by_cases h : p.val = 0
  · rw [if_pos h]
    unfold VecWindow.put
    rw [dif_neg (fun q => by have := (q 0).1; simp at this; omega), dif_pos (fun a => by
      match a with
      | ⟨0, _⟩ => exact ⟨Nat.zero_le _, by show p.val < 0 + 1; omega⟩
      | ⟨1, _⟩ => exact ⟨Nat.zero_le _, by show y.val < 0 + 256; omega⟩
      | ⟨2, _⟩ => exact ⟨Nat.zero_le _, by show j.val < 0 + 512; omega⟩)]
    congr 1; funext a; apply Fin.ext
    match a with
    | ⟨0, _⟩ => show p.val - 0 = 0; omega
    | ⟨1, _⟩ => rfl
    | ⟨2, _⟩ => rfl
  · rw [if_neg h]
    unfold VecWindow.put
    rw [dif_pos (fun a => by
      match a with
      | ⟨0, _⟩ => exact ⟨by show 1 ≤ p.val; omega, by show p.val < 1 + 1; omega⟩
      | ⟨1, _⟩ => exact ⟨Nat.zero_le _, by show y.val < 0 + 256; omega⟩
      | ⟨2, _⟩ => exact ⟨Nat.zero_le _, by show j.val < 0 + 512; omega⟩)]
    congr 1; funext a; apply Fin.ext
    match a with
    | ⟨0, _⟩ => show p.val - 1 = 0; omega
    | ⟨1, _⟩ => rfl
    | ⟨2, _⟩ => rfl

/-- After a chunk, what is kept is what the next one expects. -/
theorem kept_next (k : Fin k0_t1_loop.trips) (q : Mem Ideal) (K : Kept q (seqOf X W G V) X (128 * k.val)) :
    Kept ⟨(b.at k q).c_2, (b.at k q).m_4, (b.at k q).h_1⟩ (seqOf X W G V) X (128 * k.val + 128) where
  c p hh d j := by
    have C := chunk_of b X W G V F k q K
    show (b.at k q).c_2 _ = _
    unfold St.c_2 St.c_1
    rw [put_pages b X W G V F]
    fin_cases p <;> fin_cases hh
    · rw [if_pos rfl]
      refine Eq.trans ?_ (kept00 _ _ _ C d j)
      congr 1; funext a; apply Fin.ext
      match a with
      | ⟨0, _⟩ => rfl
      | ⟨1, _⟩ => show 128 * 0 + d.val = d.val; omega
      | ⟨2, _⟩ => rfl
    · rw [if_pos rfl]; exact kept01 _ _ _ C d j
    · rw [if_neg (by decide)]
      refine Eq.trans ?_ (kept10 _ _ _ C d j)
      congr 1; funext a; apply Fin.ext
      match a with
      | ⟨0, _⟩ => rfl
      | ⟨1, _⟩ => show 128 * 0 + d.val = d.val; omega
      | ⟨2, _⟩ => rfl
    · rw [if_neg (by decide)]; exact kept11 _ _ _ C d j
  m h l := by
    have C := chunk_of b X W G V F k q K
    show (b.at k q).m_4 _ = _
    unfold St.m_4 St.m_3 St.m_2 St.m_1
    rw [put_row, put_row, put_row, put_row]
    obtain ⟨h, hlt⟩ := h
    interval_cases h
    · exact next0 _ _ _ C l
    · exact next1 _ _ _ C l
    · exact next2 _ _ _ C l
    · exact next3 _ _ _ C l
  h r c := kept_rows b X W G V F k q K r c

/-- Before every chunk, what is kept is what the sequences prescribe. -/
theorem kept_at (n : ℕ) (hn : n ≤ 16) : Kept (b.mem n) (seqOf X W G V) X (128 * n) := by
  induction n with
  | zero =>
    refine ⟨fun p hh d j => ?_, fun h l => ?_, fun r c => ?_⟩
    · show k0_pay1 (F := Ideal) (ix3 p ⟨128 * hh.val + d.val, by omega⟩ j) = _
      pointwise [k0_pay1]
      unfold Seq.st; rw [state_zero]; rfl
    · show k0_pay2 (F := Ideal) (ix2 ⟨h.val, by omega⟩ l) = _
      pointwise [k0_pay2]
      simp [cum, top]
    · show k0_pay3 (F := Ideal) (ix2 r c) = _
      have hr := r.isLt
      pointwise [k0_pay3]
      unfold Cert.Recurrence.pad; rw [if_neg (by omega)]; rfl
  | succ n ih =>
    have hlt : n < k0_t1_loop.trips := by rw [trips_eq]; omega
    rw [mem_succ b ⟨n, hlt⟩]
    exact kept_next b X W G V F ⟨n, hlt⟩ (b.mem n) (ih (by omega))

/-- The result block: at token `t`, column `c`, the result of head `c / 192`. -/
theorem out_at (t : Fin 2048) (c : Fin 768) : b.out (ix2 t c)
    = (seqOf X W G V).res (c.val / 192) t.val (c.val % 192) (b.x6 (ix2 0 c)) (b.x2 (ix2 t ⟨768 + c.val, by omega⟩)) := by
  have ht := t.isLt
  have hc := c.isLt
  have hk : t.val / 128 < 16 := by omega
  have C := chunk_of b X W G V F (chunkOf t) _ (kept_at b X W G V F (chunkOf t).val (by show t.val / 128 ≤ 16; omega))
  have et : 128 * (chunkOf t).val + (rowOf t).val = t.val := by show 128 * (t.val / 128) + t.val % 128 = t.val; omega
  unfold Blk.out
  split_ifs with h
  · have h' : c.val < 384 := h
    refine Eq.trans ?_ ((chunk_row0 (b.st (chunkOf t)) _ _ C (rowOf t) ⟨c.val, h'⟩).trans ?_)
    · congr 1; funext a
      match a with
      | ⟨0, _⟩ => rfl
      | ⟨1, _⟩ => rfl
    · rw [et]
      congr 1
      · show b.x6 _ = b.x6 _
        congr 1; funext a; apply Fin.ext
        match a with
        | ⟨0, _⟩ => rfl
        | ⟨1, _⟩ => show 0 + 1 * c.val = c.val; omega
      · unfold St.v312
        exact read_rows (M := 384) b.x2 _ (128 * (chunkOf t).val) 768 _ (k0_off4_eq _) (rowOf t) ⟨c.val, h'⟩ t ⟨768 + c.val, by omega⟩ et.symm rfl
  · have h' : ¬ c.val < 384 := h
    refine Eq.trans ?_ ((chunk_row1 (b.st (chunkOf t)) _ _ C (rowOf t) ⟨c.val - 384, by omega⟩).trans ?_)
    · congr 1; funext a
      match a with
      | ⟨0, _⟩ => rfl
      | ⟨1, _⟩ => rfl
    · rw [et]
      simp only
      rw [show 2 + (c.val - 384) / 192 = c.val / 192 by omega, show (c.val - 384) % 192 = c.val % 192 by omega]
      congr 1
      · show b.x6 _ = b.x6 _
        congr 1; funext a; apply Fin.ext
        match a with
        | ⟨0, _⟩ => rfl
        | ⟨1, _⟩ => show 384 + 1 * (c.val - 384) = c.val; omega
      · unfold St.v529
        exact read_rows (M := 384) b.x2 _ (128 * (chunkOf t).val) 1152 _ (k0_off7_eq _) (rowOf t) ⟨c.val - 384, by omega⟩ t ⟨768 + c.val, by omega⟩ et.symm
          (by show 768 + c.val = 1152 + (c.val - 384); omega)

end Cert.MlstmIdeal.Whole

end
-- ==== Proof.MlstmLaunch.lean ====
/- The recurrence, its run: what every grid point leaves in the result block, and the run of the whole call with the
   arguments unchanged. -/
module

public import proofs.«01_k».proof.Proof.MlstmLoop

@[expose] public section

set_option maxRecDepth 16384

noncomputable section

namespace Cert.MlstmIdeal.Whole

open Cert.MlstmIdeal Cert.MlstmIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

variable (m : (ℓ : Loc nD τ sig) → Buf (Elt F) ℓ) (ρ : Dev nD → PrngReg)

/-- Each window's staging buffer at a point. -/
abbrev buf0 (t : Fin cfg0.N) : Memref sig .tc .vmem S2048x1024 .bf16 := win0_0.stage (cfg0.slots t 0)
abbrev buf1 (t : Fin cfg0.N) : Memref sig .tc .vmem S2048x1536 .bf16 := win0_1.stage (cfg0.slots t 1)
abbrev buf2 (t : Fin cfg0.N) : Memref sig .tc .vmem S2048x128 .f32 := win0_2.stage (cfg0.slots t 2)
abbrev buf3 (t : Fin cfg0.N) : Memref sig .tc .vmem S4x1024 .f32 := win0_3.stage (cfg0.slots t 3)
abbrev buf4 (t : Fin cfg0.N) : Memref sig .tc .vmem S1x128 .f32 := win0_4.stage (cfg0.slots t 4)
abbrev buf5 (t : Fin cfg0.N) : Memref sig .tc .vmem S1x768 .f32 := win0_5.stage (cfg0.slots t 5)
abbrev buf6 (t : Fin cfg0.N) : Memref sig .tc .vmem S128x128 .bf16 := win0_6.stage (cfg0.slots t 6)
abbrev buf7 (t : Fin cfg0.N) : Memref sig .tc .vmem S128x128 .i32 := win0_7.stage (cfg0.slots t 7)
abbrev buf8 (t : Fin cfg0.N) : Memref sig .tc .vmem S2048x768 .bf16 := win0_8.stage (cfg0.slots t 8)
/-- The three buffers kept from chunk to chunk. -/
abbrev kept0 : Memref sig .tc .vmem S2x256x512 .f32 := Memref.whole cc0_scratch0
abbrev kept1 : Memref sig .tc .vmem S8x128 .f32 := Memref.whole cc0_scratch1
abbrev kept2 : Memref sig .tc .vmem S136x1024 .f32 := Memref.whole cc0_scratch2

/-- The blocks of point `t`. -/
def blk (c : Dev nD) (t : Fin cfg0.N) : Blk F :=
  ⟨iblk m c 0 t, iblk m c 1 t, iblk m c 2 t, iblk m c 3 t, iblk m c 4 t, iblk m c 5 t, iblk m c 6 t, iblk m c 7 t⟩

/-- Between points the kept buffers hold anything. -/
theorem kept_any_eq (c : Dev nD) : (Pipeline.ΦA spec0 c : sProp (MT nD τ sig Unit (Elt F) ℕ (UR sig nD τ) ℕ))
    = iprop(iprop((∃ d, owns (c : Thread nD τ) kept0 fullShare d) ∗ (∃ d, owns (c : Thread nD τ) kept1 fullShare d)
        ∗ (∃ d, owns (c : Thread nD τ) kept2 fullShare d)) ∗ (∃ r, prngReg c r)) := by
  unfold Pipeline.ΦA; rw [scopedRest0_eq]; simp only [kept0, kept1, kept2, owns_whole]; try rfl

/-- The proof data: what each array and each staging buffer holds. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (blk m c t).out
  Φ _ := Pipeline.ΦA spec0 c
  q w := Pipeline.shareOf spec0 w
  owed _ := 0

/-- The arrays are as the call finds them. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = (blk m c t).out := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- What a point starts from. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d)))

/-- What it leaves. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t)
    ∗ owns (c : Thread nD τ) (buf5 t) fullShare ((dats m 0 c).after 5 t)
    ∗ owns (c : Thread nD τ) (buf6 t) fullShare ((dats m 0 c).after 6 t)
    ∗ owns (c : Thread nD τ) (buf7 t) fullShare ((dats m 0 c).after 7 t)
    ∗ owns (c : Thread nD τ) (buf8 t) fullShare ((dats m 0 c).after 8 t))

set_option maxHeartbeats 2400000 in
/-- The body takes every point from the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl,
    after_0, after_1, after_2, after_3, after_4, after_5, after_6, after_7, after_8]
  rw [show (dats m 0 c).Φ t.succ = Pipeline.ΦA spec0 c from rfl,
    show (dats m 0 c).Φ t.castSucc = Pipeline.ΦA spec0 c from rfl, kept_any_eq]
  iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (point_run c (grid0.coords t) _ _ _ _ _ _ _ _ _ _ _ _ _ _ _ _ _ _ _ _ _ _ _ _ (blk m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [S0]; · iexact S0
  isplitl [S1]; · iexact S1
  isplitl [S2]; · iexact S2
  iintro ⟨H0, H1, H2, H3, H4, H5, H6, H7, H8, S0, S1, S2⟩
  isplitl [S0 S1 S2 Hg]
  · isplitl [S0 S1 S2]
    · isplitl [S0]; · iexact S0
      isplitl [S1]; · iexact S1
      iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body the launch calls at a point is the printed one on that point's buffers. -/
theorem row_eq (t : Fin cfg0.N) : defs₀ (F := F) .tc cfg0.body (cfg0.bodyArgs t (cfg0.slots t)) = bodyAt0 t := by
  unfold defs₀; rw [Defs.onTc_tc]

/-- What the launch asks of the body. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-! ## The run -/

set_option backward.isDefEq.respectTransparency.types false in
/-- Every execution ends, with the arrays as the proof data says and every counter at zero. -/
theorem run_quiet : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun _ => Idealize.SL.BI.Entails.refl _) (hout := fun _ => Idealize.SL.BI.Entails.refl _)

/-- The same without the counters. -/
theorem run_main : θ_run defs (onTc (τ := τ) (main (F := F))) (s₀ m ρ) (Pipeline.FramePost cfgs (dats m) 0 (V m)) :=
  (θ_run defs _ _).mono (fun _ h => h.1) (run_quiet m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: every execution ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_quiet m ρ))

end Cert.MlstmIdeal.Whole

end
-- ==== Proof.MlstmPlace.lean ====
/- The blocks a grid point of the recurrence is given, read at their places in the argument arrays. -/
module

public import proofs.«01_k».proof.Proof.MlstmLaunch
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.MlstmIdeal.Whole

open Cert.MlstmIdeal Cert.MlstmIdeal.Gen

variable (m : (ℓ : Loc nD τ sig) → Buf (Elt Ideal) ℓ)

/-- Where each window's block lies at a grid point: the sequence's rows of the three column ranges and of the result
    advance with the point, everything else stays. -/
theorem places : ∀ t : Fin cfg0.N, win0_0.index t = ![t.val, 1]
    ∧ win0_1.index t = ![t.val, 3]
    ∧ win0_2.index t = ![t.val, 1]
    ∧ win0_3.index t = ![0, 0]
    ∧ win0_4.index t = ![0, 0]
    ∧ win0_5.index t = ![0, 0]
    ∧ win0_6.index t = ![0, 0]
    ∧ win0_7.index t = ![0, 0]
    ∧ win0_8.index t = ![t.val, 0] :=
  (by decide +kernel : ∀ t : Fin grid0.N, _)

/-- The grid has eight points. -/
theorem point_lt (t : Fin cfg0.N) : t.val < 8 := lt_of_lt_of_eq t.isLt (show cfg0.N = 8 from N_0)

/-- The staged columns of the heads' queries and keys. -/
theorem heads_at (c : Dev nD) (t : Fin cfg0.N) (r : Fin 2048) (k : Fin 1024) :
    (show Vec Ideal S2048x1024 .bf16 from iblk m c 0 t) (ix2 r k)
      = (show FVec Ideal S16384x6144 .bf16 from m ((c : Thread nD τ).loc main_arg0))
          (ix2 ⟨t.val * 2048 + r.val, by have := point_lt t; omega⟩ ⟨1024 + k.val, by omega⟩) := by
  have := point_lt t
  blk_ext [iblk, V, places t]

/-- The staged columns of the values and of the output gates. -/
theorem values_at (c : Dev nD) (t : Fin cfg0.N) (r : Fin 2048) (k : Fin 1536) :
    (show Vec Ideal S2048x1536 .bf16 from iblk m c 1 t) (ix2 r k)
      = (show FVec Ideal S16384x6144 .bf16 from m ((c : Thread nD τ).loc main_arg0))
          (ix2 ⟨t.val * 2048 + r.val, by have := point_lt t; omega⟩ ⟨4608 + k.val, by omega⟩) := by
  have := point_lt t
  blk_ext [iblk, V, places t]

/-- The staged columns of the gates. -/
theorem gates_at (c : Dev nD) (t : Fin cfg0.N) (r : Fin 2048) (k : Fin 128) :
    (show Vec Ideal S2048x128 .f32 from iblk m c 2 t) (ix2 r k)
      = (show FVec Ideal S16384x256 .f32 from m ((c : Thread nD τ).loc main_arg1))
          (ix2 ⟨t.val * 2048 + r.val, by have := point_lt t; omega⟩ ⟨128 + k.val, by omega⟩) := by
  have := point_lt t
  blk_ext [iblk, V, places t]

/-- The word zero as a number. -/
theorem int_zero : (FloatOps.sitofp (F := Ideal) FTy.f32 0#32 : EReal) = 0 := by
  show (((0#32 : BitVec 32).toInt : ℝ) : EReal) = 0
  simp

/-- The staged scale of the heads' normalisation. -/
theorem norm_at (c : Dev nD) (t : Fin cfg0.N) (j : Fin 1) (k : Fin 768) :
    (show Vec Ideal S1x768 .f32 from iblk m c 5 t) (ix2 j k) = (show FVec Ideal S768 .f32 from m ((c : Thread nD τ).loc main_arg5)) (ix1 k) := by
  have h : (show Vec Ideal S1x768 .f32 from iblk m c 5 t) (ix2 j k) = (show Vec Ideal S1x768 .f32 from V m c main_v12) (ix2 j k) := by
    blk_ext [iblk, places t]
  rw [h]
  simp only [V, hostOps0, hostOps0_1, hostOps0_2, hostOps0_3, hostOps0_4, hostOps0_5, hostOps0_6, List.flatten_cons, List.flatten_nil, List.cons_append, List.nil_append, List.append_nil]
  after_results_simp
  pointwise []
  try rfl

/-- The staged gate offsets: the input gates' four, then the forget gates' four, then zero. -/
theorem offsets_at (c : Dev nD) (t : Fin cfg0.N) (j : Fin 1) (k : Fin 128) :
    (show Vec Ideal S1x128 .f32 from iblk m c 4 t) (ix2 j k) = (if h : k.val < 8 then (if h' : k.val < 4 then (show FVec Ideal S4 .f32 from m ((c : Thread nD τ).loc main_arg3)) (ix1 ⟨k.val, h'⟩)
          else (show FVec Ideal S4 .f32 from m ((c : Thread nD τ).loc main_arg4)) (ix1 ⟨k.val - 4, by omega⟩)) else (0 : EReal)) := by
  have h : (show Vec Ideal S1x128 .f32 from iblk m c 4 t) (ix2 j k) = (show Vec Ideal S1x128 .f32 from V m c main_v11) (ix2 j k) := by
    blk_ext [iblk, places t]
  rw [h]
  simp only [V, hostOps0, hostOps0_1, hostOps0_2, hostOps0_3, hostOps0_4, hostOps0_5, hostOps0_6, List.flatten_cons, List.flatten_nil, List.cons_append, List.nil_append, List.append_nil]
  after_results_simp
  simp only [StableHlo.TRef.ofBuf, StableHlo.TRef.toBuf, cast_cast, cast_eq]
  have z := int_zero
  pointwise []
  after_results_simp
  split_ifs <;> first | exact z | rfl

/-- The staged weights of the convolution: a head's 96 columns of 128, the queries' heads first, zero elsewhere. -/
theorem conv_at (c : Dev nD) (t : Fin cfg0.N) (j : Fin 4) (k : Fin 1024) :
    (show Vec Ideal S4x1024 .f32 from iblk m c 3 t) (ix2 j k) = (if h : k.val < 512 then
          (if h' : k.val / 128 < 4 ∧ k.val % 128 < 96 then (show FVec Ideal S4x768 .f32 from m ((c : Thread nD τ).loc main_arg2)) (ix2 j ⟨k.val / 128 * 96 + k.val % 128, by omega⟩) else 0)
        else (if h' : (k.val - 512) / 128 < 4 ∧ (k.val - 512) % 128 < 96 then (show FVec Ideal S4x768 .f32 from m ((c : Thread nD τ).loc main_arg2)) (ix2 j ⟨384 + ((k.val - 512) / 128 * 96 + (k.val - 512) % 128), by omega⟩) else (0 : EReal))) := by
  have h : (show Vec Ideal S4x1024 .f32 from iblk m c 3 t) (ix2 j k) = (show Vec Ideal S4x1024 .f32 from V m c main_v8) (ix2 j k) := by
    blk_ext [iblk, places t]
  rw [h]
  simp only [V, hostOps0, hostOps0_1, hostOps0_2, hostOps0_3, hostOps0_4, hostOps0_5, hostOps0_6, List.flatten_cons, List.flatten_nil, List.cons_append, List.nil_append, List.append_nil]
  after_results_simp
  simp only [StableHlo.TRef.ofBuf, StableHlo.TRef.toBuf, cast_cast, cast_eq]
  have z := int_zero
  pointwise []
  split_ifs <;> first | exact z | rfl

/-- The staged table of the running sums is the stored word of that place. -/
theorem sums_at (c : Dev nD) (t : Fin cfg0.N) (j : Fin 128) (k : Fin 128) :
    (show Vec Ideal S128x128 .bf16 from iblk m c 6 t) (ix2 j k) = Ideal.ofBits FTy.bf16 (lit1 ⟨j.val * 128 + k.val, by omega⟩) := by
  have h : (show Vec Ideal S128x128 .bf16 from iblk m c 6 t) (ix2 j k) = (show Vec Ideal S128x128 .bf16 from V m c main_cst) (ix2 j k) := by
    blk_ext [iblk, places t]
  rw [h]
  simp only [V, hostOps0, hostOps0_1, hostOps0_2, hostOps0_3, hostOps0_4, hostOps0_5, hostOps0_6, List.flatten_cons, List.flatten_nil, List.cons_append, List.nil_append, List.append_nil]
  after_results_simp
  refine congrArg (fun q => Ideal.ofBits FTy.bf16 (lit1 q)) (Fin.ext ?_)
  exact Shape.rowMajor_val_two _

/-- The staged table of the levels is the stored word of that place. -/
theorem levels_at (c : Dev nD) (t : Fin cfg0.N) (j : Fin 128) (k : Fin 128) :
    (show IVec S128x128 32 from iblk m c 7 t) (ix2 j k) = lit0 ⟨j.val * 128 + k.val, by omega⟩ := by
  have h : (show IVec S128x128 32 from iblk m c 7 t) (ix2 j k) = (show IVec S128x128 32 from V m c main_c) (ix2 j k) := by
    blk_ext [iblk, places t]
  rw [h]
  simp only [V, hostOps0, hostOps0_1, hostOps0_2, hostOps0_3, hostOps0_4, hostOps0_5, hostOps0_6, List.flatten_cons, List.flatten_nil, List.cons_append, List.nil_append, List.append_nil]
  after_results_simp
  refine congrArg lit0 (Fin.ext ?_)
  exact Shape.rowMajor_val_two _

end Cert.MlstmIdeal.Whole

end
-- ==== Proof.MlstmTable.lean ====
/- The two causal tables of the recurrence: at row `t`, column `s` the stored level is at least -1, and the stored weight is
   one, exactly when `s` is not after `t`. -/
module

public import proofs.«01_k».proof.MlstmIdeal

@[expose] public section

set_option maxRecDepth 16384

noncomputable section

open Idealize.ShloMosaic

namespace Cert.MlstmIdeal.Whole

open Cert.MlstmIdeal

/-- The stored level's comparison with -1 is the comparison of the column with the row, at every place (decided). -/
theorem level_word : ∀ t s : Fin 128,
    IntOp.cmpi CmpIPredicate.sge (lit0 ⟨t.val * 128 + s.val, by omega⟩) 4294967295#32
      = if s.val ≤ t.val then 1#1 else 0#1 := by
  decide +kernel

/-- The stored weight is the word of one up to the row and the word of zero after, at every place (decided). -/
theorem weight_word : ∀ t s : Fin 128, lit1 ⟨t.val * 128 + s.val, by omega⟩ = if s.val ≤ t.val then 16256#16 else 0#16 := by
  decide +kernel

end Cert.MlstmIdeal.Whole

end
-- ==== Proof.MlstmWords.lean ====
/- Two words of the short float format: one and zero. -/
module

public import proofs.«01_k».proof.MlstmIdeal

@[expose] public section

set_option maxRecDepth 16384

noncomputable section

open Idealize.ShloMosaic

namespace Cert.MlstmIdeal.Whole

/-- The word of one. -/
theorem word_one : Ideal.ofBits FTy.bf16 16256#16 = 1 := by
  have e : (16256 >>> 7 % 256 : ℕ) = 127 := by decide
  have b : ¬ BitVec.extractLsb' 15 1 16256#16 = 1#1 := by decide
  norm_num [Ideal.ofBits, Ideal.ieee, e, b]

/-- The word of zero. -/
theorem word_zero : Ideal.ofBits FTy.bf16 0#16 = 0 := by
  norm_num [Ideal.ofBits, Ideal.ieee]

end Cert.MlstmIdeal.Whole

end
-- ==== Proof.MlstmArgs.lean ====
/- The real sequences a run of the recurrence is about, read off the argument arrays: the projected rows, the
   convolution's weights laid out by head, the gates with their offsets and the values of one sequence of tokens. -/
module

public import proofs.«01_k».proof.Proof.MlstmGate
public import Idealize.ShloMosaic.Lib.Pipeline.ValueKit
public import Idealize.ShloMosaic.Lib.Pointwise

@[expose] public section

noncomputable section

open Idealize.ShloMosaic
open scoped BigOperators

namespace Cert.Recurrence

/-- Every element is a real number. -/
def Finite {s : Shape} {φ : FTy} (x : FVec Ideal s φ) : Prop := ∀ i, (x i : EReal) ≠ ⊤ ∧ (x i : EReal) ≠ ⊥

/-- The real number at a place of a matrix, zero outside it. -/
def cell {n k : ℕ} {φ : FTy} (x : FVec Ideal ⟨2, ![n, k]⟩ φ) (r c : ℕ) : ℝ :=
  if h : r < n ∧ c < k then EReal.toReal (x (ix2 ⟨r, h.1⟩ ⟨c, h.2⟩)) else 0

/-- The real number at a place of a vector, zero outside it. -/
def spot {n : ℕ} {φ : FTy} (x : FVec Ideal ⟨1, ![n]⟩ φ) (r : ℕ) : ℝ :=
  if h : r < n then EReal.toReal (x (ix1 ⟨r, h⟩)) else 0

/-- A matrix of real numbers is its cells. -/
theorem cell_eq {n k : ℕ} {φ : FTy} (x : FVec Ideal ⟨2, ![n, k]⟩ φ) (hx : Finite x) (a : Fin n) (b : Fin k) (r c : ℕ)
    (hr : a.val = r) (hc : b.val = c) : x (ix2 a b) = (cell x r c : EReal) := by
  subst hr; subst hc
  unfold cell
  rw [dif_pos ⟨a.isLt, b.isLt⟩]
  exact (EReal.coe_toReal (hx _).1 (hx _).2).symm

/-- A vector of real numbers is its places. -/
theorem spot_eq {n : ℕ} {φ : FTy} (x : FVec Ideal ⟨1, ![n]⟩ φ) (hx : Finite x) (a : Fin n) (r : ℕ)
    (hr : a.val = r) : x (ix1 a) = (spot x r : EReal) := by
  subst hr
  unfold spot
  rw [dif_pos a.isLt]
  exact (EReal.coe_toReal (hx _).1 (hx _).2).symm

/-- A number whose absolute value is below infinity is real. -/
theorem real_of_below (x : EReal)
    (h : FloatOps.cmpf (F := Ideal) (φ := .f32) CmpFPredicate.olt (FloatOps.absf (F := Ideal) (φ := .f32) x) (Ideal.ofBits .f32 0x7F800000#32) = 1#1) :
    x ≠ ⊤ ∧ x ≠ ⊥ := by
  have e : Ideal.ofBits FTy.f32 0x7F800000#32 = (⊤ : EReal) := by simp [Ideal.ofBits, Ideal.ieee]
  rw [e] at h
  constructor
  · rintro rfl
    revert h
    show ¬ ((BitVec.ofBool (decide (max (⊤ : EReal) (-⊤) < ⊤))) = 1#1)
    simp
  · rintro rfl
    revert h
    show ¬ ((BitVec.ofBool (decide (max (⊥ : EReal) (-⊥) < ⊤))) = 1#1)
    simp

variable (a0 : FVec Ideal ⟨2, ![16384, 6144]⟩ .bf16) (a1 : FVec Ideal ⟨2, ![16384, 256]⟩ .f32) (a2 : FVec Ideal ⟨2, ![4, 768]⟩ .f32)
  (a3 a4 : FVec Ideal ⟨1, ![4]⟩ .f32)

/-- The columns of the heads' queries and keys at token `t` of sequence `b`. -/
def rowsAt (b t c : ℕ) : ℝ := cell a0 (b * 2048 + t) (1024 + c)

/-- The values at token `t` of sequence `b`. -/
def valsAt (b t c : ℕ) : ℝ := cell a0 (b * 2048 + t) (4608 + c)

/-- The gates before their transforms at token `t` of sequence `b`: four input gates, then four forget gates. -/
def gatesAt (b t c : ℕ) : ℝ :=
  cell a1 (b * 2048 + t) (128 + c) + (if c < 8 then (if c < 4 then spot a3 c else spot a4 (c - 4)) else 0)

/-- The weights of the convolution: a head's 96 columns of 128, the queries' heads first, zero elsewhere. -/
def weightsAt (j c : ℕ) : ℝ :=
  if c < 512 then (if c / 128 < 4 ∧ c % 128 < 96 then cell a2 j (c / 128 * 96 + c % 128) else 0)
  else (if (c - 512) / 128 < 4 ∧ (c - 512) % 128 < 96 then cell a2 j (384 + ((c - 512) / 128 * 96 + (c - 512) % 128)) else 0)

/-- The sequences of sequence `b` of tokens. -/
def seqAt (b : ℕ) : Seq := seqOf (rowsAt a0 b) (weightsAt a2) (gatesAt a1 a3 a4 b) (valsAt a0 b)

end Cert.Recurrence

end
-- ==== Proof.MlstmValue.lean ====
/- The recurrence's call: its result array holds, at row `2048 b + t`, column `c`, head `c / 192`'s result at token `t` of
   sequence `b`. -/
module

public import proofs.«01_k».proof.Proof.MlstmInv
public import proofs.«01_k».proof.Proof.MlstmPlace
public import proofs.«01_k».proof.Proof.MlstmTable
public import proofs.«01_k».proof.Proof.MlstmWords
public import proofs.«01_k».proof.Proof.MlstmArgs

@[expose] public section

set_option maxRecDepth 16384

noncomputable section

open Idealize.ShloMosaic Idealize.ShloMosaic.TcCoe Idealize.SL.Sem
open Idealize.ShloMosaic.Pipeline (Dat)
open scoped BigOperators

namespace Cert.MlstmIdeal.Whole

open Cert.MlstmIdeal Cert.MlstmIdeal.Gen Cert.Recurrence

/-- The heads' results as a function of the six arguments. -/
def heads (a0 : FVec Ideal S16384x6144 .bf16) (a1 : FVec Ideal S16384x256 .f32) (a2 : FVec Ideal S4x768 .f32)
    (a3 a4 : FVec Ideal S4 .f32) (a5 : FVec Ideal S768 .f32) : FVec Ideal S16384x768 .bf16 := fun i =>
  (seqAt a0 a1 a2 a3 a4 ((i 0).val / 2048)).res ((i 1).val / 192) ((i 0).val % 2048) ((i 1).val % 192)
    (a5 (ix1 ⟨(i 1).val, (i 1).isLt⟩))
    (a0 (ix2 ⟨(i 0).val, (i 0).isLt⟩ ⟨5376 + (i 1).val, by have : (i 1).val < 768 := (i 1).isLt; omega⟩))

variable (m : (ℓ : Loc nD τ sig) → Buf (Elt Ideal) ℓ)

/-- The first five arguments hold real numbers. -/
structure Reals (c : Dev nD) : Prop where
  h0 : Finite (show FVec Ideal S16384x6144 .bf16 from m ((c : Thread nD τ).loc main_arg0))
  h1 : Finite (show FVec Ideal S16384x256 .f32 from m ((c : Thread nD τ).loc main_arg1))
  h2 : Finite (show FVec Ideal S4x768 .f32 from m ((c : Thread nD τ).loc main_arg2))
  h3 : Finite (show FVec Ideal S4 .f32 from m ((c : Thread nD τ).loc main_arg3))
  h4 : Finite (show FVec Ideal S4 .f32 from m ((c : Thread nD τ).loc main_arg4))

/-- The staged table of the running sums in numbers. -/
theorem sums_real (c : Dev nD) (t : Fin cfg0.N) (r x : Fin 128) :
    (show Vec Ideal S128x128 .bf16 from iblk m c 6 t) (ix2 r x) = ((if x.val ≤ r.val then 1 else 0 : ℝ) : EReal) := by
  rw [sums_at m c t r x, weight_word r x]
  by_cases h : x.val ≤ r.val
  · rw [if_pos h, if_pos h]; exact word_one
  · rw [if_neg h, if_neg h]; exact word_zero

/-- The staged levels compared with -1. -/
theorem levels_real (c : Dev nD) (t : Fin cfg0.N) (r x : Fin 128) :
    IntOp.cmpi CmpIPredicate.sge ((show IVec S128x128 32 from iblk m c 7 t) (ix2 r x)) 4294967295#32 = if x.val ≤ r.val then 1#1 else 0#1 := by
  rw [levels_at m c t r x]
  exact level_word r x

/-- The blocks of a grid point hold the real sequences of its arguments. -/
theorem fits (c : Dev nD) (R : Reals m c) (t : Fin cfg0.N) :
    Fits (blk m c t)
      (rowsAt (m ((c : Thread nD τ).loc main_arg0)) t.val)
      (weightsAt (m ((c : Thread nD τ).loc main_arg2)))
      (gatesAt (m ((c : Thread nD τ).loc main_arg1)) (m ((c : Thread nD τ).loc main_arg3)) (m ((c : Thread nD τ).loc main_arg4)) t.val)
      (valsAt (m ((c : Thread nD τ).loc main_arg0)) t.val) := by
  refine ⟨fun r k => ?_, fun r k => ?_, fun r k => ?_, fun j k => ?_, fun r x => ?_, fun r x => ?_⟩
  · exact (heads_at m c t r k).trans (cell_eq _ R.h0 _ _ _ _ rfl rfl)
  · exact (values_at m c t r ⟨k.val, by omega⟩).trans (cell_eq _ R.h0 _ _ _ _ rfl rfl)
  · refine (congrArg₂ (fun x y : EReal => x + y) ((gates_at m c t r k).trans (cell_eq _ R.h1 _ _ _ _ rfl rfl)) (offsets_at m c t 0 k)).trans ?_
    unfold gatesAt
    rw [EReal.coe_add]
    refine congrArg₂ (fun x y : EReal => x + y) rfl ?_
    split_ifs with h h'
    · exact spot_eq _ R.h3 _ _ rfl
    · exact spot_eq _ R.h4 _ _ rfl
    · rfl
  · refine (conv_at m c t j k).trans ?_
    unfold weightsAt
    split_ifs with h h' h'
    · exact cell_eq _ R.h2 _ _ _ _ rfl rfl
    · rfl
    · exact cell_eq _ R.h2 _ _ _ _ rfl rfl
    · rfl
  · exact sums_real m c t r x
  · have e : (blk m c t).x8 = (show IVec S128x128 32 from iblk m c 7 t) := by dsimp only [blk]
    rw [e]
    exact levels_real m c t r x

/-- What a grid point's block holds at token `r`, column `k` is the heads' result at the array place. -/
theorem point (c : Dev nD) (R : Reals m c) (t : Fin cfg0.N) (r : Fin 2048) (k : Fin 768) :
    (blk m c t).out (ix2 r k)
      = heads (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (ix2 ⟨t.val * 2048 + r.val, by have := point_lt t; omega⟩ k) := by
  have ht := point_lt t
  have hr := r.isLt
  refine (out_at _ _ _ _ _ (fits m c R t) r k).trans ?_
  unfold heads
  show (seqAt _ _ _ _ _ t.val).res _ _ _ _ _ = (seqAt _ _ _ _ _ ((t.val * 2048 + r.val) / 2048)).res (k.val / 192) ((t.val * 2048 + r.val) % 2048) (k.val % 192) _ _
  rw [show (t.val * 2048 + r.val) / 2048 = t.val by omega, show (t.val * 2048 + r.val) % 2048 = r.val by omega]
  refine congrArg₂ (fun w o => Seq.res _ _ _ _ w o) (norm_at m c t 0 k) ((values_at m c t r ⟨768 + k.val, by omega⟩).trans ?_)
  refine congrArg _ ?_
  funext a; apply Fin.ext
  match a with
  | ⟨0, _⟩ => rfl
  | ⟨1, _⟩ => show 4608 + (768 + k.val) = 5376 + k.val; omega

/-- The call's result array after the run holds the heads' results. -/
theorem result (c : Dev nD) (R : Reals m c) : (dats m 0 c).arrAt 8 (cfgs 0).N
    = heads (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  refine (dats m 0 c).arrAt_eq_of_covers 8 _ (by decide +kernel) fun t hf y => ?_
  blk_simp
  rw [show (dats m 0 c).after 8 t = (blk m c t).out by dsimp only [dats]]
  idx_vars y
  refine (point m c R t _ _).trans ?_
  refine congrArg _ ?_
  blk_ext [places t]

end Cert.MlstmIdeal.Whole

end
-- ==== Proof.MlstmEnd.lean ====
/- The recurrence's call over a whole run, and what its precondition says of the arguments. -/
module

public import proofs.«01_k».proof.Proof.MlstmValue
public import proofs.«01_k».proof.Pre_finite_mlstm

@[expose] public section

set_option maxRecDepth 16384

noncomputable section

open Idealize.ShloMosaic Idealize.ShloMosaic.TcCoe Idealize.SL.Sem
open Idealize.ShloMosaic.Pipeline (Dat)
open scoped BigOperators

namespace Cert.MlstmIdeal.Whole

open Cert.MlstmIdeal Cert.MlstmIdeal.Gen Cert.Recurrence

/-- The side conditions of the precondition's operations hold. -/
theorem pre_facts : Cert.Pre_finite_mlstm.Facts :=
  ⟨by decide, by decide +kernel, by decide +kernel, by decide +kernel, by decide +kernel⟩

/-- The precondition says that the first five arguments hold real numbers. -/
theorem real_args [Cert.Pre_finite_mlstm.Facts] (a0 : FVec Ideal S16384x6144 .bf16) (a1 : FVec Ideal S16384x256 .f32) (a2 : FVec Ideal S4x768 .f32)
    (a3 a4 : FVec Ideal S4 .f32) (a5 : FVec Ideal S768 .f32)
    (h : (Cert.Pre_finite_mlstm.fn (F := Ideal) a0 a1 a2 a3 a4 a5).1 = (fun _ => 1#1)
      ∧ (Cert.Pre_finite_mlstm.fn (F := Ideal) a0 a1 a2 a3 a4 a5).2.1 = (fun _ => 1#1)
      ∧ (Cert.Pre_finite_mlstm.fn (F := Ideal) a0 a1 a2 a3 a4 a5).2.2.1 = (fun _ => 1#1)
      ∧ (Cert.Pre_finite_mlstm.fn (F := Ideal) a0 a1 a2 a3 a4 a5).2.2.2.1 = (fun _ => 1#1)
      ∧ (Cert.Pre_finite_mlstm.fn (F := Ideal) a0 a1 a2 a3 a4 a5).2.2.2.2 = (fun _ => 1#1)) :
    Finite a0 ∧ Finite a1 ∧ Finite a2 ∧ Finite a3 ∧ Finite a4 :=
  ⟨fun i => real_of_below (a0 i) (congrFun h.1 i), fun i => real_of_below (a1 i) (congrFun h.2.1 i),
    fun i => real_of_below (a2 i) (congrFun h.2.2.1 i), fun i => real_of_below (a3 i) (congrFun h.2.2.2.1 i),
    fun i => real_of_below (a4 i) (congrFun h.2.2.2.2 i)⟩

variable (m : (ℓ : Loc nD τ sig) → Buf (Elt Ideal) ℓ) (ρ : Dev nD → PrngReg)

/-- From real arguments every execution ends with the heads' results in the result array and the arguments unchanged. -/
theorem run_value (R : ∀ c : Dev nD, Reals m c) :
    θ_run defs (onTc (τ := τ) (main (F := Ideal))) ⟨m, fun _ => 0, ρ⟩ fun r => ∀ c : Dev nD,
      r.2.mem ((c.tc : Thread nD τ).loc main_v13) = heads (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run_and (unchanged m ρ) (run_main m ρ)).mono fun r h c =>
    ⟨((h.2 c).1 8).trans (result m c (R c)), h.1 c⟩

end Cert.MlstmIdeal.Whole

end
-- ==== Proof.MlstmRefMix.lean ====
/- The stabilised scores of the reference over a whole sequence, from its gates, queries and keys. -/
module

public import proofs.«01_k».proof.Proof.Gen.MlstmReferenceIdeal.Read
public import Idealize.ShloMosaic.Lib.Pipeline.ValueKit
public import Idealize.ShloMosaic.Lib.Pointwise
public import proofs.«01_k».proof.Proof.MlstmRow
public import proofs.«01_k».proof.Proof.MlstmArgs

@[expose] public section

set_option maxRecDepth 16384

noncomputable section

open Idealize.ShloMosaic Idealize.ShloMosaic.TcCoe Idealize.SL.Sem
open scoped BigOperators

namespace Cert.MlstmReferenceIdeal.Value

open Cert.Recurrence Cert.MlstmReferenceIdeal Cert.MlstmReferenceIdeal.Gen Cert.MlstmReferenceIdeal.Read

variable (x0 : FVec Ideal S16384x6144 .bf16) (x1 : FVec Ideal S16384x256 .f32) (x2 : FVec Ideal S4x768 .f32)
  (x3 x4 : FVec Ideal S4 .f32) (x5 : FVec Ideal S768 .f32)

/-- The written zero is the number zero. -/
theorem zero_word : Ideal.ofBits FTy.f32 0x00000000#32 = ((0 : ℝ) : EReal) := by simp [Ideal.ofBits, Ideal.ieee]

/-- The comparison of two places below 2048, as a word. -/
theorem word_ge (t s : ℕ) (ht : t < 2048) (hs : s < 2048) :
    IntOp.cmpi CmpIPredicate.sge (BitVec.ofNat 32 t) (BitVec.ofNat 32 s) = if s ≤ t then 1#1 else 0#1 := by
  have et : (BitVec.ofNat 32 t).toInt = (t : ℤ) := by
    rw [BitVec.toInt_eq_toNat_of_lt (by rw [BitVec.toNat_ofNat, Nat.mod_eq_of_lt (by omega)]; omega), BitVec.toNat_ofNat, Nat.mod_eq_of_lt (by omega)]
  have es : (BitVec.ofNat 32 s).toInt = (s : ℤ) := by
    rw [BitVec.toInt_eq_toNat_of_lt (by rw [BitVec.toNat_ofNat, Nat.mod_eq_of_lt (by omega)]; omega), BitVec.toNat_ofNat, Nat.mod_eq_of_lt (by omega)]
  show BitVec.ofBool (decide ((BitVec.ofNat 32 s).toInt ≤ (BitVec.ofNat 32 t).toInt)) = _
  rw [et, es]
  by_cases h : s ≤ t
  · rw [if_pos h, decide_eq_true (by exact_mod_cast h)]; rfl
  · rw [if_neg h, decide_eq_false (by exact_mod_cast h)]; rfl

/-- The causal mask. -/
theorem mask_at (t s : Fin 2048) : val_main_v8 (F := Ideal) (ix2 t s) = if s.val ≤ t.val then 1#1 else 0#1 := by
  rw [val_main_v8_apply, val_main_v6_apply, val_main_v7_apply, val_main_v4_apply, val_main_v5_apply, val_main_v3_apply, val_main_v3_apply]
  exact word_ge t.val s.val t.isLt s.isLt

variable (b : Fin 8) (h : Fin 4) (a i : ℕ → ℝ)
  (ha : ∀ s : Fin 2048, val_main_v68 (F := Ideal) x1 x4 (ix3 b h s) = (a s.val : EReal))
  (hi : ∀ s : Fin 2048, val_main_v63 (F := Ideal) x1 x3 (ix3 b h s) = (i s.val : EReal))

include ha in
/-- The running sum of the forget gates' logarithms. -/
theorem run_at (t : Fin 2048) : val_main_v71 (F := Ideal) x1 x4 (ix3 b h t) = (cum a (t.val + 1) : EReal) := by
  have e : ∀ k : Fin 2048, val_main_v70 (F := Ideal) x1 x4 (idx_main_v71 (ix3 b h t) k)
      = ((if k.val ≤ t.val then a k.val else 0 : ℝ) : EReal) := fun k => by
    rw [val_main_v70_apply, val_main_call3_v1_apply, val_main_call3_v2_apply, val_main_call3_v3_apply, val_main_v69_apply,
      show idx_main_call3_v1 (idx_main_v71 (ix3 b h t) k) = ix2 t k from funext fun a => by match a with | ⟨0, _⟩ => rfl | ⟨1, _⟩ => rfl, mask_at,
      show idx_main_v69 (idx_main_call3_v2 (idx_main_v71 (ix3 b h t) k)) = ix3 b h k from funext fun a => by match a with | ⟨0, _⟩ => rfl | ⟨1, _⟩ => rfl | ⟨2, _⟩ => rfl, ha, select_if]
    split_ifs
    · rfl
    · exact zero_word
  rw [val_main_v71_apply, Finset.sum_congr rfl (fun k _ => e k), coe_sum, sum_upto a t.val t.isLt]
  refine (congrArg (· + _) zero_word).trans ?_
  rw [EReal.coe_zero, zero_add]
  rfl

include ha hi in
/-- The weight of one token for another before the stabiliser, in logarithms. -/
theorem pairs_at (t s : Fin 2048) : val_main_v80 (F := Ideal) x1 x3 x4 (ix4 b h t s)
    = if s.val ≤ t.val then (cum a (t.val + 1) : EReal) - (cum a (s.val + 1) : EReal) + (i s.val : EReal) else ⊥ := by
  rw [val_main_v80_apply, val_main_call4_v1_apply, val_main_call4_v2_apply, val_main_v79_apply, val_main_v76_apply, val_main_v78_apply,
    val_main_v77_apply, val_main_v74_apply, val_main_v75_apply, val_main_v72_apply, val_main_v73_apply,
    show idx_main_call4_v1 (ix4 b h t s) = ix2 t s from funext fun a => by match a with | ⟨0, _⟩ => rfl | ⟨1, _⟩ => rfl, mask_at,
    show idx_main_v72 (idx_main_v74 (ix4 b h t s)) = ix3 b h t from funext fun a => by match a with | ⟨0, _⟩ => rfl | ⟨1, _⟩ => rfl | ⟨2, _⟩ => rfl,
    show idx_main_v73 (idx_main_v75 (ix4 b h t s)) = ix3 b h s from funext fun a => by match a with | ⟨0, _⟩ => rfl | ⟨1, _⟩ => rfl | ⟨2, _⟩ => rfl,
    show idx_main_v77 (idx_main_v78 (ix4 b h t s)) = ix3 b h s from funext fun a => by match a with | ⟨0, _⟩ => rfl | ⟨1, _⟩ => rfl | ⟨2, _⟩ => rfl,
    run_at x1 x4 b h a ha t, run_at x1 x4 b h a ha s, hi, select_if]
  split_ifs
  · rfl
  · exact word_bot

/-- A maximum along the last axis, from a starting word. -/
theorem max_along {n0 n1 n2 n3 : ℕ} {u : Shape} (h : (⟨4, ![n0, n1, n2, n3]⟩ : Shape).ReducesTo [3] ⟨3, ![n0, n1, n2]⟩) (hu : 0 < u.numel)
    (z : FVec Ideal ⟨4, ![n0, n1, n2, n3]⟩ .f32) (c : FVec Ideal u .f32) (a : Fin n0) (b : Fin n1) (t : Fin n2) :
    Host.reduce (FloatOps.maximumf (F := Ideal) (φ := .f32)) z c h hu (ix3 a b t)
      = Finset.univ.fold max (c (Shape.Idx.first hu)) fun x => z (ix4 a b t x) := by
  pointwise []

include ha hi in
/-- The stabiliser of a token. -/
theorem peak_at (t : Fin 2048) : val_main_v82 (F := Ideal) x1 x3 x4 (ix3 b h t) = (peak a i t.val : EReal) := by
  rw [val_main_v82_apply, run_at x1 x4 b h a ha t]
  unfold val_main_v81
  rw [max_along reducesTo_S8x4x2048x2048_S8x4x2048_d3 h_S_ (val_main_v80 (F := Ideal) x1 x3 x4) (val_main_cst_4 (F := Ideal)) b h t,
    show val_main_cst_4 (F := Ideal) (Shape.Idx.first h_S_) = (⊥ : EReal) from word_bot]
  have e : (fun x : Fin 2048 => val_main_v80 (F := Ideal) x1 x3 x4 (ix4 b h t x)) = fun x : Fin 2048 => if x.val ≤ t.val then
      (cum a (t.val + 1) : EReal) - (cum a (x.val + 1) : EReal) + (i x.val : EReal) else ⊥ := funext fun x => pairs_at x1 x3 x4 b h a i ha hi t x
  rw [e]
  have r := row_max (N := 2048) a i 0 t.val t.isLt
  simp only [Nat.zero_add, cum, top, Finset.range_zero, Finset.sum_empty, sub_zero, add_zero, EReal.coe_zero] at r
  exact r

include ha hi in
/-- The stabilised weight of one token for another. -/
theorem gate_at (t s : Fin 2048) : val_main_v87 (F := Ideal) x1 x3 x4 (ix4 b h t s)
    = ((if s.val ≤ t.val then share a i (t.val + 1) s.val else 0 : ℝ) : EReal) := by
  rw [val_main_v87_apply, val_main_v86_apply, val_main_v85_apply, val_main_v84_apply,
    show idx_main_v84 (idx_main_v85 (ix4 b h t s)) = ix3 b h t from funext fun a => by match a with | ⟨0, _⟩ => rfl | ⟨1, _⟩ => rfl | ⟨2, _⟩ => rfl, pairs_at x1 x3 x4 b h a i ha hi t s, peak_at x1 x3 x4 b h a i ha hi t]
  have r := pair_gate a i 0 t.val s.val
  simp only [Nat.zero_add, cum, Finset.range_zero, Finset.sum_empty, sub_zero] at r
  exact r

variable (g : Seq)
  (hq : ∀ (t : Fin 2048) (d : Fin 96), val_main_v54 (F := Ideal) x0 x2 (ix4 b t h d) = (g.Q t.val (128 * h.val + d.val) : EReal))
  (hk : ∀ (t : Fin 2048) (d : Fin 96), val_main_v58 (F := Ideal) x0 x2 (ix4 b t h d) = (g.K t.val (128 * h.val + d.val) : EReal))
  (hz : ∀ t d : ℕ, 96 ≤ d → d < 128 → g.Q t (128 * h.val + d) = 0)

include hq hk hz in
/-- The score of one token for another. -/
theorem dot_at (t s : Fin 2048) : val_main_v83 (F := Ideal) x0 x2 (ix4 b h t s) = (g.dot h.val t.val s.val : EReal) := by
  have e : ∀ k : Fin 96, val_main_v54 (F := Ideal) x0 x2 (lidx_main_v83 (ix4 b h t s) k) * val_main_v58 (F := Ideal) x0 x2 (ridx_main_v83 (ix4 b h t s) k)
      = ((g.Q t.val (128 * h.val + k.val) * g.K s.val (128 * h.val + k.val) : ℝ) : EReal) := fun k => by
    rw [show lidx_main_v83 (ix4 b h t s) k = ix4 b t h k from funext fun a => by match a with | ⟨0, _⟩ => rfl | ⟨1, _⟩ => rfl | ⟨2, _⟩ => rfl | ⟨3, _⟩ => rfl,
      show ridx_main_v83 (ix4 b h t s) k = ix4 b s h k from funext fun a => by match a with | ⟨0, _⟩ => rfl | ⟨1, _⟩ => rfl | ⟨2, _⟩ => rfl | ⟨3, _⟩ => rfl, hq, hk, EReal.coe_mul]
  rw [val_main_v83_apply, Finset.sum_congr rfl (fun k _ => e k), coe_sum]
  congr 1
  unfold Seq.dot
  rw [Fin.sum_univ_eq_sum_range (fun d => g.Q t.val (128 * h.val + d) * g.K s.val (128 * h.val + d)) 96,
    Fin.sum_univ_eq_sum_range (fun d => g.Q t.val (128 * h.val + d) * g.K s.val (128 * h.val + d)) 128]
  refine Finset.sum_subset (fun d hd => Finset.mem_range.2 (by have := Finset.mem_range.1 hd; omega)) fun d hd hn => ?_
  rw [hz t.val d (by have := mt Finset.mem_range.2 hn; omega) (Finset.mem_range.1 hd), zero_mul]

include ha hi hq hk hz in
/-- The stabilised score of one token for another. -/
theorem score_at (t s : Fin 2048) : val_main_v88 (F := Ideal) x0 x1 x2 x3 x4 (ix4 b h t s)
    = ((if s.val ≤ t.val then g.dot h.val t.val s.val * share a i (t.val + 1) s.val else 0 : ℝ) : EReal) := by
  rw [val_main_v88_apply, dot_at x0 x2 b h g hq hk hz t s, gate_at x1 x3 x4 b h a i ha hi t s]
  refine (EReal.coe_mul _ _).symm.trans ?_
  congr 1
  split_ifs
  · rfl
  · exact mul_zero _

end Cert.MlstmReferenceIdeal.Value

end
-- ==== Proof.MlstmRefHead.lean ====
/- The reference's heads and its result, from its gates, queries, keys and values. -/
module

public import proofs.«01_k».proof.Proof.Gen.MlstmReferenceIdeal.Read
public import Idealize.ShloMosaic.Lib.Pipeline.ValueKit
public import Idealize.ShloMosaic.Lib.Pointwise
public import proofs.«01_k».proof.Proof.MlstmRefMix

@[expose] public section

set_option maxRecDepth 16384

noncomputable section

open Idealize.ShloMosaic Idealize.ShloMosaic.TcCoe Idealize.SL.Sem
open scoped BigOperators

namespace Cert.MlstmReferenceIdeal.Value

open Cert.Recurrence Cert.MlstmReferenceIdeal Cert.MlstmReferenceIdeal.Gen Cert.MlstmReferenceIdeal.Read

variable (x0 : FVec Ideal S16384x6144 .bf16) (x1 : FVec Ideal S16384x256 .f32) (x2 : FVec Ideal S4x768 .f32)
  (x3 x4 : FVec Ideal S4 .f32) (x5 : FVec Ideal S768 .f32)

variable (b : Fin 8) (h : Fin 4) (g : Seq)
  (ha : ∀ s : Fin 2048, val_main_v68 (F := Ideal) x1 x4 (ix3 b h s) = (g.a h.val s.val : EReal))
  (hi : ∀ s : Fin 2048, val_main_v63 (F := Ideal) x1 x3 (ix3 b h s) = (g.i h.val s.val : EReal))
  (hq : ∀ (t : Fin 2048) (d : Fin 96), val_main_v54 (F := Ideal) x0 x2 (ix4 b t h d) = (g.Q t.val (128 * h.val + d.val) : EReal))
  (hk : ∀ (t : Fin 2048) (d : Fin 96), val_main_v58 (F := Ideal) x0 x2 (ix4 b t h d) = (g.K t.val (128 * h.val + d.val) : EReal))
  (hz : ∀ t d : ℕ, 96 ≤ d → d < 128 → g.Q t (128 * h.val + d) = 0)
  (hv : ∀ (t : Fin 2048) (d : Fin 192), val_main_v59 (F := Ideal) x0 (ix4 b t h d) = (g.V t.val (192 * h.val + d.val) : EReal))

include ha hi hq hk hz hv in
/-- The numerator of a head at a token and column. -/
theorem num_at (t : Fin 2048) (d : Fin 192) : val_main_v90 (F := Ideal) x0 x1 x2 x3 x4 (ix4 b t h d) = (g.num h.val t.val d.val : EReal) := by
  have e : ∀ k : Fin 2048, val_main_v59 (F := Ideal) x0 (lidx_main_v89 (idx_main_v90 (ix4 b t h d)) k)
      * val_main_v88 (F := Ideal) x0 x1 x2 x3 x4 (ridx_main_v89 (idx_main_v90 (ix4 b t h d)) k)
      = ((if k.val ≤ t.val then g.dot h.val t.val k.val * share (g.a h.val) (g.i h.val) (t.val + 1) k.val * g.V k.val (192 * h.val + d.val) else 0 : ℝ) : EReal) := fun k => by
    rw [show lidx_main_v89 (idx_main_v90 (ix4 b t h d)) k = ix4 b k h d from funext fun a => by match a with | ⟨0, _⟩ => rfl | ⟨1, _⟩ => rfl | ⟨2, _⟩ => rfl | ⟨3, _⟩ => rfl,
      show ridx_main_v89 (idx_main_v90 (ix4 b t h d)) k = ix4 b h t k from funext fun a => by match a with | ⟨0, _⟩ => rfl | ⟨1, _⟩ => rfl | ⟨2, _⟩ => rfl | ⟨3, _⟩ => rfl, hv,
      score_at x0 x1 x2 x3 x4 b h (g.a h.val) (g.i h.val) ha hi g hq hk hz t k, ← EReal.coe_mul]
    congr 1
    split_ifs
    · ring
    · exact mul_zero _
  rw [val_main_v90_apply, val_main_v89_apply, Finset.sum_congr rfl (fun k _ => e k), coe_sum,
    sum_upto (fun k => g.dot h.val t.val k * share (g.a h.val) (g.i h.val) (t.val + 1) k * g.V k (192 * h.val + d.val)) t.val t.isLt]
  rfl

include ha hi hq hk hz in
/-- The normaliser of a head at a token. -/
theorem den_at (t : Fin 2048) : val_main_v91 (F := Ideal) x0 x1 x2 x3 x4 (ix3 b h t) = (g.den h.val t.val : EReal) := by
  have e : ∀ k : Fin 2048, val_main_v88 (F := Ideal) x0 x1 x2 x3 x4 (idx_main_v91 (ix3 b h t) k)
      = ((if k.val ≤ t.val then g.dot h.val t.val k.val * share (g.a h.val) (g.i h.val) (t.val + 1) k.val * 1 else 0 : ℝ) : EReal) := fun k => by
    rw [show idx_main_v91 (ix3 b h t) k = ix4 b h t k from funext fun a => by match a with | ⟨0, _⟩ => rfl | ⟨1, _⟩ => rfl | ⟨2, _⟩ => rfl | ⟨3, _⟩ => rfl,
      score_at x0 x1 x2 x3 x4 b h (g.a h.val) (g.i h.val) ha hi g hq hk hz t k, mul_one]
  rw [val_main_v91_apply, Finset.sum_congr rfl (fun k _ => e k), coe_sum,
    sum_upto (fun k => g.dot h.val t.val k * share (g.a h.val) (g.i h.val) (t.val + 1) k * 1) t.val t.isLt]
  refine (congrArg (· + _) zero_word).trans ?_
  rw [EReal.coe_zero, zero_add]
  rfl

include ha hi hq hk hz hv in
/-- A head at a token and column, before its normalisation. -/
theorem y_at (t : Fin 2048) (d : Fin 192) : val_main_v99 (F := Ideal) x0 x1 x2 x3 x4 (ix4 b t h d) = g.y h.val t.val d.val := by
  rw [val_main_v99_apply, val_main_v98_apply, val_main_v97_apply, val_main_v96_apply, val_main_v95_apply, val_main_v92_apply,
    val_main_v94_apply, val_main_v93_apply,
    show idx_main_v96 (idx_main_v97 (idx_main_v98 (ix4 b t h d))) = ix3 b h t from funext fun a => by match a with | ⟨0, _⟩ => rfl | ⟨1, _⟩ => rfl | ⟨2, _⟩ => rfl,
    num_at x0 x1 x2 x3 x4 b h g ha hi hq hk hz hv t d, den_at x0 x1 x2 x3 x4 b h g ha hi hq hk hz t,
    peak_at x1 x3 x4 b h (g.a h.val) (g.i h.val) ha hi t]
  unfold Seq.y
  rw [← Ideal.exp_coe, EReal.coe_neg]
  rfl

/-- The output gates' columns. -/
theorem gate_col (t : Fin 2048) (c : Fin 768) : val_main_v18 (F := Ideal) x0 (ix3 b t c)
    = x0 (ix2 ⟨b.val * 2048 + t.val, by omega⟩ ⟨5376 + c.val, by omega⟩) := by
  pointwise [val_main_v18, val_main_v1, val_main_v0]

include ha hi hq hk hz hv in
/-- The reference's result at a token and column of a head. -/
theorem res_at (t : Fin 2048) (d : Fin 192) (r : Fin 16384) (c : Fin 768) (hr : r.val = b.val * 2048 + t.val)
    (hc : c.val = 192 * h.val + d.val) :
    val_main_v123 (F := Ideal) x0 x1 x2 x3 x4 x5 (ix2 r c)
      = g.res h.val t.val d.val (x5 (ix1 c)) (x0 (ix2 r ⟨5376 + c.val, by omega⟩)) := by
  have hb := b.isLt; have hh := h.isLt; have ht := t.isLt; have hd := d.isLt
  have e1 : idx_main_v122 (ix2 r c) = ix3 b t c := funext fun a => by
    match a with
    | ⟨0, _⟩ => exact Fin.ext (by show (r.val * 768 + c.val) / 1572864 = b.val; omega)
    | ⟨1, _⟩ => exact Fin.ext (by show (r.val * 768 + c.val) / 768 % 2048 = t.val; omega)
    | ⟨2, _⟩ => exact Fin.ext (by show (r.val * 768 + c.val) % 768 = c.val; omega)
  have e2 : idx_main_v114 (ix3 b t c) = ix4 b t h d := funext fun a => by
    match a with
    | ⟨0, _⟩ => exact Fin.ext (by show ((b.val * 2048 + t.val) * 768 + c.val) / 1572864 = b.val; omega)
    | ⟨1, _⟩ => exact Fin.ext (by show ((b.val * 2048 + t.val) * 768 + c.val) / 768 % 2048 = t.val; omega)
    | ⟨2, _⟩ => exact Fin.ext (by show ((b.val * 2048 + t.val) * 768 + c.val) / 192 % 4 = h.val; omega)
    | ⟨3, _⟩ => exact Fin.ext (by show ((b.val * 2048 + t.val) * 768 + c.val) % 192 = d.val; omega)
  have e3 : idx_main_v100 (idx_main_v111 (idx_main_v112 (ix4 b t h d))) = ix1 c := funext fun a => by
    match a with
    | ⟨0, _⟩ => exact Fin.ext (by show h.val * 192 + d.val = c.val; omega)
  have es : ∀ k : Fin 192, val_main_v101 (F := Ideal) x0 x1 x2 x3 x4 (idx_main_v102 (ix3 b t h) k)
      = g.y h.val t.val k.val * g.y h.val t.val k.val := fun k => by
    rw [val_main_v101_apply, show idx_main_v102 (ix3 b t h) k = ix4 b t h k from funext fun a => by match a with | ⟨0, _⟩ => rfl | ⟨1, _⟩ => rfl | ⟨2, _⟩ => rfl | ⟨3, _⟩ => rfl,
      y_at x0 x1 x2 x3 x4 b h g ha hi hq hk hz hv t k]
    rfl
  have ed : val_main_v102 (F := Ideal) x0 x1 x2 x3 x4 (ix3 b t h) = ∑ k : Fin 192, g.y h.val t.val k.val * g.y h.val t.val k.val := by
    rw [val_main_v102_apply, Finset.sum_congr rfl (fun k _ => es k)]
    refine (congrArg (· + _) zero_word).trans ?_
    rw [EReal.coe_zero, zero_add]
  have er : (⟨b.val * 2048 + t.val, by omega⟩ : Fin 16384) = r := Fin.ext hr.symm
  rw [val_main_v123_apply, val_main_v122_apply, val_main_v121_apply, e1, val_main_v114_apply, e2, val_main_v113_apply, val_main_v110_apply,
    val_main_v109_apply, val_main_v108_apply, val_main_v107_apply, val_main_v105_apply, val_main_v106_apply, val_main_v104_apply, val_main_v103_apply,
    show idx_main_v103 (idx_main_v109 (ix4 b t h d)) = ix3 b t h from funext fun a => by match a with | ⟨0, _⟩ => rfl | ⟨1, _⟩ => rfl | ⟨2, _⟩ => rfl, ed,
    val_main_v112_apply, val_main_v111_apply, val_main_v100_apply, e3,
    y_at x0 x1 x2 x3 x4 b h g ha hi hq hk hz hv t d,
    val_main_v120_apply, val_main_v119_apply, val_main_v118_apply, val_main_v117_apply, val_main_v116_apply, val_main_v115_apply,
    gate_col x0 b t c, er]
  have one : Ideal.ofBits FTy.f32 0x3F800000#32 = (1 : EReal) := by
    have e : (1065353216 >>> 23 % 256 : ℕ) = 127 := by decide
    have b : ¬ BitVec.extractLsb' 31 1 1065353216#32 = 1#1 := by decide
    norm_num [Ideal.ofBits, Ideal.ieee, e, b]
  show g.y h.val t.val d.val * Ideal.rsqrt (Ideal.div (∑ k : Fin 192, g.y h.val t.val k.val * g.y h.val t.val k.val) (Ideal.ofBits FTy.f32 1128267776#32)
    + Ideal.ofBits FTy.f32 897988541#32) * x5 (ix1 c) * Ideal.div (Ideal.ofBits FTy.f32 0x3F800000#32) (Ideal.ofBits FTy.f32 0x3F800000#32
      + Ideal.exp (-(x0 (ix2 r ⟨5376 + c.val, by omega⟩)))) = _
  rw [one]
  rfl

end Cert.MlstmReferenceIdeal.Value

end
-- ==== Proof.MlstmRefArgs.lean ====
/- The reference's queries, keys, values and gates, from its arguments. -/
module

public import proofs.«01_k».proof.Proof.Gen.MlstmReferenceIdeal.Read
public import Idealize.ShloMosaic.Lib.Pipeline.ValueKit
public import Idealize.ShloMosaic.Lib.Pointwise
public import proofs.«01_k».proof.Proof.MlstmRefMix
public import proofs.«01_k».proof.Proof.MlstmGate

@[expose] public section

set_option maxRecDepth 16384

noncomputable section

open Idealize.ShloMosaic Idealize.ShloMosaic.TcCoe Idealize.SL.Sem
open scoped BigOperators

namespace Cert.MlstmReferenceIdeal.Value

open Cert.Recurrence Cert.MlstmReferenceIdeal Cert.MlstmReferenceIdeal.Gen Cert.MlstmReferenceIdeal.Read

variable (x0 : FVec Ideal S16384x6144 .bf16) (x1 : FVec Ideal S16384x256 .f32) (x2 : FVec Ideal S4x768 .f32)
  (x3 x4 : FVec Ideal S4 .f32) (x5 : FVec Ideal S768 .f32)

/-- The column of the padded heads that a column of the reference's queries and keys is. -/
def col (c : ℕ) : ℕ := if c < 384 then c / 96 * 128 + c % 96 else 512 + ((c - 384) / 96 * 128 + (c - 384) % 96)

/-- A cell of the convolution's weights, by the column of the padded heads. -/
theorem weight_col (h2 : Finite x2) (j : Fin 4) (c : Fin 768) (n : ℕ) (hn : j.val = n) :
    x2 (ix2 j c) = (weightsAt x2 n (col c.val) : EReal) := by
  have hc := c.isLt
  rw [cell_eq x2 h2 j c n c.val hn rfl]
  congr 1
  unfold weightsAt col
  by_cases h : c.val < 384
  · rw [if_pos h, if_pos (by omega), if_pos (by omega)]
    congr 1; omega
  · rw [if_neg h, if_neg (by omega), if_pos (by omega)]
    congr 1; omega

/-- A column past a head's 96 has no weight. -/
theorem weight_zero (j h d : ℕ) (hh : h < 4) (h1 : 96 ≤ d) (h2 : d < 128) : weightsAt x2 j (128 * h + d) = 0 := by
  unfold weightsAt
  rw [if_pos (by omega), if_neg (by omega)]

/-- The rows of the queries and keys. -/
theorem qk_at (h0 : Finite x0) (b : Fin 8) (t : Fin 2048) (c : Fin 768) :
    val_main_v21 (F := Ideal) x0 (ix3 b t c) = (rowsAt x0 b.val t.val (col c.val) : EReal) := by
  have e : val_main_v21 (F := Ideal) x0 (ix3 b t c) = if h : c.val < 384
      then x0 (ix2 ⟨b.val * 2048 + t.val, by omega⟩ ⟨1024 + (c.val / 96 * 128 + c.val % 96), by omega⟩)
      else x0 (ix2 ⟨b.val * 2048 + t.val, by omega⟩ ⟨1536 + ((c.val - 384) / 96 * 128 + (c.val - 384) % 96), by omega⟩) := by
    pointwise [val_main_v21, val_main_v16, val_main_v15, val_main_v14, val_main_v13, val_main_v12, val_main_v11, val_main_v10, val_main_v9, val_main_v1, val_main_v0]
  rw [e]
  unfold rowsAt col
  split_ifs with h
  · exact cell_eq x0 h0 _ _ _ _ rfl rfl
  · exact cell_eq x0 h0 _ _ _ _ rfl (by show 1536 + _ = 1024 + (512 + _); omega)

/-- One tap of the convolution. -/
theorem tap (p : Prop) [Decidable p] (u : p → EReal) (X : ℕ → ℕ → ℝ) (s c : ℕ) (w : ℝ) (hp : p ↔ 8 ≤ s)
    (hu : ∀ h, u h = (X (s - 8) c : EReal)) :
    (if h : p then u h else FloatOps.sitofp (F := Ideal) FTy.f32 0#32) * (w : EReal) = ((w * Cert.Recurrence.pad X s c : ℝ) : EReal) := by
  unfold Cert.Recurrence.pad
  by_cases h : p
  · rw [dif_pos h, if_pos (hp.1 h), hu h, ← EReal.coe_mul, mul_comm]
  · rw [dif_neg h, if_neg (fun q => h (hp.2 q)), mul_zero]
    show (((0#32).toInt : ℝ) : EReal) * _ = _
    simp

/-- The convolution. -/
theorem conv_at (h0 : Finite x0) (h2 : Finite x2) (b : Fin 8) (t : Fin 2048) (c : Fin 768) :
    val_main_v51 (F := Ideal) x0 x2 (ix3 b t c) = (conv (rowsAt x0 b.val) (weightsAt x2) t.val (col c.val) : EReal) := by
  have ht := t.isLt
  have hy : ∀ s : Fin 2048, val_main_v21 (F := Ideal) x0 (ix3 b s c) = (rowsAt x0 b.val s.val (col c.val) : EReal) := fun s => qk_at x0 h0 b s c
  unfold val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_call0_v0 val_main_c val_main_cst
  generalize val_main_v21 (F := Ideal) x0 = y at hy
  pointwise []
  rw [weight_col x2 h2 0 c 0 rfl, weight_col x2 h2 1 c 1 rfl, weight_col x2 h2 2 c 2 rfl, weight_col x2 h2 3 c 3 rfl,
    tap _ _ (rowsAt x0 b.val) (t.val + 5) (col c.val) _ (by omega) (fun h => (hy _).trans (by congr 2 <;> (show t.val - 3 = _; omega))),
    tap _ _ (rowsAt x0 b.val) (t.val + 6) (col c.val) _ (by omega) (fun h => (hy _).trans (by congr 2 <;> (show 1 + t.val - 3 = _; omega))),
    tap _ _ (rowsAt x0 b.val) (t.val + 7) (col c.val) _ (by omega) (fun h => (hy _).trans (by congr 2 <;> (show 2 + t.val - 3 = _; omega))),
    hy, ← EReal.coe_mul, ← EReal.coe_add, ← EReal.coe_add, ← EReal.coe_add]
  congr 1
  unfold conv
  rw [show Cert.Recurrence.pad (rowsAt x0 b.val) (t.val + 8) (col c.val) = rowsAt x0 b.val t.val (col c.val) from by
    unfold Cert.Recurrence.pad; rw [if_pos (by omega), Nat.add_sub_cancel]]
  ring

/-- The activated convolution. -/
theorem silu_at (h0 : Finite x0) (h2 : Finite x2) (b : Fin 8) (t : Fin 2048) (c : Fin 768) :
    val_main_v52 (F := Ideal) x0 x2 (ix3 b t c) = (silu (conv (rowsAt x0 b.val) (weightsAt x2) t.val (col c.val)) : EReal) := by
  rw [val_main_v52_apply, val_main_call1_v5_apply, val_main_call1_v4_apply, val_main_call1_v3_apply, val_main_call1_v2_apply,
    val_main_call1_v1_apply, val_main_call1_v0_apply, conv_at x0 x2 h0 h2 b t c, ← silu_real]
  generalize conv (rowsAt x0 b.val) (weightsAt x2) t.val (col c.val) = g
  have one : Ideal.ofBits FTy.f32 0x3F800000#32 = (1 : EReal) := by
    have e : (1065353216 >>> 23 % 256 : ℕ) = 127 := by decide
    have b : ¬ BitVec.extractLsb' 31 1 1065353216#32 = 1#1 := by decide
    norm_num [Ideal.ofBits, Ideal.ieee, e, b]
  show (g : EReal) * Ideal.div (Ideal.ofBits FTy.f32 0x3F800000#32) (Ideal.ofBits FTy.f32 0x3F800000#32 + Ideal.exp (-(g : EReal))) = _
  rw [one]
  rfl

/-- The queries. -/
theorem query_at (h0 : Finite x0) (h2 : Finite x2) (b : Fin 8) (t : Fin 2048) (h : Fin 4) (d : Fin 96) :
    val_main_v54 (F := Ideal) x0 x2 (ix4 b t h d) = (silu (conv (rowsAt x0 b.val) (weightsAt x2) t.val (128 * h.val + d.val)) : EReal) := by
  have hb := b.isLt; have ht := t.isLt; have hh := h.isLt; have hd := d.isLt
  have e : idx_main_v53 (idx_main_v54 (ix4 b t h d)) = ix3 b t ⟨h.val * 96 + d.val, by omega⟩ := funext fun a => by
    match a with
    | ⟨0, _⟩ => exact Fin.ext (by show (((b.val * 2048 + t.val) * 4 + h.val) * 96 + d.val) / 786432 = b.val; omega)
    | ⟨1, _⟩ => exact Fin.ext (by show (((b.val * 2048 + t.val) * 4 + h.val) * 96 + d.val) / 384 % 2048 = t.val; omega)
    | ⟨2, _⟩ => exact Fin.ext (by show (((b.val * 2048 + t.val) * 4 + h.val) * 96 + d.val) % 384 = h.val * 96 + d.val; omega)
  rw [val_main_v54_apply, val_main_v53_apply, e, silu_at x0 x2 h0 h2]
  rw [show col (h.val * 96 + d.val) = 128 * h.val + d.val from by unfold col; rw [if_pos (by omega)]; omega]

/-- The keys. -/
theorem key_at (h0 : Finite x0) (h2 : Finite x2) (b : Fin 8) (t : Fin 2048) (h : Fin 4) (d : Fin 96) :
    val_main_v58 (F := Ideal) x0 x2 (ix4 b t h d)
      = (silu (conv (rowsAt x0 b.val) (weightsAt x2) t.val (512 + (128 * h.val + d.val))) * kscale : ℝ) := by
  have hb := b.isLt; have ht := t.isLt; have hh := h.isLt; have hd := d.isLt
  have e : idx_main_v55 (idx_main_v56 (ix4 b t h d)) = ix3 b t ⟨384 + (h.val * 96 + d.val), by omega⟩ := funext fun a => by
    match a with
    | ⟨0, _⟩ => exact Fin.ext (by show (((b.val * 2048 + t.val) * 4 + h.val) * 96 + d.val) / 786432 = b.val; omega)
    | ⟨1, _⟩ => exact Fin.ext (by show (((b.val * 2048 + t.val) * 4 + h.val) * 96 + d.val) / 384 % 2048 = t.val; omega)
    | ⟨2, _⟩ => exact Fin.ext (by show 384 + (((b.val * 2048 + t.val) * 4 + h.val) * 96 + d.val) % 384 = 384 + (h.val * 96 + d.val); omega)
  rw [val_main_v58_apply, val_main_v57_apply, val_main_v56_apply, val_main_v55_apply, e, silu_at x0 x2 h0 h2]
  rw [show col (384 + (h.val * 96 + d.val)) = 512 + (128 * h.val + d.val) from by unfold col; rw [if_neg (by omega)]; omega]
  refine (congrArg (_ * ·) kscale_word).trans ?_
  exact (EReal.coe_mul _ _).symm

/-- A query past a head's 96 columns is zero. -/
theorem query_zero (X : ℕ → ℕ → ℝ) (t h d : ℕ) (hh : h < 4) (h1 : 96 ≤ d) (h2 : d < 128) : silu (conv X (weightsAt x2) t (128 * h + d)) = 0 := by
  unfold conv
  rw [weight_zero x2 0 h d hh h1 h2, weight_zero x2 1 h d hh h1 h2, weight_zero x2 2 h d hh h1 h2, weight_zero x2 3 h d hh h1 h2]
  simp [silu]

/-- The values. -/
theorem vals_at (h0 : Finite x0) (b : Fin 8) (t : Fin 2048) (h : Fin 4) (d : Fin 192) :
    val_main_v59 (F := Ideal) x0 (ix4 b t h d) = (valsAt x0 b.val t.val (192 * h.val + d.val) : EReal) := by
  have e : val_main_v59 (F := Ideal) x0 (ix4 b t h d)
      = x0 (ix2 ⟨b.val * 2048 + t.val, by omega⟩ ⟨4608 + (h.val * 192 + d.val), by omega⟩) := by
    pointwise [val_main_v59, val_main_v17, val_main_v1, val_main_v0]
  rw [e]
  exact cell_eq x0 h0 _ _ _ _ rfl (by show 4608 + (h.val * 192 + d.val) = 4608 + (192 * h.val + d.val); omega)

/-- The input gates. -/
theorem in_at (h1 : Finite x1) (h3 : Finite x3) (b : Fin 8) (t : Fin 2048) (h : Fin 4) :
    val_main_v63 (F := Ideal) x1 x3 (ix3 b h t) = (gatesAt x1 x3 x4 b.val t.val h.val : EReal) := by
  have e : val_main_v63 (F := Ideal) x1 x3 (ix3 b h t)
      = x1 (ix2 ⟨b.val * 2048 + t.val, by omega⟩ ⟨128 + h.val, by omega⟩) + x3 (ix1 h) := by
    pointwise [val_main_v63, val_main_v62, val_main_v61, val_main_v60, val_main_v19, val_main_v2]
  have hh := h.isLt
  rw [e, cell_eq x1 h1 _ _ (b.val * 2048 + t.val) (128 + h.val) rfl rfl, spot_eq x3 h3 h h.val rfl, ← EReal.coe_add]
  unfold gatesAt
  rw [if_pos (by omega), if_pos hh]

/-- The forget gates before their transform. -/
theorem keep_at (h1 : Finite x1) (h4 : Finite x4) (b : Fin 8) (t : Fin 2048) (h : Fin 4) :
    val_main_v66 (F := Ideal) x1 x4 (ix3 b t h) = (gatesAt x1 x3 x4 b.val t.val (4 + h.val) : EReal) := by
  have e : val_main_v66 (F := Ideal) x1 x4 (ix3 b t h)
      = x1 (ix2 ⟨b.val * 2048 + t.val, by omega⟩ ⟨132 + h.val, by omega⟩) + x4 (ix1 h) := by
    pointwise [val_main_v66, val_main_v65, val_main_v64, val_main_v20, val_main_v2]
  have hh := h.isLt
  rw [e, cell_eq x1 h1 _ _ (b.val * 2048 + t.val) (128 + (4 + h.val)) rfl (by show 132 + h.val = _; omega), spot_eq x4 h4 h (4 + h.val - 4) (by omega),
    ← EReal.coe_add]
  unfold gatesAt
  rw [if_pos (by omega), if_neg (by omega)]

/-- The forget gates' logarithms. -/
theorem log_at (h1 : Finite x1) (h4 : Finite x4) (b : Fin 8) (t : Fin 2048) (h : Fin 4) :
    val_main_v68 (F := Ideal) x1 x4 (ix3 b h t) = (logsig (gatesAt x1 x3 x4 b.val t.val (4 + h.val)) : EReal) := by
  rw [val_main_v68_apply, show idx_main_v68 (ix3 b h t) = ix3 b t h from funext fun a => by match a with | ⟨0, _⟩ => rfl | ⟨1, _⟩ => rfl | ⟨2, _⟩ => rfl, val_main_v67_apply, val_main_call2_v1_apply,
    val_main_call2_call0_v4_apply, val_main_call2_call0_v6_apply, val_main_call2_call0_v11_apply, val_main_call2_call0_v10_apply,
    val_main_call2_call0_v9_apply, val_main_call2_call0_v8_apply, val_main_call2_call0_v7_apply, val_main_call2_call0_v5_apply,
    val_main_call2_call0_v3_apply, val_main_call2_call0_v2_apply, val_main_call2_call0_v1_apply, val_main_call2_call0_v0_apply,
    val_main_call2_v0_apply, keep_at x1 x3 x4 h1 h4 b t h]
  generalize gatesAt x1 x3 x4 b.val t.val (4 + h.val) = g
  have z : ∀ i, val_main_call2_call0_cst (F := Ideal) i = ((0 : ℝ) : EReal) := fun i => zero_word
  rw [z]
  rw [← log_gate' g]
  have s : FloatOps.subf (F := Ideal) (φ := .f32) (FloatOps.hostNegf (F := Ideal) (φ := .f32) (g : EReal)) ((0 : ℝ) : EReal) = -(g : EReal) := by
    show -(g : EReal) - ((0 : ℝ) : EReal) = _
    rw [← EReal.coe_neg, ← EReal.coe_sub, sub_zero]
  rw [s]
  have c : FloatOps.cmpf (F := Ideal) (φ := .f32) CmpFPredicate.une (-(g : EReal)) (-(g : EReal)) = 0#1 := by
    show BitVec.ofBool (decide (-(g : EReal) ≠ -(g : EReal))) = _
    simp
  rw [c]
  rfl

end Cert.MlstmReferenceIdeal.Value

end
-- ==== Proof.MlstmRef.lean ====
/- The reference's result is the recurrence's heads of the arguments. -/
module

public import proofs.«01_k».proof.Proof.Gen.MlstmReferenceIdeal.Read
public import Idealize.ShloMosaic.Lib.Pipeline.ValueKit
public import Idealize.ShloMosaic.Lib.Pointwise
public import proofs.«01_k».proof.Proof.MlstmRefHead
public import proofs.«01_k».proof.Proof.MlstmRefArgs
public import proofs.«01_k».proof.Proof.MlstmValue

@[expose] public section

set_option maxRecDepth 16384

noncomputable section

open Idealize.ShloMosaic Idealize.ShloMosaic.TcCoe Idealize.SL.Sem
open scoped BigOperators

namespace Cert.MlstmReferenceIdeal.Value

open Cert.Recurrence Cert.MlstmReferenceIdeal Cert.MlstmReferenceIdeal.Gen Cert.MlstmReferenceIdeal.Read

variable (x0 : FVec Ideal S16384x6144 .bf16) (x1 : FVec Ideal S16384x256 .f32) (x2 : FVec Ideal S4x768 .f32)
  (x3 x4 : FVec Ideal S4 .f32) (x5 : FVec Ideal S768 .f32)

/-- On real arguments the reference's result array holds the recurrence's heads. -/
theorem ref_heads (h0 : Finite x0) (h1 : Finite x1) (h2 : Finite x2) (h3 : Finite x3) (h4 : Finite x4) :
    val_main_v123 (F := Ideal) x0 x1 x2 x3 x4 x5 = Cert.MlstmIdeal.Whole.heads x0 x1 x2 x3 x4 x5 := by
  funext y
  idx_vars y
  revert y0 y1; intro r c
  have hr := r.isLt; have hc := c.isLt
  exact res_at x0 x1 x2 x3 x4 x5 ⟨r.val / 2048, by omega⟩ ⟨c.val / 192, by omega⟩ (seqAt x0 x1 x2 x3 x4 (r.val / 2048))
    (fun s => log_at x1 x3 x4 h1 h4 _ s _) (fun s => in_at x1 x3 x4 h1 h3 _ s _)
    (fun t d => query_at x0 x2 h0 h2 _ t _ d) (fun t d => key_at x0 x2 h0 h2 _ t _ d)
    (fun t d ha hb => query_zero x2 _ t _ d (by show c.val / 192 < 4; omega) ha hb)
    (fun t d => vals_at x0 h0 _ t _ d)
    ⟨r.val % 2048, by omega⟩ ⟨c.val % 192, by omega⟩ r c (by show r.val = r.val / 2048 * 2048 + r.val % 2048; omega)
    (by show c.val = 192 * (c.val / 192) + c.val % 192; omega)

end Cert.MlstmReferenceIdeal.Value

end
-- ==== Proof.lean ====
/- The certificate's claim about the spatial gating call, the gated feed-forward call, the output projection, the
   input projection and the recurrence's call of one layer: every frame, and for each call the equality of its result arrays with its reference's, over exact arithmetic.
   Each call's value is proved in a module of its own (`SguValue`, `FfnValue`, `OutValue`, `InValue`, `MlstmEnd` with `MlstmRef`); here the runs are put
   together with them. -/
module

public import proofs.«01_k».proof.Defs
public import proofs.«01_k».proof.Proof.Gen.Sgu
public import proofs.«01_k».proof.Proof.Gen.Sgu.Frame
public import proofs.«01_k».proof.Proof.Gen.SguIdeal
public import proofs.«01_k».proof.Proof.Gen.SguIdeal.Frame
public import proofs.«01_k».proof.Proof.Gen.SguReferenceIdeal
public import proofs.«01_k».proof.Proof.Gen.SguReferenceIdeal.Run
public import proofs.«01_k».proof.Proof.SguValue
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnReferenceIdeal
public import proofs.«01_k».proof.Proof.Gen.FfnReferenceIdeal.Run
public import proofs.«01_k».proof.Proof.FfnValue
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutReferenceIdeal
public import proofs.«01_k».proof.Proof.Gen.OutReferenceIdeal.Run
public import proofs.«01_k».proof.Proof.OutValue
public import proofs.«01_k».proof.Proof.Gen.In
public import proofs.«01_k».proof.Proof.Gen.InIdeal
public import proofs.«01_k».proof.Proof.Gen.InReferenceIdeal
public import proofs.«01_k».proof.Proof.Gen.InReferenceIdeal.Run
public import proofs.«01_k».proof.Proof.InRunBits
public import proofs.«01_k».proof.Proof.InValue
public import proofs.«01_k».proof.Proof.Gen.Mlstm
public import proofs.«01_k».proof.Proof.Gen.MlstmIdeal
public import proofs.«01_k».proof.Proof.Gen.MlstmReferenceIdeal
public import proofs.«01_k».proof.Proof.Gen.MlstmReferenceIdeal.Run
public import proofs.«01_k».proof.Proof.Gen.MlstmReferenceIdeal.Read
public import proofs.«01_k».proof.Proof.MlstmLaunchBits
public import proofs.«01_k».proof.Proof.MlstmEnd
public import proofs.«01_k».proof.Proof.MlstmRef
public import Idealize.ShloMosaic.Adequacy
public import Idealize.ShloMosaic.Init

@[expose] public section

noncomputable section

namespace Cert.Proof

open Idealize.ShloMosaic Idealize.SL.Sem Cert.Sgu

/-- The spatial gating call's reference runs, leaves its arguments as they were and every counter at zero. -/
theorem frameSgu : Cert.quiescent_SguReferenceIdeal (hSguReferenceIdeal := Cert.SguReferenceIdeal.Gen.facts) :=
  fun m ρ _ => (θ_run _ _ _).mono (fun r h => ⟨fun c => (h c).2, sem_eq_zero_of_no_sems (by decide) r.2⟩)
    (Cert.SguReferenceIdeal.Value.run m ρ)

/-- The spatial gating call: from memories agreeing on the arguments its run and its reference's end with equal results. -/
theorem valueSgu : Cert.algebraic_SguIdeal_SguReferenceIdeal
    (hSguIdeal := Cert.SguIdeal.Gen.facts) (hSguReferenceIdeal := Cert.SguReferenceIdeal.Gen.facts) :=
  fun m ρ m' ρ' _ hag => ⟨fun c => Cert.SguIdeal.Whole.refSgu (m (c.tc.loc Cert.SguIdeal.main_arg0)) (m (c.tc.loc Cert.SguIdeal.main_arg1)) (m (c.tc.loc Cert.SguIdeal.main_arg2)) (m (c.tc.loc Cert.SguIdeal.main_arg3)) (m (c.tc.loc Cert.SguIdeal.main_arg4)),
    (θ_run _ _ _).mono (fun r h c => ⟨(h c).1.trans (Cert.SguIdeal.Whole.result m c), (h c).2⟩)
      (Cert.SguIdeal.Value.run_blocks m ρ),
    (θ_run _ _ _).mono (fun r h c => ⟨(h c).1.trans (by
        rw [Cert.SguReferenceIdeal.Read.val_main_v65_eq, (hag c).1, (hag c).2.1, (hag c).2.2.1, (hag c).2.2.2.1, (hag c).2.2.2.2]
        rfl), (h c).2⟩)
      (Cert.SguReferenceIdeal.Value.run m' ρ')⟩

/-- The gated feed-forward call's reference runs, leaves its arguments as they were and every counter at zero. -/
theorem frameFfn : Cert.quiescent_FfnReferenceIdeal (hFfnReferenceIdeal := Cert.FfnReferenceIdeal.Gen.facts) :=
  fun m ρ _ => (θ_run _ _ _).mono (fun r h => ⟨fun c => (h c).2, sem_eq_zero_of_no_sems (by decide) r.2⟩)
    (Cert.FfnReferenceIdeal.Value.run m ρ)

/-- The gated feed-forward call: from memories agreeing on the arguments its run and its reference's end with equal results. -/
theorem valueFfn : Cert.algebraic_FfnIdeal_FfnReferenceIdeal
    (hFfnIdeal := Cert.FfnIdeal.Gen.facts) (hFfnReferenceIdeal := Cert.FfnReferenceIdeal.Gen.facts) :=
  fun m ρ m' ρ' _ hag => ⟨fun c => Cert.FfnIdeal.Whole.refFfn (m (c.tc.loc Cert.FfnIdeal.main_arg0)) (m (c.tc.loc Cert.FfnIdeal.main_arg1)) (m (c.tc.loc Cert.FfnIdeal.main_arg2)) (m (c.tc.loc Cert.FfnIdeal.main_arg3)) (m (c.tc.loc Cert.FfnIdeal.main_arg4)),
    (θ_run _ _ _).mono (fun r h c => ⟨(h c).1.trans (Cert.FfnIdeal.Whole.result m c), (h c).2⟩)
      (Cert.FfnIdeal.Value.run_blocks m ρ),
    (θ_run _ _ _).mono (fun r h c => ⟨(h c).1.trans (by
        rw [Cert.FfnReferenceIdeal.Read.val_main_v40_eq, (hag c).1, (hag c).2.1, (hag c).2.2.1, (hag c).2.2.2.1, (hag c).2.2.2.2]
        rfl), (h c).2⟩)
      (Cert.FfnReferenceIdeal.Value.run m' ρ')⟩

/-- The output projection's reference runs, leaves its arguments as they were and every counter at zero. -/
theorem frameOut : Cert.quiescent_OutReferenceIdeal (hOutReferenceIdeal := Cert.OutReferenceIdeal.Gen.facts) :=
  fun m ρ _ => (θ_run _ _ _).mono (fun r h => ⟨fun c => (h c).2, sem_eq_zero_of_no_sems (by decide) r.2⟩)
    (Cert.OutReferenceIdeal.Value.run m ρ)

/-- The output projection: from memories agreeing on the arguments its run and its reference's end with equal results. -/
theorem valueOut : Cert.algebraic_OutIdeal_OutReferenceIdeal
    (hOutIdeal := Cert.OutIdeal.Gen.facts) (hOutReferenceIdeal := Cert.OutReferenceIdeal.Gen.facts) :=
  fun m ρ m' ρ' _ hag => ⟨fun c => Cert.OutIdeal.Whole.refOut (m (c.tc.loc Cert.OutIdeal.main_arg0)) (m (c.tc.loc Cert.OutIdeal.main_arg1)) (m (c.tc.loc Cert.OutIdeal.main_arg2)) (m (c.tc.loc Cert.OutIdeal.main_arg3)) (m (c.tc.loc Cert.OutIdeal.main_arg4)),
    (θ_run _ _ _).mono (fun r h c => ⟨(h c).1.trans (Cert.OutIdeal.Whole.result m c), (h c).2⟩)
      (Cert.OutIdeal.Value.run_blocks m ρ),
    (θ_run _ _ _).mono (fun r h c => ⟨(h c).1.trans (by
        rw [Cert.OutReferenceIdeal.Read.val_main_v6_eq, (hag c).1, (hag c).2.1, (hag c).2.2.1, (hag c).2.2.2.1, (hag c).2.2.2.2]
        rfl), (h c).2⟩)
      (Cert.OutReferenceIdeal.Value.run m' ρ')⟩

/-- The input projection's reference runs, leaves its arguments as they were and every counter at zero. -/
theorem frameIn : Cert.quiescent_InReferenceIdeal (hInReferenceIdeal := Cert.InReferenceIdeal.Gen.facts) :=
  fun m ρ _ => (θ_run _ _ _).mono (fun r h => ⟨fun c => (h c).2.2, sem_eq_zero_of_no_sems (by decide) r.2⟩)
    (Cert.InReferenceIdeal.Value.run m ρ)

/-- The input projection: from memories agreeing on the arguments its run and its reference's end with both results equal. -/
theorem valueIn : Cert.algebraic_InIdeal_InReferenceIdeal
    (hInIdeal := Cert.InIdeal.Gen.facts) (hInReferenceIdeal := Cert.InReferenceIdeal.Gen.facts) :=
  fun m ρ m' ρ' _ hag => ⟨fun c => Cert.InIdeal.Whole.refChan (m (c.tc.loc Cert.InIdeal.main_arg0)) (m (c.tc.loc Cert.InIdeal.main_arg1)) (m (c.tc.loc Cert.InIdeal.main_arg2)),
    fun c => Cert.InIdeal.Whole.refGates (m (c.tc.loc Cert.InIdeal.main_arg0)) (m (c.tc.loc Cert.InIdeal.main_arg1)) (m (c.tc.loc Cert.InIdeal.main_arg2)),
    Cert.InIdeal.Whole.run_value m ρ,
    (θ_run _ _ _).mono (fun r h c => ⟨(h c).1.trans (by
        rw [Cert.InReferenceIdeal.Read.val_main_v17_eq, (hag c).1, (hag c).2.1, (hag c).2.2]
        rfl), (h c).2.1.trans (by
        rw [Cert.InReferenceIdeal.Read.val_main_v18_eq, (hag c).1, (hag c).2.1, (hag c).2.2]
        rfl), (h c).2.2⟩)
      (Cert.InReferenceIdeal.Value.run m' ρ')⟩

/-- The recurrence's reference runs, leaves its arguments as they were and every counter at zero. -/
theorem frameMlstm : Cert.quiescent_MlstmReferenceIdeal (hMlstmReferenceIdeal := Cert.MlstmReferenceIdeal.Gen.facts) :=
  fun m ρ _ => (θ_run _ _ _).mono (fun r h => ⟨fun c => (h c).2, sem_eq_zero_of_no_sems (by decide) r.2⟩)
    (Cert.MlstmReferenceIdeal.Value.run m ρ)

/-- The two named constants of the recurrence's call. -/
theorem preservesMlstm : Cert.preserves_Mlstm_MlstmIdeal :=
  ⟨IdealRules.named_const.statement Cert.MlstmIdeal.κ "log2e" .f32 0x3FB8AA3B#32 (((Real.log 2)⁻¹ : ℝ) : EReal) rfl,
    IdealRules.named_const.statement Cert.MlstmIdeal.κ "ln2" .f32 0x3F317218#32 ((Real.log 2 : ℝ) : EReal) rfl⟩

/-- The recurrence's call: from memories agreeing on real arguments its run and its reference's end with equal results. -/
theorem valueMlstm : Cert.algebraic_MlstmIdeal_MlstmReferenceIdeal_pre_finite_mlstm
    (hMlstmIdeal := Cert.MlstmIdeal.Gen.facts) (hMlstmReferenceIdeal := Cert.MlstmReferenceIdeal.Gen.facts)
    (hPre_finite_mlstm := Cert.MlstmIdeal.Whole.pre_facts) :=
  fun m ρ m' ρ' hpre hag =>
    have R := fun c => @Cert.MlstmIdeal.Whole.real_args Cert.MlstmIdeal.Whole.pre_facts _ _ _ _ _ _ (hpre c)
    ⟨fun c => Cert.MlstmIdeal.Whole.heads (m (c.tc.loc Cert.MlstmIdeal.main_arg0)) (m (c.tc.loc Cert.MlstmIdeal.main_arg1)) (m (c.tc.loc Cert.MlstmIdeal.main_arg2)) (m (c.tc.loc Cert.MlstmIdeal.main_arg3)) (m (c.tc.loc Cert.MlstmIdeal.main_arg4)) (m (c.tc.loc Cert.MlstmIdeal.main_arg5)),
      Cert.MlstmIdeal.Whole.run_value m ρ (fun c => ⟨(R c).1, (R c).2.1, (R c).2.2.1, (R c).2.2.2.1, (R c).2.2.2.2⟩),
      (θ_run _ _ _).mono (fun r h c => ⟨(h c).1.trans (by
          rw [Cert.MlstmReferenceIdeal.Read.val_main_v123_eq]
          show Cert.MlstmReferenceIdeal.Read.val_main_v123 (F := Ideal) (m' (c.tc.loc Cert.MlstmReferenceIdeal.main_arg0)) (m' (c.tc.loc Cert.MlstmReferenceIdeal.main_arg1)) (m' (c.tc.loc Cert.MlstmReferenceIdeal.main_arg2)) (m' (c.tc.loc Cert.MlstmReferenceIdeal.main_arg3)) (m' (c.tc.loc Cert.MlstmReferenceIdeal.main_arg4)) (m' (c.tc.loc Cert.MlstmReferenceIdeal.main_arg5)) = _
          rw [(hag c).1, (hag c).2.1, (hag c).2.2.1, (hag c).2.2.2.1, (hag c).2.2.2.2.1, (hag c).2.2.2.2.2]
          exact Cert.MlstmReferenceIdeal.Value.ref_heads _ _ _ _ _ _ (R c).1 (R c).2.1 (R c).2.2.1 (R c).2.2.2.1 (R c).2.2.2.2), (h c).2⟩)
        (Cert.MlstmReferenceIdeal.Value.run m' ρ')⟩

/-- Everything the certificate claims. -/
theorem claim : Cert.Claim := ⟨Cert.Sgu.Gen.facts, Cert.SguIdeal.Gen.facts, Cert.SguReferenceIdeal.Gen.facts,
  Cert.Ffn.Gen.facts, Cert.FfnIdeal.Gen.facts, Cert.FfnReferenceIdeal.Gen.facts,
  Cert.Out.Gen.facts, Cert.OutIdeal.Gen.facts, Cert.OutReferenceIdeal.Gen.facts,
  Cert.In.Gen.facts, Cert.InIdeal.Gen.facts, Cert.InReferenceIdeal.Gen.facts,
  Cert.Mlstm.Gen.facts, Cert.MlstmIdeal.Gen.facts, Cert.MlstmReferenceIdeal.Gen.facts, Cert.MlstmIdeal.Whole.pre_facts,
  fun m ρ _ => Cert.Sgu.Gen.frame m ρ,
  fun m ρ _ => Cert.SguIdeal.Gen.frame m ρ,
  frameSgu,
  fun m ρ _ => Cert.Ffn.Gen.frame m ρ,
  fun m ρ _ => Cert.FfnIdeal.Gen.frame m ρ,
  frameFfn,
  fun m ρ _ => Cert.Out.Gen.frame m ρ,
  fun m ρ _ => Cert.OutIdeal.Gen.frame m ρ,
  frameOut,
  fun m ρ _ => Cert.In.Whole.frame m ρ,
  fun m ρ _ => Cert.InIdeal.Whole.frame m ρ,
  frameIn,
  fun m ρ _ => Cert.Mlstm.Whole.frame m ρ,
  fun m ρ _ => Cert.MlstmIdeal.Whole.frame m ρ,
  fun m ρ _ => Cert.MlstmIdeal.Whole.frame m ρ,
  frameMlstm,
  fun m ρ _ => frameMlstm m ρ trivial,
  trivial,
  valueSgu,
  trivial,
  valueFfn,
  trivial,
  valueOut,
  trivial,
  valueIn,
  preservesMlstm,
  valueMlstm⟩

end Cert.Proof

end
